-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  IdealRules.named_const.Statement Cert.Kernel8Ideal.κ "inv_sqrt_d" .f32 0x3D3504F3#32 (((Real.sqrt 512)⁻¹ : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8192x13664 : Shape := ⟨2, ![8192, 13664]⟩
abbrev S16x1024 : Shape := ⟨2, ![16, 1024]⟩
abbrev S1024 : Shape := ⟨1, ![1024]⟩
abbrev S4x512 : Shape := ⟨2, ![4, 512]⟩
abbrev S8192x4096 : Shape := ⟨2, ![8192, 4096]⟩
abbrev S_ : Shape := ⟨0, ![]⟩
abbrev S8192x16 : Shape := ⟨2, ![8192, 16]⟩

class Facts : Prop where
  slices_S8192x13664_S8192x4096_0_0 : S8192x13664.Slices ![0, 0] S8192x4096
  bcast_S_S8192x4096 : S_.BroadcastsInDim S8192x4096 (![] : Fin 0 → Fin S8192x4096.rank)
  reducesTo_S8192x4096_S_d0_1 : S8192x4096.ReducesTo [0, 1] S_
  h_S_ : 0 < S_.numel
  slices_S8192x13664_S8192x16_0_6144 : S8192x13664.Slices ![0, 6144] S8192x16
  bcast_S_S8192x16 : S_.BroadcastsInDim S8192x16 (![] : Fin 0 → Fin S8192x16.rank)
  reducesTo_S8192x16_S_d0_1 : S8192x16.ReducesTo [0, 1] S_
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  main_v20

def fn {F : FTy → Type} [FloatOps F] (main_arg0 : FVec F S8192x13664 .f32) (main_arg1 : FVec F S16x1024 .f32) (main_arg2 : FVec F S1024 .f32) (main_arg3 : FVec F S4x512 .f32) : IVec S_ 1 :=
  let main_v0 : FVec F S8192x4096 .f32 := (extractStridedSlice S8192x4096 ![0, 0] · slices_S8192x13664_S8192x4096_0_0) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S8192x16 .f32 := (extractStridedSlice S8192x16 ![0, 6144] · slices_S8192x13664_S8192x16_0_6144) main_arg0
  let main_v6 : FVec F S8192x16 .f32 := Host.absf main_v5
  let main_cst_0 : FVec F S_ .f32 := constant S_ .f32 0x7F800000#32
  let main_v7 : FVec F S8192x16 .f32 := broadcastInDim S8192x16 ![] bcast_S_S8192x16 main_cst_0
  let main_v8 : IVec S8192x16 1 := cmpf .olt main_v6 main_v7
  let main_c_1 : IVec S_ 1 := constantI S_ 1 1#1
  let main_v9 : IVec S_ 1 := (fun x v => Host.reduce IntOp.andi x v reducesTo_S8192x16_S_d0_1 h_S_) main_v8 main_c_1
  let main_v10 : IVec S_ 1 := andi main_v4 main_v9
  let main_v11 : FVec F S16x1024 .f32 := Host.absf main_arg1
  let main_cst_2 : FVec F S_ .f32 := constant S_ .f32 0x7F800000#32
  let main_v12 : FVec F S16x1024 .f32 := broadcastInDim S16x1024 ![] bcast_S_S16x1024 main_cst_2
  let main_v13 : IVec S16x1024 1 := cmpf .olt main_v11 main_v12
  let main_c_3 : IVec S_ 1 := constantI S_ 1 1#1
  let main_v14 : IVec S_ 1 := (fun x v => Host.reduce IntOp.andi x v reducesTo_S16x1024_S_d0_1 h_S_) main_v13 main_c_3
  let main_v15 : IVec S_ 1 := andi main_v10 main_v14
  let main_v16 : FVec F S1024 .f32 := Host.absf main_arg2
  let main_cst_4 : FVec F S_ .f32 := constant S_ .f32 0x7F800000#32
  fn_part1 (F := F) main_v15 main_v16 main_cst_4
-- ==== Kernel.lean ====
abbrev S8192x13664 : Shape := ⟨2, ![8192, 13664]⟩
abbrev S16x1024 : Shape := ⟨2, ![16, 1024]⟩
abbrev S1024 : Shape := ⟨1, ![1024]⟩
abbrev S4x512 : Shape := ⟨2, ![4, 512]⟩
abbrev S_ : Shape := ⟨0, ![]⟩
abbrev S8192x160 : Shape := ⟨2, ![8192, 160]⟩
abbrev S8192x2048 : Shape := ⟨2, ![8192, 2048]⟩
abbrev S8192x1024 : Shape := ⟨2, ![8192, 1024]⟩
abbrev S8192x128 : Shape := ⟨2, ![8192, 128]⟩
abbrev S8192x64 : Shape := ⟨2, ![8192, 64]⟩
abbrev S8192x16 : Shape := ⟨2, ![8192, 16]⟩
abbrev S8192x13824 : Shape := ⟨2, ![8192, 13824]⟩
abbrev S128x1024 : Shape := ⟨2, ![128, 1024]⟩
abbrev S1 : Shape := ⟨1, ![1]⟩
abbrev S256x256 : Shape := ⟨2, ![256, 256]⟩
abbrev S1792x256 : Shape := ⟨2, ![1792, 256]⟩
abbrev S1x1024 : Shape := ⟨2, ![1, 1024]⟩
abbrev S1x2048 : Shape := ⟨2, ![1, 2048]⟩
abbrev S256x1024 : Shape := ⟨2, ![256, 1024]⟩
abbrev S256x2048 : Shape := ⟨2, ![256, 2048]⟩
abbrev S256x128 : Shape := ⟨2, ![256, 128]⟩
abbrev S4x512x256 : Shape := ⟨3, ![4, 512, 256]⟩
abbrev S128x256 : Shape := ⟨2, ![128, 256]⟩
abbrev S1x256 : Shape := ⟨2, ![1, 256]⟩
abbrev S256x512 : Shape := ⟨2, ![256, 512]⟩
abbrev S1x512x256 : Shape := ⟨3, ![1, 512, 256]⟩
abbrev S512x256 : Shape := ⟨2, ![512, 256]⟩
abbrev S256 : Shape := ⟨1, ![256]⟩
abbrev S256x1 : Shape := ⟨2, ![256, 1]⟩
abbrev S1x512 : Shape := ⟨2, ![1, 512]⟩

abbrev nBuf : Space → Nat
  | .hbm => 105
  | .vmem => 17
  | .smem => 0
  | _ => 0

abbrev bufTy : (tb : Table) → Fin (tcTables nBuf tb) → BufTy
  | .hbm, ⟨0, _⟩ => ⟨S8192x13664, .f32⟩
  | .hbm, ⟨1, _⟩ => ⟨S16x1024, .f32⟩
  | .hbm, ⟨2, _⟩ => ⟨S1024, .f32⟩
  | .hbm, ⟨3, _⟩ => ⟨S4x512, .f32⟩
  | .hbm, ⟨4, _⟩ => ⟨S_, .f32⟩
  | .hbm, ⟨5, _⟩ => ⟨S8192x160, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x128, .f32⟩
  | .hbm, ⟨15, _⟩ => ⟨S8192x128, .f32⟩
  | .hbm, ⟨16, _⟩ => ⟨S8192x64, .f32⟩
  | .hbm, ⟨17, _⟩ => ⟨S8192x16, .f32⟩
  | .hbm, ⟨18, _⟩ => ⟨S8192x16, .f32⟩
  | .hbm, ⟨19, _⟩ => ⟨S8192x13824, .f32⟩
  | .hbm, ⟨20, _⟩ => ⟨S_, .f32⟩
  | .hbm, ⟨21, _⟩ => ⟨S128x1024, .f32⟩
  | .hbm, ⟨22, _⟩ => ⟨S_, .i32⟩
  | .hbm, ⟨23, _⟩ => ⟨S1, .i32⟩
  | .hbm, ⟨24, _⟩ => ⟨S128x1024, .f32⟩
  | .hbm, ⟨25, _⟩ => ⟨S256x256, .i32⟩
  | .hbm, ⟨26, _⟩ => ⟨S256x256, .i32⟩
  | .hbm, ⟨27, _⟩ => ⟨S256x256, .i1⟩
  | .hbm, ⟨28, _⟩ => ⟨S256x256, .f32⟩
  | .hbm, ⟨29, _⟩ => ⟨S256x256, .i1⟩
  | .hbm, ⟨30, _⟩ => ⟨S256x256, .f32⟩
  | .hbm, ⟨31, _⟩ => ⟨S_, .i32⟩
  | .hbm, ⟨32, _⟩ => ⟨S256x256, .i32⟩
  | .hbm, ⟨33, _⟩ => ⟨S256x256, .i32⟩
  | .hbm, ⟨34, _⟩ => ⟨S_, .i32⟩
  | .hbm, ⟨35, _⟩ => ⟨S256x256, .i32⟩
  | .hbm, ⟨36, _⟩ => ⟨S256x256, .i32⟩
  | .hbm, ⟨37, _⟩ => ⟨S_, .i32⟩
  | .hbm, ⟨38, _⟩ => ⟨S256x256, .i32⟩
  | .hbm, ⟨39, _⟩ => ⟨S256x256, .i32⟩
  | .hbm, ⟨40, _⟩ => ⟨S_, .i32⟩
  | .hbm, ⟨41, _⟩ => ⟨S256x256, .i32⟩
  | .hbm, ⟨42, _⟩ => ⟨S256x256, .i32⟩
  | .hbm, ⟨43, _⟩ => ⟨S256x256, .i1⟩
  | .hbm, ⟨44, _⟩ => ⟨S256x256, .f32⟩
  | .hbm, ⟨45, _⟩ => ⟨S256x256, .f32⟩
  | .hbm, ⟨46, _⟩ => ⟨S_, .i32⟩
  | .hbm, ⟨47, _⟩ => ⟨S256x256, .i32⟩
  | .hbm, ⟨48, _⟩ => ⟨S256x256, .i32⟩
  | .hbm, ⟨49, _⟩ => ⟨S_, .i32⟩
  | .hbm, ⟨50, _⟩ => ⟨S256x256, .i32⟩
  | .hbm, ⟨51, _⟩ => ⟨S256x256, .i32⟩
  | .hbm, ⟨52, _⟩ => ⟨S_, .i32⟩
  | .hbm, ⟨53, _⟩ => ⟨S256x256, .i32⟩
  | .hbm, ⟨54, _⟩ => ⟨S256x256, .i32⟩
  | .hbm, ⟨55, _⟩ => ⟨S_, .i32⟩
  | .hbm, ⟨56, _⟩ => ⟨S256x256, .i32⟩
  | .hbm, ⟨57, _⟩ => ⟨S256x256, .i32⟩
  | .hbm, ⟨58, _⟩ => ⟨S256x256, .i1⟩
  | .hbm, ⟨59, _⟩ => ⟨S256x256, .f32⟩
  | .hbm, ⟨60, _⟩ => ⟨S256x256, .f32⟩
  | .hbm, ⟨61, _⟩ => ⟨S_, .i32⟩
  | .hbm, ⟨62, _⟩ => ⟨S256x256, .i32⟩
  | .hbm, ⟨63, _⟩ => ⟨S256x256, .i32⟩
  | .hbm, ⟨64, _⟩ => ⟨S_, .i32⟩
  | .hbm, ⟨65, _⟩ => ⟨S256x256, .i32⟩
  | .hbm, ⟨66, _⟩ => ⟨S256x256, .i32⟩
  | .hbm, ⟨67, _⟩ => ⟨S_, .i32⟩
  | .hbm, ⟨68, _⟩ => ⟨S256x256, .i32⟩
  | .hbm, ⟨69, _⟩ => ⟨S256x256, .i32⟩
  | .hbm, ⟨70, _⟩ => ⟨S_, .i32⟩
  | .hbm, ⟨71, _⟩ => ⟨S256x256, .i32⟩
  | .hbm, ⟨72, _⟩ => ⟨S256x256, .i32⟩
  | .hbm, ⟨73, _⟩ => ⟨S256x256, .i1⟩
  | .hbm, ⟨74, _⟩ => ⟨S256x256, .f32⟩
  | .hbm, ⟨75, _⟩ => ⟨S256x256, .f32⟩
  | .hbm, ⟨76, _⟩ => ⟨S_, .i32⟩
  | .hbm, ⟨77, _⟩ => ⟨S256x256, .i32⟩
  | .hbm, ⟨78, _⟩ => ⟨S256x256, .i32⟩
  | .hbm, ⟨79, _⟩ => ⟨S_, .i32⟩
  | .hbm, ⟨80, _⟩ => ⟨S256x256, .i32⟩
  | .hbm, ⟨81, _⟩ => ⟨S256x256, .i32⟩
  | .hbm, ⟨82, _⟩ => ⟨S_, .i32⟩
  | .hbm, ⟨83, _⟩ => ⟨S256x256, .i32⟩
  | .hbm, ⟨84, _⟩ => ⟨S256x256, .i32⟩
  | .hbm, ⟨85, _⟩ => ⟨S_, .i32⟩
  | .hbm, ⟨86, _⟩ => ⟨S256x256, .i32⟩
  | .hbm, ⟨87, _⟩ => ⟨S256x256, .i32⟩
  | .hbm, ⟨88, _⟩ => ⟨S256x256, .i1⟩
  | .hbm, ⟨89, _⟩ => ⟨S256x256, .f32⟩
  | .hbm, ⟨90, _⟩ => ⟨S256x256, .f32⟩
  | .hbm, ⟨91, _⟩ => ⟨S_, .i32⟩
  | .hbm, ⟨92, _⟩ => ⟨S256x256, .i32⟩
  | .hbm, ⟨93, _⟩ => ⟨S256x256, .i32⟩
  | .hbm, ⟨94, _⟩ => ⟨S_, .i32⟩
  | .hbm, ⟨95, _⟩ => ⟨S256x256, .i32⟩
  | .hbm, ⟨96, _⟩ => ⟨S256x256, .i32⟩
  | .hbm, ⟨97, _⟩ => ⟨S256x256, .i1⟩
  | .hbm, ⟨98, _⟩ => ⟨S256x256, .f32⟩
  | .hbm, ⟨99, _⟩ => ⟨S256x256, .f32⟩
  | .hbm, ⟨100, _⟩ => ⟨S1792x256, .f32⟩
  | .hbm, ⟨101, _⟩ => ⟨S1792x256, .bf16⟩
  | .hbm, ⟨102, _⟩ => ⟨S1x1024, .f32⟩
  | .hbm, ⟨103, _⟩ => ⟨S1x2048, .f32⟩
  | .hbm, ⟨104, _⟩ => ⟨S8192x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x128, .f32⟩
  | .local _ .vmem, ⟨9, _⟩ => ⟨S256x128, .f32⟩
  | .local _ .vmem, ⟨10, _⟩ => ⟨S128x1024, .f32⟩
  | .local _ .vmem, ⟨11, _⟩ => ⟨S1x1024, .f32⟩
  | .local _ .vmem, ⟨12, _⟩ => ⟨S1x2048, .f32⟩
  | .local _ .vmem, ⟨13, _⟩ => ⟨S1792x256, .bf16⟩
  | .local _ .vmem, ⟨14, _⟩ => ⟨S256x2048, .bf16⟩
  | .local _ .vmem, ⟨15, _⟩ => ⟨S256x2048, .bf16⟩
  | .local _ .vmem, ⟨16, _⟩ => ⟨S4x512x256, .f32⟩
  | _, _ => ⟨S8192x13664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_1 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_c_7 : Ref sig .tc := ⟨.hbm, 52, rfl⟩
abbrev main_v39 : Ref sig .tc := ⟨.hbm, 53, rfl⟩
abbrev main_v40 : Ref sig .tc := ⟨.hbm, 54, rfl⟩
abbrev main_c_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_c_10 : Ref sig .tc := ⟨.hbm, 64, rfl⟩
abbrev main_v48 : Ref sig .tc := ⟨.hbm, 65, rfl⟩
abbrev main_v49 : Ref sig .tc := ⟨.hbm, 66, rfl⟩
abbrev main_c_11 : Ref sig .tc := ⟨.hbm, 67, rfl⟩
abbrev main_v50 : Ref sig .tc := ⟨.hbm, 68, rfl⟩
abbrev main_v51 : Ref sig .tc := ⟨.hbm, 69, rfl⟩
abbrev main_c_12 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_13 : Ref sig .tc := ⟨.hbm, 76, rfl⟩
abbrev main_v57 : Ref sig .tc := ⟨.hbm, 77, rfl⟩
abbrev main_v58 : Ref sig .tc := ⟨.hbm, 78, rfl⟩
abbrev main_c_14 : Ref sig .tc := ⟨.hbm, 79, rfl⟩
abbrev main_v59 : Ref sig .tc := ⟨.hbm, 80, rfl⟩
abbrev main_v60 : Ref sig .tc := ⟨.hbm, 81, rfl⟩
abbrev main_c_15 : Ref sig .tc := ⟨.hbm, 82, rfl⟩
abbrev main_v61 : Ref sig .tc := ⟨.hbm, 83, rfl⟩
abbrev main_v62 : Ref sig .tc := ⟨.hbm, 84, rfl⟩
abbrev main_c_16 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_17 : Ref sig .tc := ⟨.hbm, 91, rfl⟩
abbrev main_v68 : Ref sig .tc := ⟨.hbm, 92, rfl⟩
abbrev main_v69 : Ref sig .tc := ⟨.hbm, 93, rfl⟩
abbrev main_c_18 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c106_i32 : BitVec 32 := 106#32
  let c0_i32 : BitVec 32 := 0#32
  ![arg1.toNat, c106_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1792x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8192x13664 : Shape := ⟨2, ![8192, 13664]⟩
abbrev S16x1024 : Shape := ⟨2, ![16, 1024]⟩
abbrev S1024 : Shape := ⟨1, ![1024]⟩
abbrev S4x512 : Shape := ⟨2, ![4, 512]⟩
abbrev S8192x1024 : Shape := ⟨2, ![8192, 1024]⟩
abbrev S1x8192x1024 : Shape := ⟨3, ![1, 8192, 1024]⟩
abbrev S8192x2048 : Shape := ⟨2, ![8192, 2048]⟩
abbrev S1x8192x2048 : Shape := ⟨3, ![1, 8192, 2048]⟩
abbrev S8192x16 : Shape := ⟨2, ![8192, 16]⟩
abbrev S1x8192x16 : Shape := ⟨3, ![1, 8192, 16]⟩
abbrev S1x1x1024 : Shape := ⟨3, ![1, 1, 1024]⟩
abbrev S_ : Shape := ⟨0, ![]⟩
abbrev S1x8192x4x256 : Shape := ⟨4, ![1, 8192, 4, 256]⟩
abbrev S1x8192x4x512 : Shape := ⟨4, ![1, 8192, 4, 512]⟩
abbrev S1x128x64x4x256 : Shape := ⟨5, ![1, 128, 64, 4, 256]⟩
abbrev S128x1x4x64x256 : Shape := ⟨5, ![128, 1, 4, 64, 256]⟩
abbrev S1x128x64x4x512 : Shape := ⟨5, ![1, 128, 64, 4, 512]⟩
abbrev S128x1x4x64x512 : Shape := ⟨5, ![128, 1, 4, 64, 512]⟩
abbrev S64x64 : Shape := ⟨2, ![64, 64]⟩
abbrev S1x1x64x64x1 : Shape := ⟨5, ![1, 1, 64, 64, 1]⟩
abbrev S1x4x256x512 : Shape := ⟨4, ![1, 4, 256, 512]⟩
abbrev S1x1x4x64x256 : Shape := ⟨5, ![1, 1, 4, 64, 256]⟩
abbrev S1x4x64x256 : Shape := ⟨4, ![1, 4, 64, 256]⟩
abbrev S1x1x4x64x512 : Shape := ⟨5, ![1, 1, 4, 64, 512]⟩
abbrev S1x4x64x512 : Shape := ⟨4, ![1, 4, 64, 512]⟩
abbrev S1x4x64x1x256 : Shape := ⟨5, ![1, 4, 64, 1, 256]⟩
abbrev S1x4x1x64x256 : Shape := ⟨5, ![1, 4, 1, 64, 256]⟩
abbrev S1x4x64x64x256 : Shape := ⟨5, ![1, 4, 64, 64, 256]⟩
abbrev S1x4x64x64 : Shape := ⟨4, ![1, 4, 64, 64]⟩
abbrev S1x4x1x256 : Shape := ⟨4, ![1, 4, 1, 256]⟩
abbrev S1x4x256 : Shape := ⟨3, ![1, 4, 256]⟩
abbrev S1x4x256x1 : Shape := ⟨4, ![1, 4, 256, 1]⟩
abbrev S1x8192x4 : Shape := ⟨3, ![1, 8192, 4]⟩
abbrev S1x8192x4x1 : Shape := ⟨4, ![1, 8192, 4, 1]⟩
abbrev S1x1x4x512 : Shape := ⟨4, ![1, 1, 4, 512]⟩

abbrev nBuf : Space → Nat
  | .hbm => 177
  | .vmem => 0
  | .smem => 0
  | _ => 0

abbrev hbmTy0_0 (i : Nat) : BufTy := match i % 128 with
  | 0 => ⟨S8192x13664, .f32⟩
  | 1 => ⟨S16x1024, .f32⟩
  | 2 => ⟨S1024, .f32⟩
  | 3 => ⟨S4x512, .f32⟩
  | 4 => ⟨S8192x1024, .f32⟩
  | 5 => ⟨S1x8192x1024, .f32⟩
  | 6 => ⟨S8192x1024, .f32⟩
  | 7 => ⟨S1x8192x1024, .f32⟩
  | 8 => ⟨S8192x2048, .f32⟩
  | 9 => ⟨S1x8192x2048, .f32⟩
  | 10 => ⟨S8192x16, .f32⟩
  | 11 => ⟨S1x8192x16, .f32⟩
  | 12 => ⟨S1x8192x1024, .f32⟩
  | 13 => ⟨S1x1x1024, .f32⟩
  | 14 => ⟨S1x8192x1024, .f32⟩
  | 15 => ⟨S1x8192x1024, .f32⟩
  | 16 => ⟨S1x8192x1024, .f32⟩
  | 17 => ⟨S_, .f32⟩
  | 18 => ⟨S1x8192x1024, .f32⟩
  | 19 => ⟨S1x8192x1024, .f32⟩
  | 20 => ⟨S1x8192x1024, .f32⟩
  | 21 => ⟨S1x8192x1024, .f32⟩
  | 22 => ⟨S1x8192x1024, .i1⟩
  | 23 => ⟨S1x8192x1024, .f32⟩
  | 24 => ⟨S1x8192x1024, .f32⟩
  | 25 => ⟨S1x8192x1024, .f32⟩
  | 26 => ⟨S1x8192x1024, .f32⟩
  | 27 => ⟨S1x8192x1024, .f32⟩
  | 28 => ⟨S1x8192x1024, .f32⟩
  | 29 => ⟨S1x8192x1024, .f32⟩
  | 30 => ⟨S1x8192x1024, .f32⟩
  | 31 => ⟨S1x8192x1024, .f32⟩
  | 32 => ⟨S_, .f32⟩
  | 33 => ⟨S1x8192x1024, .f32⟩
  | 34 => ⟨S1x8192x1024, .f32⟩
  | 35 => ⟨S1x8192x4x256, .f32⟩
  | 36 => ⟨S1x8192x4x256, .f32⟩
  | 37 => ⟨S1x8192x4x512, .f32⟩
  | 38 => ⟨S1x8192x4x256, .f32⟩
  | 39 => ⟨S_, .f32⟩
  | 40 => ⟨S1x8192x4x256, .f32⟩
  | 41 => ⟨S1x8192x4x256, .f32⟩
  | 42 => ⟨S1x128x64x4x256, .f32⟩
  | 43 => ⟨S128x1x4x64x256, .f32⟩
  | 44 => ⟨S1x128x64x4x256, .f32⟩
  | 45 => ⟨S128x1x4x64x256, .f32⟩
  | 46 => ⟨S1x128x64x4x512, .f32⟩
  | 47 => ⟨S128x1x4x64x512, .f32⟩
  | 48 => ⟨S1x128x64x4x256, .f32⟩
  | 49 => ⟨S128x1x4x64x256, .f32⟩
  | 50 => ⟨S_, .i1⟩
  | 51 => ⟨S64x64, .i1⟩
  | 52 => ⟨S64x64, .i32⟩
  | 53 => ⟨S_, .i32⟩
  | 54 => ⟨S64x64, .i32⟩
  | 55 => ⟨S64x64, .i32⟩
  | 56 => ⟨S64x64, .i32⟩
  | 57 => ⟨S64x64, .i1⟩
  | 58 => ⟨S_, .i1⟩
  | 59 => ⟨S64x64, .i1⟩
  | 60 => ⟨S64x64, .i1⟩
  | 61 => ⟨S1x1x64x64x1, .i1⟩
  | 62 => ⟨S_, .f32⟩
  | 63 => ⟨S1x4x256x512, .f32⟩
  | 64 => ⟨S_, .f32⟩
  | 65 => ⟨S128x1x4x64x512, .f32⟩
  | 66 => ⟨S_, .i32⟩
  | 67 => ⟨S128x1x4x64x256, .f32⟩
  | 68 => ⟨S128x1x4x64x256, .f32⟩
  | 69 => ⟨S128x1x4x64x512, .f32⟩
  | 70 => ⟨S128x1x4x64x256, .f32⟩
  | 71 => ⟨S1x1x64x64x1, .i1⟩
  | 72 => ⟨S_, .i32⟩
  | 73 => ⟨S1x4x256x512, .f32⟩
  | 74 => ⟨S128x1x4x64x512, .f32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S1x1x4x64x256, .f32⟩
  | 82 => ⟨S1x4x64x256, .f32⟩
  | 83 => ⟨S_, .i32⟩
  | 84 => ⟨S_, .i32⟩
  | 85 => ⟨S_, .i32⟩
  | 86 => ⟨S_, .i32⟩
  | 87 => ⟨S1x1x4x64x256, .f32⟩
  | 88 => ⟨S1x4x64x256, .f32⟩
  | 89 => ⟨S_, .i32⟩
  | 90 => ⟨S_, .i32⟩
  | 91 => ⟨S_, .i32⟩
  | 92 => ⟨S_, .i32⟩
  | 93 => ⟨S1x1x4x64x512, .f32⟩
  | 94 => ⟨S1x4x64x512, .f32⟩
  | 95 => ⟨S_, .i32⟩
  | 96 => ⟨S_, .i32⟩
  | 97 => ⟨S_, .i32⟩
  | 98 => ⟨S_, .i32⟩
  | 99 => ⟨S1x1x4x64x256, .f32⟩
  | 100 => ⟨S1x4x64x256, .f32⟩
  | 101 => ⟨S_, .f32⟩
  | 102 => ⟨S_, .f32⟩
  | 103 => ⟨S1x4x64x256, .f32⟩
  | 104 => ⟨S1x4x64x256, .f32⟩
  | 105 => ⟨S1x4x64x256, .f32⟩
  | 106 => ⟨S1x4x64x512, .f32⟩
  | 107 => ⟨S1x4x64x1x256, .f32⟩
  | 108 => ⟨S1x4x1x64x256, .f32⟩
  | 109 => ⟨S1x4x64x64x256, .f32⟩
  | 110 => ⟨S1x4x64x64x256, .f32⟩
  | 111 => ⟨S1x4x64x64x256, .f32⟩
  | 112 => ⟨S_, .f32⟩
  | 113 => ⟨S1x4x64x64x256, .i1⟩
  | 114 => ⟨S1x4x64x64x256, .f32⟩
  | 115 => ⟨S1x4x64x64x256, .f32⟩
  | 116 => ⟨S1x4x64x1x256, .f32⟩
  | 117 => ⟨S1x4x64x64x256, .f32⟩
  | 118 => ⟨S1x4x64x64x256, .f32⟩
  | 119 => ⟨S1x4x64x64x256, .f32⟩
  | 120 => ⟨S1x4x64x64, .f32⟩
  | 121 => ⟨S1x4x64x64, .f32⟩
  | 122 => ⟨S1x4x64x512, .f32⟩
  | 123 => ⟨S1x4x1x256, .f32⟩
  | 124 => ⟨S1x4x256, .f32⟩
  | 125 => ⟨S1x4x256, .f32⟩
  | 126 => ⟨S1x4x256x1, .f32⟩
  | 127 => ⟨S1x4x256x512, .f32⟩
  | _ => ⟨S8192x13664, .f32⟩

abbrev hbmTy0_1 (i : Nat) : BufTy := match i % 128 with
  | 0 => ⟨S1x4x256x512, .f32⟩
  | 1 => ⟨S1x4x64x256, .f32⟩
  | 2 => ⟨S1x4x64x256, .f32⟩
  | 3 => ⟨S1x4x64x256, .f32⟩
  | 4 => ⟨S1x4x64x256, .f32⟩
  | 5 => ⟨S1x4x256x512, .f32⟩
  | 6 => ⟨S1x4x256x512, .f32⟩
  | 7 => ⟨S1x4x64x512, .f32⟩
  | 8 => ⟨S1x1x4x64x512, .f32⟩
  | 9 => ⟨S_, .i32⟩
  | 10 => ⟨S_, .i32⟩
  | 11 => ⟨S_, .i32⟩
  | 12 => ⟨S_, .i32⟩
  | 13 => ⟨S128x1x4x64x512, .f32⟩
  | 14 => ⟨S_, .i32⟩
  | 15 => ⟨S_, .i32⟩
  | 16 => ⟨S1x128x64x4x512, .f32⟩
  | 17 => ⟨S1x8192x4x512, .f32⟩
  | 18 => ⟨S8192x2048, .f32⟩
  | 19 => ⟨S1x8192x2048, .f32⟩
  | 20 => ⟨S1x8192x4x512, .f32⟩
  | 21 => ⟨S_, .f32⟩
  | 22 => ⟨S1x8192x4, .f32⟩
  | 23 => ⟨S1x8192x4x1, .f32⟩
  | 24 => ⟨S_, .f32⟩
  | 25 => ⟨S1x8192x4x1, .f32⟩
  | 26 => ⟨S1x8192x4x1, .f32⟩
  | 27 => ⟨S_, .f32⟩
  | 28 => ⟨S1x8192x4x1, .f32⟩
  | 29 => ⟨S1x8192x4x1, .f32⟩
  | 30 => ⟨S1x8192x4x1, .f32⟩
  | 31 => ⟨S1x8192x4x512, .f32⟩
  | 32 => ⟨S1x8192x4x512, .f32⟩
  | 33 => ⟨S1x1x4x512, .f32⟩
  | 34 => ⟨S1x8192x4x512, .f32⟩
  | 35 => ⟨S1x8192x4x512, .f32⟩
  | 36 => ⟨S1x8192x2048, .f32⟩
  | 37 => ⟨S1x8192x2048, .f32⟩
  | 38 => ⟨S1x8192x2048, .f32⟩
  | 39 => ⟨S_, .f32⟩
  | 40 => ⟨S1x8192x2048, .f32⟩
  | 41 => ⟨S1x8192x2048, .f32⟩
  | 42 => ⟨S_, .f32⟩
  | 43 => ⟨S1x8192x2048, .f32⟩
  | 44 => ⟨S1x8192x2048, .f32⟩
  | 45 => ⟨S1x8192x2048, .f32⟩
  | 46 => ⟨S1x8192x2048, .f32⟩
  | 47 => ⟨S8192x2048, .f32⟩
  | 48 => ⟨S8192x2048, .bf16⟩
  | _ => ⟨S8192x13664, .f32⟩

abbrev hbmTy (i : Nat) : BufTy := match i / 128 with
  | 0 => hbmTy0_0 i
  | 1 => hbmTy0_1 i
  | _ => ⟨S8192x13664, .f32⟩

abbrev bufTy : (tb : Table) → Fin (tcTables nBuf tb) → BufTy
  | .hbm, ⟨i, _⟩ => hbmTy i
  | _, _ => ⟨S8192x13664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_1 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_c : Ref sig .tc := ⟨.hbm, 50, rfl⟩
abbrev main_v43 : Ref sig .tc := ⟨.hbm, 51, rfl⟩
abbrev main_call0_v0 : Ref sig .tc := ⟨.hbm, 52, rfl⟩
abbrev main_call0_c : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_c_0 : Ref sig .tc := ⟨.hbm, 58, rfl⟩
abbrev main_call0_v5 : Ref sig .tc := ⟨.hbm, 59, rfl⟩
abbrev main_v44 : Ref sig .tc := ⟨.hbm, 60, rfl⟩
abbrev main_v45 : Ref sig .tc := ⟨.hbm, 61, rfl⟩
abbrev main_cst_2 : Ref sig .tc := ⟨.hbm, 62, rfl⟩
abbrev main_v46 : Ref sig .tc := ⟨.hbm, 63, rfl⟩
abbrev main_cst_3 : Ref sig .tc := ⟨.hbm, 64, rfl⟩
abbrev main_v47 : Ref sig .tc := ⟨.hbm, 65, rfl⟩
abbrev main_c_4 : Ref sig .tc := ⟨.hbm, 66, rfl⟩
abbrev main_v48_0 : Ref sig .tc := ⟨.hbm, 67, rfl⟩
abbrev main_v48_1 : Ref sig .tc := ⟨.hbm, 68, rfl⟩
abbrev main_v48_2 : Ref sig .tc := ⟨.hbm, 69, rfl⟩
abbrev main_v48_3 : Ref sig .tc := ⟨.hbm, 70, rfl⟩
abbrev main_v48_4 : Ref sig .tc := ⟨.hbm, 71, rfl⟩
abbrev main_v48_5 : Ref sig .tc := ⟨.hbm, 72, rfl⟩
abbrev main_v48_6 : Ref sig .tc := ⟨.hbm, 73, rfl⟩
abbrev main_v48_7 : Ref sig .tc := ⟨.hbm, 74, rfl⟩
abbrev main_while0c_c_15 : Ref sig .tc := ⟨.hbm, 75, rfl⟩
abbrev main_while0c_v71 : Ref sig .tc := ⟨.hbm, 76, rfl⟩
abbrev main_while0b_call1_c : Ref sig .tc := ⟨.hbm, 77, rfl⟩
abbrev main_while0b_call1_c_0 : Ref sig .tc := ⟨.hbm, 78, rfl⟩
abbrev main_while0b_call1_c_1 : Ref sig .tc := ⟨.hbm, 79, rfl⟩
abbrev main_while0b_call1_c_2 : Ref sig .tc := ⟨.hbm, 80, rfl⟩
abbrev main_while0b_call1_v0 : Ref sig .tc := ⟨.hbm, 81, rfl⟩
abbrev main_while0b_v71 : Ref sig .tc := ⟨.hbm, 82, rfl⟩
abbrev main_while0b_call2_c : Ref sig .tc := ⟨.hbm, 83, rfl⟩
abbrev main_while0b_call2_c_0 : Ref sig .tc := ⟨.hbm, 84, rfl⟩
abbrev main_while0b_call2_c_1 : Ref sig .tc := ⟨.hbm, 85, rfl⟩
abbrev main_while0b_call2_c_2 : Ref sig .tc := ⟨.hbm, 86, rfl⟩
abbrev main_while0b_call2_v0 : Ref sig .tc := ⟨.hbm, 87, rfl⟩
abbrev main_while0b_v72 : Ref sig .tc := ⟨.hbm, 88, rfl⟩
abbrev main_while0b_call3_c : Ref sig .tc := ⟨.hbm, 89, rfl⟩
abbrev main_while0b_call3_c_0 : Ref sig .tc := ⟨.hbm, 90, rfl⟩
abbrev main_while0b_call3_c_1 : Ref sig .tc := ⟨.hbm, 91, rfl⟩
abbrev main_while0b_call3_c_2 : Ref sig .tc := ⟨.hbm, 92, rfl⟩
abbrev main_while0b_call3_v0 : Ref sig .tc := ⟨.hbm, 93, rfl⟩
abbrev main_while0b_v73 : Ref sig .tc := ⟨.hbm, 94, rfl⟩
abbrev main_while0b_call4_c : Ref sig .tc := ⟨.hbm, 95, rfl⟩
abbrev main_while0b_call4_c_0 : Ref sig .tc := ⟨.hbm, 96, rfl⟩
abbrev main_while0b_call4_c_1 : Ref sig .tc := ⟨.hbm, 97, rfl⟩
abbrev main_while0b_call4_c_2 : Ref sig .tc := ⟨.hbm, 98, rfl⟩
abbrev main_while0b_call4_v0 : Ref sig .tc := ⟨.hbm, 99, rfl⟩
abbrev main_while0b_v74 : Ref sig .tc := ⟨.hbm, 100, rfl⟩
abbrev main_while0b_call5_call0_cst : Ref sig .tc := ⟨.hbm, 101, rfl⟩
abbrev main_while0b_call5_call0_v0 : Ref sig .tc := ⟨.hbm, 102, rfl⟩
abbrev main_while0b_v75 : Ref sig .tc := ⟨.hbm, 103, rfl⟩
abbrev main_while0b_v76 : Ref sig .tc := ⟨.hbm, 104, rfl⟩
abbrev main_while0b_v77 : Ref sig .tc := ⟨.hbm, 105, rfl⟩
abbrev main_while0b_v78 : Ref sig .tc := ⟨.hbm, 106, rfl⟩
abbrev main_while0b_v79 : Ref sig .tc := ⟨.hbm, 107, rfl⟩
abbrev main_while0b_v80 : Ref sig .tc := ⟨.hbm, 108, rfl⟩
abbrev main_while0b_v81 : Ref sig .tc := ⟨.hbm, 109, rfl⟩
abbrev main_while0b_v82 : Ref sig .tc := ⟨.hbm, 110, rfl⟩
abbrev main_while0b_v83 : Ref sig .tc := ⟨.hbm, 111, rfl⟩
abbrev main_while0b_cst_15 : Ref sig .tc := ⟨.hbm, 112, rfl⟩
abbrev main_while0b_call6_v0 : Ref sig .tc := ⟨.hbm, 113, rfl⟩
abbrev main_while0b_call6_v1 : Ref sig .tc := ⟨.hbm, 114, rfl⟩
abbrev main_while0b_v84 : Ref sig .tc := ⟨.hbm, 115, rfl⟩
abbrev main_while0b_v85 : Ref sig .tc := ⟨.hbm, 116, rfl⟩
abbrev main_while0b_v86 : Ref sig .tc := ⟨.hbm, 117, rfl⟩
abbrev main_while0b_v87 : Ref sig .tc := ⟨.hbm, 118, rfl⟩
abbrev main_while0b_v88 : Ref sig .tc := ⟨.hbm, 119, rfl⟩
abbrev main_while0b_v89 : Ref sig .tc := ⟨.hbm, 120, rfl⟩
abbrev main_while0b_v90 : Ref sig .tc := ⟨.hbm, 121, rfl⟩
abbrev main_while0b_v91 : Ref sig .tc := ⟨.hbm, 122, rfl⟩
abbrev main_while0b_v92 : Ref sig .tc := ⟨.hbm, 123, rfl⟩
abbrev main_while0b_v93 : Ref sig .tc := ⟨.hbm, 124, rfl⟩
abbrev main_while0b_v94 : Ref sig .tc := ⟨.hbm, 125, rfl⟩
abbrev main_while0b_v95 : Ref sig .tc := ⟨.hbm, 126, rfl⟩
abbrev main_while0b_v96 : Ref sig .tc := ⟨.hbm, 127, rfl⟩
abbrev main_while0b_v97 : Ref sig .tc := ⟨.hbm, 128, rfl⟩
abbrev main_while0b_v98 : Ref sig .tc := ⟨.hbm, 129, rfl⟩
abbrev main_while0b_v99 : Ref sig .tc := ⟨.hbm, 130, rfl⟩
abbrev main_while0b_v100 : Ref sig .tc := ⟨.hbm, 131, rfl⟩
abbrev main_while0b_v101 : Ref sig .tc := ⟨.hbm, 132, rfl⟩
abbrev main_while0b_v102 : Ref sig .tc := ⟨.hbm, 133, rfl⟩
abbrev main_while0b_v103 : Ref sig .tc := ⟨.hbm, 134, rfl⟩
abbrev main_while0b_v104 : Ref sig .tc := ⟨.hbm, 135, rfl⟩
abbrev main_while0b_call7_v0 : Ref sig .tc := ⟨.hbm, 136, rfl⟩
abbrev main_while0b_call7_c : Ref sig .tc := ⟨.hbm, 137, rfl⟩
abbrev main_while0b_call7_c_0 : Ref sig .tc := ⟨.hbm, 138, rfl⟩
abbrev main_while0b_call7_c_1 : Ref sig .tc := ⟨.hbm, 139, rfl⟩
abbrev main_while0b_call7_c_2 : Ref sig .tc := ⟨.hbm, 140, rfl⟩
abbrev main_while0b_v105 : Ref sig .tc := ⟨.hbm, 141, rfl⟩
abbrev main_while0b_c_16 : Ref sig .tc := ⟨.hbm, 142, rfl⟩
abbrev main_while0b_v106 : Ref sig .tc := ⟨.hbm, 143, rfl⟩
abbrev main_v49 : Ref sig .tc := ⟨.hbm, 144, rfl⟩
abbrev main_v50 : Ref sig .tc := ⟨.hbm, 145, rfl⟩
abbrev main_v51 : Ref sig .tc := ⟨.hbm, 146, rfl⟩
abbrev main_v52 : Ref sig .tc := ⟨.hbm, 147, rfl⟩
abbrev main_v53 : Ref sig .tc := ⟨.hbm, 148, rfl⟩
abbrev main_cst_5 : Ref sig .tc := ⟨.hbm, 149, rfl⟩
abbrev main_v54 : Ref sig .tc := ⟨.hbm, 150, rfl⟩
abbrev main_v55 : Ref sig .tc := ⟨.hbm, 151, rfl⟩
abbrev main_cst_6 : Ref sig .tc := ⟨.hbm, 152, rfl⟩
abbrev main_v56 : Ref sig .tc := ⟨.hbm, 153, rfl⟩
abbrev main_v57 : Ref sig .tc := ⟨.hbm, 154, rfl⟩
abbrev main_cst_7 : Ref sig .tc := ⟨.hbm, 155, rfl⟩
abbrev main_v58 : Ref sig .tc := ⟨.hbm, 156, rfl⟩
abbrev main_v59 : Ref sig .tc := ⟨.hbm, 157, rfl⟩
abbrev main_v60 : Ref sig .tc := ⟨.hbm, 158, rfl⟩
abbrev main_v61 : Ref sig .tc := ⟨.hbm, 159, rfl⟩
abbrev main_v62 : Ref sig .tc := ⟨.hbm, 160, rfl⟩
abbrev main_v63 : Ref sig .tc := ⟨.hbm, 161, rfl⟩
abbrev main_v64 : Ref sig .tc := ⟨.hbm, 162, rfl⟩
abbrev main_v65 : Ref sig .tc := ⟨.hbm, 163, rfl⟩
abbrev main_v66 : Ref sig .tc := ⟨.hbm, 164, rfl⟩
abbrev main_call8_v0 : Ref sig .tc := ⟨.hbm, 165, rfl⟩
abbrev main_call8_v1 : Ref sig .tc := ⟨.hbm, 166, rfl⟩
abbrev main_call8_cst : Ref sig .tc := ⟨.hbm, 167, rfl⟩
abbrev main_call8_v2 : Ref sig .tc := ⟨.hbm, 168, rfl⟩
abbrev main_call8_v3 : Ref sig .tc := ⟨.hbm, 169, rfl⟩
abbrev main_call8_cst_0 : Ref sig .tc := ⟨.hbm, 170, rfl⟩
abbrev main_call8_v4 : Ref sig .tc := ⟨.hbm, 171, rfl⟩
abbrev main_call8_v5 : Ref sig .tc := ⟨.hbm, 172, rfl⟩
abbrev main_v67 : Ref sig .tc := ⟨.hbm, 173, rfl⟩
abbrev main_v68 : Ref sig .tc := ⟨.hbm, 174, rfl⟩
abbrev main_v69 : Ref sig .tc := ⟨.hbm, 175, rfl⟩
abbrev main_v70 : Ref sig .tc := ⟨.hbm, 176, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S8192x2048 : Shape := ⟨2, ![8192, 2048]⟩
abbrev S2048 : Shape := ⟨1, ![2048]⟩
abbrev S2048x13664 : Shape := ⟨2, ![2048, 13664]⟩
abbrev S_ : Shape := ⟨0, ![]⟩
abbrev S2048x160 : Shape := ⟨2, ![2048, 160]⟩
abbrev S2048x2048 : Shape := ⟨2, ![2048, 2048]⟩
abbrev S2048x1024 : Shape := ⟨2, ![2048, 1024]⟩
abbrev S2048x128 : Shape := ⟨2, ![2048, 128]⟩
abbrev S2048x64 : Shape := ⟨2, ![2048, 64]⟩
abbrev S2048x16 : Shape := ⟨2, ![2048, 16]⟩
abbrev S2048x13824 : Shape := ⟨2, ![2048, 13824]⟩
abbrev S1x2048 : Shape := ⟨2, ![1, 2048]⟩
abbrev S8192x13824 : Shape := ⟨2, ![8192, 13824]⟩
abbrev S1024x2048 : Shape := ⟨2, ![1024, 2048]⟩
abbrev S2048x1536 : Shape := ⟨2, ![2048, 1536]⟩
abbrev S1024x1536 : Shape := ⟨2, ![1024, 1536]⟩
abbrev S1024 : Shape := ⟨1, ![1024]⟩
abbrev S1024x1 : Shape := ⟨2, ![1024, 1]⟩

abbrev nBuf : Space → Nat
  | .hbm => 22
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x13664, .f32⟩
  | .hbm, ⟨3, _⟩ => ⟨S_, .f32⟩
  | .hbm, ⟨4, _⟩ => ⟨S2048x160, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x128, .f32⟩
  | .hbm, ⟨14, _⟩ => ⟨S2048x128, .f32⟩
  | .hbm, ⟨15, _⟩ => ⟨S2048x64, .f32⟩
  | .hbm, ⟨16, _⟩ => ⟨S2048x16, .f32⟩
  | .hbm, ⟨17, _⟩ => ⟨S2048x16, .f32⟩
  | .hbm, ⟨18, _⟩ => ⟨S2048x13824, .f32⟩
  | .hbm, ⟨19, _⟩ => ⟨S2048x13824, .bf16⟩
  | .hbm, ⟨20, _⟩ => ⟨S1x2048, .f32⟩
  | .hbm, ⟨21, _⟩ => ⟨S8192x13824, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S1024x1536, .f32⟩
  | .local _ .vmem, ⟨6, _⟩ => ⟨S1024x1536, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x2048 : Shape := ⟨2, ![8192, 2048]⟩
abbrev S2048 : Shape := ⟨1, ![2048]⟩
abbrev S2048x13664 : Shape := ⟨2, ![2048, 13664]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x13664 : Shape := ⟨2, ![8192, 13664]⟩
abbrev S8192x1024 : Shape := ⟨2, ![8192, 1024]⟩
abbrev S8192x16 : Shape := ⟨2, ![8192, 16]⟩
abbrev S8192x128 : Shape := ⟨2, ![8192, 128]⟩
abbrev S8192x64 : Shape := ⟨2, ![8192, 64]⟩
abbrev S8192x160 : Shape := ⟨2, ![8192, 160]⟩
abbrev S8192x13824 : Shape := ⟨2, ![8192, 13824]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x13664, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x13664, .f32⟩
  | .hbm, ⟨20, _⟩ => ⟨S8192x1024, .f32⟩
  | .hbm, ⟨21, _⟩ => ⟨S8192x1024, .f32⟩
  | .hbm, ⟨22, _⟩ => ⟨S8192x2048, .f32⟩
  | .hbm, ⟨23, _⟩ => ⟨S8192x2048, .f32⟩
  | .hbm, ⟨24, _⟩ => ⟨S8192x16, .f32⟩
  | .hbm, ⟨25, _⟩ => ⟨S8192x2048, .f32⟩
  | .hbm, ⟨26, _⟩ => ⟨S8192x128, .f32⟩
  | .hbm, ⟨27, _⟩ => ⟨S8192x128, .f32⟩
  | .hbm, ⟨28, _⟩ => ⟨S8192x1024, .f32⟩
  | .hbm, ⟨29, _⟩ => ⟨S8192x64, .f32⟩
  | .hbm, ⟨30, _⟩ => ⟨S8192x16, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x160, .f32⟩
  | .hbm, ⟨35, _⟩ => ⟨S8192x13824, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel3.lean ====
abbrev S8192x2048 : Shape := ⟨2, ![8192, 2048]⟩
abbrev S2048x2048 : Shape := ⟨2, ![2048, 2048]⟩
abbrev S8192x13664 : Shape := ⟨2, ![8192, 13664]⟩
abbrev S_ : Shape := ⟨0, ![]⟩
abbrev S8192x160 : Shape := ⟨2, ![8192, 160]⟩
abbrev S8192x1024 : Shape := ⟨2, ![8192, 1024]⟩
abbrev S8192x128 : Shape := ⟨2, ![8192, 128]⟩
abbrev S8192x64 : Shape := ⟨2, ![8192, 64]⟩
abbrev S8192x16 : Shape := ⟨2, ![8192, 16]⟩
abbrev S8192x13824 : Shape := ⟨2, ![8192, 13824]⟩
abbrev S512x2048 : Shape := ⟨2, ![512, 2048]⟩

abbrev nBuf : Space → Nat
  | .hbm => 24
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .hbm, ⟨3, _⟩ => ⟨S2048x2048, .f32⟩
  | .hbm, ⟨4, _⟩ => ⟨S8192x13664, .f32⟩
  | .hbm, ⟨5, _⟩ => ⟨S2048x2048, .bf16⟩
  | .hbm, ⟨6, _⟩ => ⟨S2048x2048, .bf16⟩
  | .hbm, ⟨7, _⟩ => ⟨S_, .f32⟩
  | .hbm, ⟨8, _⟩ => ⟨S8192x160, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x128, .f32⟩
  | .hbm, ⟨18, _⟩ => ⟨S8192x128, .f32⟩
  | .hbm, ⟨19, _⟩ => ⟨S8192x64, .f32⟩
  | .hbm, ⟨20, _⟩ => ⟨S8192x16, .f32⟩
  | .hbm, ⟨21, _⟩ => ⟨S8192x16, .f32⟩
  | .hbm, ⟨22, _⟩ => ⟨S8192x13824, .f32⟩
  | .hbm, ⟨23, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8192x2048 : Shape := ⟨2, ![8192, 2048]⟩
abbrev S2048x2048 : Shape := ⟨2, ![2048, 2048]⟩
abbrev S8192x13664 : Shape := ⟨2, ![8192, 13664]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .hbm, ⟨3, _⟩ => ⟨S2048x2048, .f32⟩
  | .hbm, ⟨4, _⟩ => ⟨S8192x13664, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel4.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S8192x2048 : Shape := ⟨2, ![8192, 2048]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S2048x2048, .bf16⟩
  | .hbm, ⟨4, _⟩ => ⟨S1x2048, .f32⟩
  | .hbm, ⟨5, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x2048 : Shape := ⟨2, ![8192, 2048]⟩
abbrev S2048 : Shape := ⟨1, ![2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S8192x2048 : Shape := ⟨2, ![8192, 2048]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S2048x2048, .bf16⟩
  | .hbm, ⟨4, _⟩ => ⟨S1x2048, .f32⟩
  | .hbm, ⟨5, _⟩ => ⟨S8192x2048, .bf16⟩
  | .hbm, ⟨6, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S8192x2048 : Shape := ⟨2, ![8192, 2048]⟩
abbrev S2048 : Shape := ⟨1, ![2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | .hbm, ⟨21, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel7.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S1x2048, .f32⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel8.lean ====
abbrev S8192x2048 : Shape := ⟨2, ![8192, 2048]⟩
abbrev S256x2048 : Shape := ⟨2, ![256, 2048]⟩
abbrev S256x4096 : Shape := ⟨2, ![256, 4096]⟩
abbrev S512x2048 : Shape := ⟨2, ![512, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S256x2048, .bf16⟩
  | .hbm, ⟨3, _⟩ => ⟨S256x4096, .bf16⟩
  | .hbm, ⟨4, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S256x4096, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel8Ideal.lean ====
variable {F : FTy → Type} [FloatOps F] [Named F]
def κ : String → Option EReal := fun
  | "inv_sqrt_d" => some (((Real.sqrt 512)⁻¹ : ℝ) : EReal)
  | _ => none
-- ==== Reference8Ideal.lean ====
abbrev S8192x2048 : Shape := ⟨2, ![8192, 2048]⟩
abbrev S256x2048 : Shape := ⟨2, ![256, 2048]⟩
abbrev S1x8192x4x512 : Shape := ⟨4, ![1, 8192, 4, 512]⟩
abbrev S1x256x4x512 : Shape := ⟨4, ![1, 256, 4, 512]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x512x8192 : Shape := ⟨4, ![1, 4, 512, 8192]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S256x2048, .bf16⟩
  | .hbm, ⟨3, _⟩ => ⟨S8192x2048, .f32⟩
  | .hbm, ⟨4, _⟩ => ⟨S1x8192x4x512, .f32⟩
  | .hbm, ⟨5, _⟩ => ⟨S256x2048, .f32⟩
  | .hbm, ⟨6, _⟩ => ⟨S1x256x4x512, .f32⟩
  | .hbm, ⟨7, _⟩ => ⟨S256x2048, .f32⟩
  | .hbm, ⟨8, _⟩ => ⟨S1x256x4x512, .f32⟩
  | .hbm, ⟨9, _⟩ => ⟨S1x4x8192x256, .f32⟩
  | .hbm, ⟨10, _⟩ => ⟨S_, .f32⟩
  | .hbm, ⟨11, _⟩ => ⟨S_, .f32⟩
  | .hbm, ⟨12, _⟩ => ⟨S1x4x8192x256, .f32⟩
  | .hbm, ⟨13, _⟩ => ⟨S1x4x8192x256, .f32⟩
  | .hbm, ⟨14, _⟩ => ⟨S_, .f32⟩
  | .hbm, ⟨15, _⟩ => ⟨S1x4x8192, .f32⟩
  | .hbm, ⟨16, _⟩ => ⟨S_, .f32⟩
  | .hbm, ⟨17, _⟩ => ⟨S1x4x8192, .f32⟩
  | .hbm, ⟨18, _⟩ => ⟨S1x4x8192, .f32⟩
  | .hbm, ⟨19, _⟩ => ⟨S1x4x8192x1, .f32⟩
  | .hbm, ⟨20, _⟩ => ⟨S1x4x8192x256, .f32⟩
  | .hbm, ⟨21, _⟩ => ⟨S1x4x8192x256, .f32⟩
  | .hbm, ⟨22, _⟩ => ⟨S1x4x8192x256, .f32⟩
  | .hbm, ⟨23, _⟩ => ⟨S_, .f32⟩
  | .hbm, ⟨24, _⟩ => ⟨S1x4x8192, .f32⟩
  | .hbm, ⟨25, _⟩ => ⟨S1x4x8192x1, .f32⟩
  | .hbm, ⟨26, _⟩ => ⟨S1x4x8192x256, .f32⟩
  | .hbm, ⟨27, _⟩ => ⟨S1x4x8192x256, .f32⟩
  | .hbm, ⟨28, _⟩ => ⟨S1x4x512x8192, .f32⟩
  | .hbm, ⟨29, _⟩ => ⟨S1x8192x4x512, .f32⟩
  | .hbm, ⟨30, _⟩ => ⟨S8192x2048, .f32⟩
  | .hbm, ⟨31, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel9.lean ====
abbrev S256x2048 : Shape := ⟨2, ![256, 2048]⟩
abbrev S2048 : Shape := ⟨1, ![2048]⟩
abbrev S2048x2048 : Shape := ⟨2, ![2048, 2048]⟩
abbrev S2048x4096 : Shape := ⟨2, ![2048, 4096]⟩
abbrev S1x2048 : Shape := ⟨2, ![1, 2048]⟩
abbrev S256x4096 : Shape := ⟨2, ![256, 4096]⟩
abbrev S2048x512 : Shape := ⟨2, ![2048, 512]⟩
abbrev S256x512 : Shape := ⟨2, ![256, 512]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x4096, .f32⟩
  | .hbm, ⟨5, _⟩ => ⟨S2048x4096, .bf16⟩
  | .hbm, ⟨6, _⟩ => ⟨S1x2048, .f32⟩
  | .hbm, ⟨7, _⟩ => ⟨S256x4096, .bf16⟩
  | .local _ .vmem, ⟨0, _⟩ => ⟨S256x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S256x512, .bf16⟩
  | .local _ .vmem, ⟨5, _⟩ => ⟨S256x512, .bf16⟩
  | .local _ .vmem, ⟨6, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S256x2048 : Shape := ⟨2, ![256, 2048]⟩
abbrev S2048 : Shape := ⟨1, ![2048]⟩
abbrev S2048x2048 : Shape := ⟨2, ![2048, 2048]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S256x4096 : Shape := ⟨2, ![256, 4096]⟩

abbrev nBuf : Space → Nat
  | .hbm => 24
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S1x2048, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S256x4096, .f32⟩
  | .hbm, ⟨23, _⟩ => ⟨S256x4096, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.GlaMath.lean ====
/- The real arithmetic of the gated linear attention: one recurrence read chunk by chunk, for a chunk of any length. -/
module

public import Idealize.ShloMosaic.Lib.Pointwise

@[expose] public section

noncomputable section

namespace Cert.GlaMath

open Finset

/-- The logarithm of the decay from after position `a` up to position `b`. -/
def P (g : ℕ → ℝ) (a b : ℕ) : ℝ := ∑ u ∈ Ico a b, g u

/-- The decay gathered in a chunk that starts at `n0`, up to and with its position `i`. -/
def pre (g : ℕ → ℝ) (n0 i : ℕ) : ℝ := ∑ u ∈ range (i + 1), g (n0 + u)

/-- One entry of the carried state after `n` positions. -/
def S (g k v : ℕ → ℝ) (n : ℕ) : ℝ := ∑ s ∈ range n, Real.exp (P g (s + 1) n) * (k s * v s)

/-- One entry of the output at position `t`. -/
def O (q k g : ℕ → Fin 256 → ℝ) (v : ℕ → ℝ) (t : ℕ) : ℝ :=
  ∑ s ∈ range (t + 1), (∑ d, q t d * k s d * Real.exp (P (fun u => g u d) (s + 1) (t + 1))) * v s

/-- A stretch of decay ending inside the chunk is the stretch up to the chunk and the part inside it. -/
theorem P_split (g : ℕ → ℝ) (a n0 i : ℕ) (h : a ≤ n0) : P g a (n0 + (i + 1)) = P g a n0 + pre g n0 i := by
  unfold P pre
  rw [← Finset.sum_Ico_consecutive g h (Nat.le_add_right n0 (i + 1)), Finset.sum_Ico_eq_sum_range (fun u => g u) n0 (n0 + (i + 1)),
    Nat.add_sub_cancel_left]

/-- A stretch of decay inside the chunk is a difference of two gathered decays. -/
theorem P_inside (g : ℕ → ℝ) (n0 i j : ℕ) (h : j ≤ i) :
    P g (n0 + j + 1) (n0 + (i + 1)) = pre g n0 i - pre g n0 j := by
  have h1 := P_split g n0 n0 i le_rfl
  have h2 := P_split g n0 n0 j le_rfl
  have h3 : P g n0 (n0 + (j + 1)) + P g (n0 + (j + 1)) (n0 + (i + 1)) = P g n0 (n0 + (i + 1)) := by
    unfold P
    exact Finset.sum_Ico_consecutive g (by omega) (by omega)
  have h4 : P g n0 n0 = 0 := by simp [P]
  have h5 : n0 + j + 1 = n0 + (j + 1) := by omega
  rw [h5]; linarith

/-- The state after a chunk, from the state before it. -/
theorem state_step (g k v : ℕ → ℝ) (n0 C : ℕ) :
    Real.exp (pre g n0 C) * S g k v n0
      + ∑ i ∈ range (C + 1), (k (n0 + i) * Real.exp (pre g n0 C - pre g n0 i)) * v (n0 + i) = S g k v (n0 + (C + 1)) := by
  have h1 : Real.exp (pre g n0 C) * S g k v n0 = ∑ s ∈ range n0, Real.exp (P g (s + 1) (n0 + (C + 1))) * (k s * v s) := by
    unfold S
    rw [Finset.mul_sum]
    refine Finset.sum_congr rfl fun s hs => ?_
    rw [P_split g (s + 1) n0 C (by have := Finset.mem_range.mp hs; omega), Real.exp_add]; ring
  have h2 : ∑ i ∈ range (C + 1), (k (n0 + i) * Real.exp (pre g n0 C - pre g n0 i)) * v (n0 + i)
      = ∑ i ∈ range (C + 1), Real.exp (P g (n0 + i + 1) (n0 + (C + 1))) * (k (n0 + i) * v (n0 + i)) := by
    refine Finset.sum_congr rfl fun i hi => ?_
    rw [P_inside g n0 C i (by have := Finset.mem_range.mp hi; omega)]; ring
  rw [h1, h2]
  exact (Finset.sum_range_add (fun s => Real.exp (P g (s + 1) (n0 + (C + 1))) * (k s * v s)) n0 (C + 1)).symm

/-- The output at a position of a chunk, from the state before the chunk and the pairs inside it. -/
theorem out_step (q k g : ℕ → Fin 256 → ℝ) (v : ℕ → ℝ) (n0 C i : ℕ) (hi : i < C) :
    (∑ d, (q (n0 + i) d * Real.exp (pre (fun u => g u d) n0 i)) * S (fun u => g u d) (fun u => k u d) v n0)
      + ∑ j ∈ range C, (if j ≤ i then ∑ d, q (n0 + i) d * k (n0 + j) d * Real.exp (pre (fun u => g u d) n0 i - pre (fun u => g u d) n0 j) else 0) * v (n0 + j)
      = O q k g v (n0 + i) := by
  unfold O S
  rw [show n0 + i + 1 = n0 + (i + 1) by omega, Finset.sum_range_add]
  congr 1
  · simp only [Finset.mul_sum, Finset.sum_mul]
    rw [Finset.sum_comm]
    refine Finset.sum_congr rfl fun s hs => Finset.sum_congr rfl fun d _ => ?_
    rw [P_split _ (s + 1) n0 i (by have := Finset.mem_range.mp hs; omega), Real.exp_add]; ring
  · rw [← Finset.sum_subset (Finset.range_mono (show i + 1 ≤ C by omega))]
    · refine Finset.sum_congr rfl fun j hj => ?_
      have hj' : j ≤ i := by have := Finset.mem_range.mp hj; omega
      rw [if_pos hj']
      congr 1
      refine Finset.sum_congr rfl fun d _ => ?_
      rw [P_inside _ n0 i j hj']
    · intro j _ hj
      have hj' : ¬ j ≤ i := by simp only [Finset.mem_range] at hj; omega
      rw [if_neg hj', zero_mul]

/-- Gathered decay never grows. -/
theorem pre_anti (g : ℕ → ℝ) (hg : ∀ u, g u ≤ 0) (n0 i j : ℕ) (h : j ≤ i) : pre g n0 i ≤ pre g n0 j := by
  have h1 := P_inside g n0 i j h
  have h2 : P g (n0 + j + 1) (n0 + (i + 1)) ≤ 0 := Finset.sum_nonpos fun u _ => hg u
  linarith

/-- The gate: the logarithm of a logistic, never positive, in the form the kernel computes it. -/
def gate (z : ℝ) : ℝ := (min z 0 - Real.log (1 + Real.exp (0 - |z|))) * (1 / 16)

/-- The log decay of a gate is never positive. -/
theorem gate_nonpos (z : ℝ) : gate z ≤ 0 := by
  unfold gate
  have h1 : min z 0 ≤ 0 := min_le_right _ _
  have h2 : 0 ≤ Real.log (1 + Real.exp (0 - |z|)) := Real.log_nonneg (by have := Real.exp_pos (0 - |z|); linarith)
  nlinarith

/-- The form the reference computes it in: minus the soft maximum of `-z` and zero, over sixteen. -/
theorem gate_eq (z : ℝ) : -(max (-z) 0 + Real.log (1 + Real.exp (-|(-z)|))) / 16 = gate z := by
  unfold gate
  have h : max (-z) 0 = - min z 0 := by
    rcases le_total z 0 with hz | hz
    · rw [min_eq_left hz, max_eq_left (by linarith)]
    · rw [min_eq_right hz, max_eq_right (by linarith)]; simp
  rw [h, abs_neg, zero_sub]; ring

/-! ## The pairs of a chunk of 256 positions, cut into levels -/

/-- Level `m`: the pairs in one block of `2m` positions whose row lies in the upper half and whose column lies in the lower. -/
def lvl (m i j : ℕ) : Bool := i / (2 * m) == j / (2 * m) && i / m % 2 == 1 && j / m % 2 == 0

/-- The last level: the pairs of one block of 16, the column not after the row. -/
def dia (i j : ℕ) : Bool := i / 16 == j / 16 && decide (j ≤ i)

/-- The position a level's decay is measured from. -/
def anc (m i : ℕ) : ℕ := i / (2 * m) * (2 * m) + (m - 1)

/-- A level of blocks of 16 or more sees only which block of 16 a position is in. -/
theorem lvl_block (m i j : ℕ) : lvl (16 * m) i j = lvl m (i / 16) (j / 16) := by
  unfold lvl
  rw [Nat.div_div_eq_div_mul, Nat.div_div_eq_div_mul, Nat.div_div_eq_div_mul, Nat.div_div_eq_div_mul,
    show 16 * (2 * m) = 2 * (16 * m) by ring]

/-- The levels above the last count a pair of different blocks once when the row's block comes later. -/
theorem levels_block : ∀ a b : Fin 16,
    (lvl 8 a b).toNat + (lvl 4 a b).toNat + (lvl 2 a b).toNat + (lvl 1 a b).toNat = if b.val < a.val then 1 else 0 := by
  decide +kernel

/-- The five levels count every pair at or before the row once and no other pair. -/
theorem levels (i j : Fin 256) :
    (lvl 128 i j).toNat + (lvl 64 i j).toNat + (lvl 32 i j).toNat + (lvl 16 i j).toNat + (dia i j).toNat
      = if j.val ≤ i.val then 1 else 0 := by
  have h := levels_block ⟨i.val / 16, by omega⟩ ⟨j.val / 16, by omega⟩
  have e8 := lvl_block 8 i j
  have e4 := lvl_block 4 i j
  have e2 := lvl_block 2 i j
  have e1 := lvl_block 1 i j
  norm_num at e8 e4 e2 e1
  rw [e8, e4, e2, e1]
  dsimp only at h
  rw [h]
  unfold dia
  rcases Nat.lt_trichotomy (j.val / 16) (i.val / 16) with hb | hb | hb
  · rw [if_pos hb, if_pos (by omega)]
    have : (i.val / 16 == j.val / 16) = false := by simp; omega
    rw [this]; rfl
  · rw [if_neg (by omega), hb]
    by_cases hj : j.val ≤ i.val
    · simp [hj]
    · simp [hj]
  · rw [if_neg (by omega), if_neg (by omega)]
    have : (i.val / 16 == j.val / 16) = false := by simp; omega
    rw [this]; rfl

/-- One level's summand: where the pair is in the level, the cut decays give the whole decay between the two positions. -/
theorem level_term (g q k : ℕ → Fin 256 → ℝ) (hg : ∀ u d, g u d ≤ 0) (n0 m : ℕ) (hm : 0 < m) (i j : ℕ) :
    (if lvl m i j = true then
      ∑ d, (q (n0 + i) d * Real.exp (min (pre (fun u => g u d) n0 i - pre (fun u => g u d) n0 (anc m i)) 0))
        * (k (n0 + j) d * Real.exp (min (0 - (pre (fun u => g u d) n0 j - pre (fun u => g u d) n0 (anc m j))) 0)) else 0)
      = ((lvl m i j).toNat : ℝ) * ∑ d, q (n0 + i) d * k (n0 + j) d * Real.exp (pre (fun u => g u d) n0 i - pre (fun u => g u d) n0 j) := by
  by_cases h : lvl m i j = true
  · rw [if_pos h, h]
    simp only [Bool.toNat_true, Nat.cast_one, one_mul]
    unfold lvl at h
    simp only [Bool.and_eq_true, beq_iff_eq] at h
    obtain ⟨⟨h1, h2⟩, h3⟩ := h
    have hi1 := Nat.div_add_mod i (2 * m)
    have hj1 := Nat.div_add_mod j (2 * m)
    have ei : i / m = 2 * (i / (2 * m)) + 1 := by
      have := Nat.div_div_eq_div_mul i m 2
      rw [mul_comm m 2] at this; omega
    have ej : j / m = 2 * (j / (2 * m)) := by
      have := Nat.div_div_eq_div_mul j m 2
      rw [mul_comm m 2] at this; omega
    have li : m * (i / m) ≤ i := Nat.mul_div_le i m
    have lj : j < m * (j / m) + m := by have := Nat.lt_mul_div_succ j hm; rw [mul_add, mul_one] at this; exact this
    have ha : anc m j = anc m i := by unfold anc; rw [h1]
    have a1 : anc m i ≤ i := by
      unfold anc
      rw [ei, mul_add] at li
      have : m * (2 * (i / (2 * m))) = i / (2 * m) * (2 * m) := by ring
      omega
    have a2 : j ≤ anc m i := by
      unfold anc
      rw [h1, ]
      rw [ej] at lj
      have : m * (2 * (j / (2 * m))) = j / (2 * m) * (2 * m) := by ring
      omega
    refine Finset.sum_congr rfl fun d _ => ?_
    rw [ha, min_eq_left (by have := pre_anti (fun u => g u d) (fun u => hg u d) n0 i (anc m i) a1; linarith),
      min_eq_left (by have := pre_anti (fun u => g u d) (fun u => hg u d) n0 (anc m i) j a2; linarith)]
    rw [show pre (fun u => g u d) n0 i - pre (fun u => g u d) n0 j
      = (pre (fun u => g u d) n0 i - pre (fun u => g u d) n0 (anc m i)) + (0 - (pre (fun u => g u d) n0 j - pre (fun u => g u d) n0 (anc m i))) by ring, Real.exp_add]
    ring
  · rw [if_neg h]
    have : lvl m i j = false := by simpa using h
    rw [this]; simp

/-- The last level's summand. -/
theorem dia_term (g q k : ℕ → Fin 256 → ℝ) (n0 : ℕ) (i j : ℕ) :
    (if dia i j = true then
      ∑ d, (q (n0 + i) d * Real.exp (pre (fun u => g u d) n0 i - pre (fun u => g u d) n0 (i / 16 * 16)))
        * (k (n0 + j) d * Real.exp (0 - (pre (fun u => g u d) n0 j - pre (fun u => g u d) n0 (j / 16 * 16)))) else 0)
      = ((dia i j).toNat : ℝ) * ∑ d, q (n0 + i) d * k (n0 + j) d * Real.exp (pre (fun u => g u d) n0 i - pre (fun u => g u d) n0 j) := by
  by_cases h : dia i j = true
  · rw [if_pos h, h]
    simp only [Bool.toNat_true, Nat.cast_one, one_mul]
    unfold dia at h
    simp only [Bool.and_eq_true, beq_iff_eq] at h
    refine Finset.sum_congr rfl fun d _ => ?_
    rw [← h.1, show pre (fun u => g u d) n0 i - pre (fun u => g u d) n0 j
      = (pre (fun u => g u d) n0 i - pre (fun u => g u d) n0 (i / 16 * 16)) + (0 - (pre (fun u => g u d) n0 j - pre (fun u => g u d) n0 (i / 16 * 16))) by ring, Real.exp_add]
    ring
  · rw [if_neg h]
    have : dia i j = false := by simpa using h
    rw [this]; simp

/-- The five levels together: the whole causal pair. -/
theorem pair_sum (x : ℝ) (i j : Fin 256) :
    (((lvl 128 i j).toNat : ℝ) * x + ((lvl 64 i j).toNat : ℝ) * x + ((lvl 32 i j).toNat : ℝ) * x + ((lvl 16 i j).toNat : ℝ) * x)
      + ((dia i j).toNat : ℝ) * x = if j.val ≤ i.val then x else 0 := by
  have h := levels i j
  have h' : (((lvl 128 i j).toNat : ℝ) + ((lvl 64 i j).toNat : ℝ) + ((lvl 32 i j).toNat : ℝ) + ((lvl 16 i j).toNat : ℝ)) + ((dia i j).toNat : ℝ)
      = if j.val ≤ i.val then 1 else 0 := by
    have := congrArg (Nat.cast : ℕ → ℝ) h
    push_cast at this
    exact this
  have e : (((lvl 128 i j).toNat : ℝ) * x + ((lvl 64 i j).toNat : ℝ) * x + ((lvl 32 i j).toNat : ℝ) * x + ((lvl 16 i j).toNat : ℝ) * x)
      + ((dia i j).toNat : ℝ) * x = ((((lvl 128 i j).toNat : ℝ) + ((lvl 64 i j).toNat : ℝ) + ((lvl 32 i j).toNat : ℝ) + ((lvl 16 i j).toNat : ℝ)) + ((dia i j).toNat : ℝ)) * x := by ring
  rw [e, h']
  split_ifs <;> simp

end Cert.GlaMath

end
-- ==== Proof.GlaHead.lean ====
module

public import proofs.«01_k».proof.Proof.Gen.KernelIdeal.Skeleton
public import proofs.«01_k».proof.Proof.GlaMath
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
namespace Cert.GlaHead
open Cert.KernelIdeal Cert.KernelIdeal.Gen Cert.GlaMath

/-! One head of the kernel's body, named once for all four heads. -/

/-- The gate's pre-activation: the three products of the split operands, plus the bias row. -/
def zF (v3 : Vec Ideal S256x128 .f32) (w : Vec Ideal S128x256 .f32) (gb : Vec Ideal S1x256 .f32) : FVec Ideal S256x256 .f32 :=
  addf (addf (addf
    (matmul dot_S256x128_S128x256_S256x256_1_0_0_1_n_n none (k0_pay4 v3) (k0_pay15 w) (constant S256x256 .f32 0x00000000#32))
    (matmul dot_S256x128_S128x256_S256x256_1_0_0_1_n_n none (k0_pay4 v3)
      (truncf .bf16 (subf (k0_pay14 w) (extf .f32 (k0_pay15 w) bitsLt_bf16_f32)) bitsLt_bf16_f32) (constant S256x256 .f32 0x00000000#32)))
    (matmul dot_S256x128_S128x256_S256x256_1_0_0_1_n_n none (k0_pay5 v3) (k0_pay15 w) (constant S256x256 .f32 0x00000000#32)))
    (broadcastTo S256x256 (shapeCast S1x256 gb shapeCasts_S1x256_S1x256) broadcasts_S1x256_S256x256)

/-- The log decay from the pre-activation. -/
def laF (z : FVec Ideal S256x256 .f32) : FVec Ideal S256x256 .f32 :=
  mulf (subf (minimumf z (broadcast S256x256 (Scalar.ofBits .f32 0x00000000#32)))
    (log1p (exp (subf (broadcast S256x256 (Scalar.ofBits .f32 0x00000000#32)) (absf z)))))
    (broadcast S256x256 (Scalar.ofBits .f32 0x3D800000#32))

/-- All the block's partial sums of the log decay: the 0/±1 matrices times the three pieces of the log decay. -/
def decF (v9 : Vec Ideal S1792x256 .bf16) (la : FVec Ideal S256x256 .f32) : FVec Ideal S1792x256 .f32 :=
  addf (addf
    (matmul dot_S1792x256_S256x256_S1792x256_1_0_0_1_n_n none (k0_pay6 v9) (truncf .bf16 la bitsLt_bf16_f32) (constant S1792x256 .f32 0x00000000#32))
    (matmul dot_S1792x256_S256x256_S1792x256_1_0_0_1_n_n none (k0_pay6 v9)
      (truncf .bf16 (subf la (extf .f32 (truncf .bf16 la bitsLt_bf16_f32) bitsLt_bf16_f32)) bitsLt_bf16_f32) (constant S1792x256 .f32 0x00000000#32)))
    (matmul dot_S1792x256_S256x256_S1792x256_1_0_0_1_n_n none (k0_pay6 v9)
      (truncf .bf16 (subf (subf la (extf .f32 (truncf .bf16 la bitsLt_bf16_f32) bitsLt_bf16_f32))
        (extf .f32 (truncf .bf16 (subf la (extf .f32 (truncf .bf16 la bitsLt_bf16_f32) bitsLt_bf16_f32)) bitsLt_bf16_f32) bitsLt_bf16_f32)) bitsLt_bf16_f32)
      (constant S1792x256 .f32 0x00000000#32))

/-- One masked level of the scores, from the level's rows `d` of the partial sums. -/
def lvF (mask : IVec S256x256 1) (d q k : FVec Ideal S256x256 .f32) : FVec Ideal S256x256 .f32 :=
  select mask (matmul dot_S256x256_S256x256_S256x256_1_1_0_0_n_n none
    (truncf .bf16 (mulf q (exp (minimumf d (broadcast S256x256 (Scalar.ofBits .f32 0x00000000#32))))) bitsLt_bf16_f32)
    (truncf .bf16 (mulf k (exp (minimumf (subf (broadcast S256x256 (Scalar.ofBits .f32 0x00000000#32)) d) (broadcast S256x256 (Scalar.ofBits .f32 0x00000000#32))))) bitsLt_bf16_f32)
    (constant S256x256 .f32 0x00000000#32)) (broadcast S256x256 (Scalar.ofBits .f32 0x00000000#32))

/-- The scores inside the 16-row blocks on the diagonal. -/
def dgF (mask : IVec S256x256 1) (d q k : FVec Ideal S256x256 .f32) : FVec Ideal S256x256 .f32 :=
  select mask (matmul dot_S256x256_S256x256_S256x256_1_1_0_0_n_n none
    (truncf .bf16 (mulf q (exp d)) bitsLt_bf16_f32)
    (truncf .bf16 (mulf k (exp (subf (broadcast S256x256 (Scalar.ofBits .f32 0x00000000#32)) d))) bitsLt_bf16_f32)
    (constant S256x256 .f32 0x00000000#32)) (broadcast S256x256 (Scalar.ofBits .f32 0x00000000#32))

/-- The row numbers. -/
abbrev i0F : IVec S256x256 32 := iota .tc S256x256 32 [0] iota_S256x256_d0_w32
/-- The column numbers. -/
abbrev i1F : IVec S256x256 32 := iota .tc S256x256 32 [1] iota_S256x256_d1_w32

/-- The block's scores: four levels and the diagonal blocks. -/
def atF (dec : FVec Ideal S1792x256 .f32) (q k : FVec Ideal S256x256 .f32) : FVec Ideal S256x256 .f32 :=
  addf (addf (addf (addf (addf (broadcast S256x256 (Scalar.ofBits .f32 0x00000000#32))
    (lvF k0_pay7 (extractStridedSlice S256x256 ![512, 0] dec slices_S1792x256_o512_0_S256x256) q k))
    (lvF (k0_pay10 k0_pay8 k0_pay9) (extractStridedSlice S256x256 ![768, 0] dec slices_S1792x256_o768_0_S256x256) q k))
    (lvF (k0_pay11 i0F i1F) (extractStridedSlice S256x256 ![1024, 0] dec slices_S1792x256_o1024_0_S256x256) q k))
    (lvF (k0_pay12 i0F i1F) (extractStridedSlice S256x256 ![1280, 0] dec slices_S1792x256_o1280_0_S256x256) q k))
    (dgF (k0_pay13 i0F i1F) (extractStridedSlice S256x256 ![1536, 0] dec slices_S1792x256_o1536_0_S256x256) q k)

/-- The head's decay sums from the block's tail columns, the gate weights and bias, and the matrices. -/
def hdF (v3 : Vec Ideal S256x128 .f32) (v9 : Vec Ideal S1792x256 .bf16) (w : Vec Ideal S128x256 .f32) (gb : Vec Ideal S1x256 .f32) :
    FVec Ideal S1792x256 .f32 := decF v9 (laF (zF v3 w gb))

/-- The carried state's product with the scaled queries. -/
def inF (dec : FVec Ideal S1792x256 .f32) (q : FVec Ideal S256x256 .f32) (st : Vec Ideal S1x512x256 .f32) : FVec Ideal S256x512 .f32 :=
  k0_pay29 (extractStridedSlice S256x256 ![0, 0] dec slices_S1792x256_o0_0_S256x256) q st

/-- The head's output before the normalisation. -/
def oF (dec : FVec Ideal S1792x256 .f32) (q k : FVec Ideal S256x256 .f32) (v : Vec Ideal S256x512 .f32) (st : Vec Ideal S1x512x256 .f32) :
    FVec Ideal S256x512 .f32 :=
  addf (inF dec q st) (matmul dot_S256x256_S256x512_S256x512_1_0_0_1_n_n none (truncf .bf16 (atF dec q k) bitsLt_bf16_f32) (k0_pay22 v)
    (constant S256x512 .f32 0x00000000#32))

/-- The normalisation by head, its gain, and the output gate. -/
def tlF (o : FVec Ideal S256x512 .f32) (hg : Vec Ideal S1x512 .f32) (r : Vec Ideal S256x512 .f32) : FVec Ideal S256x512 .bf16 :=
  truncf .bf16 (mulf (mulf (mulf o (broadcastTo S256x512 (rsqrt (addf (divf (shapeCast S256x1
      (multiReduction .add [1] S256 (mulf o o) 0x00000000#32 reduces_S256x512_S256 (.inl rfl) rfl) shapeCasts_S256_S256x1)
      (broadcast S256x1 (Scalar.ofBits .f32 0x44000000#32))) (broadcast S256x1 (Scalar.ofBits .f32 0x358637BD#32)))) broadcasts_S256x1_S256x512))
    (broadcastTo S256x512 (shapeCast S1x512 hg shapeCasts_S1x512_S1x512) broadcasts_S1x512_S256x512))
    (mulf (shapeCast S256x512 r shapeCasts_S256x512_S256x512) (logistic (shapeCast S256x512 r shapeCasts_S256x512_S256x512)))) bitsLt_bf16_f32

/-- What the body stores of the result for one head. -/
def outF (v3 : Vec Ideal S256x128 .f32) (v9 : Vec Ideal S1792x256 .bf16) (w : Vec Ideal S128x256 .f32) (gb : Vec Ideal S1x256 .f32)
    (q k : Vec Ideal S256x256 .f32) (v : Vec Ideal S256x512 .f32) (st : Vec Ideal S1x512x256 .f32) (hg : Vec Ideal S1x512 .f32)
    (r : Vec Ideal S256x512 .f32) : FVec Ideal S256x512 .bf16 :=
  tlF (oF (hdF v3 v9 w gb) (k0_pay19 q) (k0_pay20 k) v st) hg r

/-- What the body stores of the carried state for one head. -/
def stF (v3 : Vec Ideal S256x128 .f32) (v9 : Vec Ideal S1792x256 .bf16) (w : Vec Ideal S128x256 .f32) (gb : Vec Ideal S1x256 .f32)
    (k : Vec Ideal S256x256 .f32) (v : Vec Ideal S256x512 .f32) (st : Vec Ideal S1x512x256 .f32) : FVec Ideal S1x512x256 .f32 :=
  k0_pay30 (extractStridedSlice S256x256 ![0, 0] (hdF v3 v9 w gb) slices_S1792x256_o0_0_S256x256)
    (extractStridedSlice S256x256 ![256, 0] (hdF v3 v9 w gb) slices_S1792x256_o256_0_S256x256) (k0_pay20 k) (k0_pay21 v) (k0_pay28 st)

section Heads
variable (v3 : Vec Ideal S256x128 .f32) (v9 : Vec Ideal S1792x256 .bf16) (w : Vec Ideal S128x256 .f32) (gb : Vec Ideal S1x256 .f32)
    (q k : Vec Ideal S256x256 .f32) (v : Vec Ideal S256x512 .f32) (st : Vec Ideal S1x512x256 .f32) (hg : Vec Ideal S1x512 .f32)
    (r : Vec Ideal S256x512 .f32)

/-- Head 3 stores the result as named. -/
theorem out3_eq : k0_pay1 (k0_pay89 (k0_pay86 (k0_pay75 (k0_pay4 v3) (k0_pay5 v3) (k0_pay6 v9) (k0_pay72 w) (k0_pay73 w) gb) (k0_pay77 q) st) (k0_pay87 (k0_pay11 i0F i1F) (k0_pay12 i0F i1F) (k0_pay13 i0F i1F) (k0_pay74 (k0_pay4 v3) (k0_pay5 v3) (k0_pay6 v9) (k0_pay72 w) (k0_pay73 w) gb) (k0_pay77 q) (k0_pay78 k) (k0_pay80 v) (k0_pay81 k0_pay7 (k0_pay10 k0_pay8 k0_pay9) (k0_pay74 (k0_pay4 v3) (k0_pay5 v3) (k0_pay6 v9) (k0_pay72 w) (k0_pay73 w) gb) (k0_pay77 q) (k0_pay78 k)) (k0_pay83 (k0_pay74 (k0_pay4 v3) (k0_pay5 v3) (k0_pay6 v9) (k0_pay72 w) (k0_pay73 w) gb) (k0_pay77 q)) (k0_pay84 (k0_pay74 (k0_pay4 v3) (k0_pay5 v3) (k0_pay6 v9) (k0_pay72 w) (k0_pay73 w) gb))) hg) (k0_pay90 r) = outF v3 v9 w gb q k v st hg r := rfl

/-- Head 2 stores the result as named. -/
theorem out2_eq : k0_pay70 (k0_pay61 (k0_pay60 v)) (k0_pay67 (k0_pay56 (k0_pay4 v3) (k0_pay5 v3) (k0_pay6 v9) (k0_pay53 w) (k0_pay54 w) gb) (k0_pay58 q) st) (k0_pay68 (k0_pay11 i0F i1F) (k0_pay12 i0F i1F) (k0_pay13 i0F i1F) (k0_pay55 (k0_pay4 v3) (k0_pay5 v3) (k0_pay6 v9) (k0_pay53 w) (k0_pay54 w) gb) (k0_pay58 q) (k0_pay59 k) (k0_pay62 k0_pay7 (k0_pay10 k0_pay8 k0_pay9) (k0_pay55 (k0_pay4 v3) (k0_pay5 v3) (k0_pay6 v9) (k0_pay53 w) (k0_pay54 w) gb) (k0_pay58 q) (k0_pay59 k)) (k0_pay64 (k0_pay55 (k0_pay4 v3) (k0_pay5 v3) (k0_pay6 v9) (k0_pay53 w) (k0_pay54 w) gb) (k0_pay58 q)) (k0_pay65 (k0_pay55 (k0_pay4 v3) (k0_pay5 v3) (k0_pay6 v9) (k0_pay53 w) (k0_pay54 w) gb))) (constant S256x512 .f32 0x00000000#32) hg r = outF v3 v9 w gb q k v st hg r := rfl

/-- Head 1 stores the result as named. -/
theorem out1_eq : k0_pay51 (k0_pay41 v) (k0_pay48 (k0_pay36 (k0_pay4 v3) (k0_pay5 v3) (k0_pay6 v9) (k0_pay32 w) (k0_pay33 w) (k0_pay34 w) gb) (k0_pay38 q) st) (k0_pay49 (k0_pay11 i0F i1F) (k0_pay12 i0F i1F) (k0_pay13 i0F i1F) (k0_pay35 (k0_pay4 v3) (k0_pay5 v3) (k0_pay6 v9) (k0_pay32 w) (k0_pay33 w) (k0_pay34 w) gb) (k0_pay38 q) (k0_pay39 k) (k0_pay42 k0_pay7 (k0_pay10 k0_pay8 k0_pay9) (k0_pay35 (k0_pay4 v3) (k0_pay5 v3) (k0_pay6 v9) (k0_pay32 w) (k0_pay33 w) (k0_pay34 w) gb) (k0_pay38 q) (k0_pay39 k)) (k0_pay44 (k0_pay35 (k0_pay4 v3) (k0_pay5 v3) (k0_pay6 v9) (k0_pay32 w) (k0_pay33 w) (k0_pay34 w) gb) (k0_pay38 q)) (k0_pay45 (k0_pay35 (k0_pay4 v3) (k0_pay5 v3) (k0_pay6 v9) (k0_pay32 w) (k0_pay33 w) (k0_pay34 w) gb)) k0_pay46) hg r = outF v3 v9 w gb q k v st hg r := rfl

/-- Head 0 stores the result as named. -/
theorem out0_eq : k0_pay31 (k0_pay22 v) (k0_pay27 (k0_pay11 i0F i1F) (k0_pay12 i0F i1F) (k0_pay13 i0F i1F) (k0_pay16 (k0_pay4 v3) (k0_pay5 v3) (k0_pay6 v9) (k0_pay14 w) (k0_pay15 w) gb) (k0_pay19 q) (k0_pay20 k) (k0_pay23 k0_pay7 (k0_pay10 k0_pay8 k0_pay9) (k0_pay16 (k0_pay4 v3) (k0_pay5 v3) (k0_pay6 v9) (k0_pay14 w) (k0_pay15 w) gb) (k0_pay19 q) (k0_pay20 k)) (k0_pay25 (k0_pay16 (k0_pay4 v3) (k0_pay5 v3) (k0_pay6 v9) (k0_pay14 w) (k0_pay15 w) gb) (k0_pay19 q)) (k0_pay26 (k0_pay16 (k0_pay4 v3) (k0_pay5 v3) (k0_pay6 v9) (k0_pay14 w) (k0_pay15 w) gb)) (Scalar.ofBits .f32 0x00000000#32)) (k0_pay29 (k0_pay17 (k0_pay4 v3) (k0_pay5 v3) (k0_pay6 v9) (k0_pay14 w) (k0_pay15 w) gb) (k0_pay19 q) st) hg r = outF v3 v9 w gb q k v st hg r := rfl

/-- Head 3 stores the carried state as named. -/
theorem st3_eq : k0_pay88 (k0_pay75 (k0_pay4 v3) (k0_pay5 v3) (k0_pay6 v9) (k0_pay72 w) (k0_pay73 w) gb) (k0_pay76 (k0_pay4 v3) (k0_pay5 v3) (k0_pay6 v9) (k0_pay72 w) (k0_pay73 w) gb) (k0_pay78 k) (k0_pay79 v) (k0_pay85 st) = stF v3 v9 w gb k v st := rfl

/-- Head 2 stores the carried state as named. -/
theorem st2_eq : k0_pay69 (k0_pay56 (k0_pay4 v3) (k0_pay5 v3) (k0_pay6 v9) (k0_pay53 w) (k0_pay54 w) gb) (k0_pay57 (k0_pay4 v3) (k0_pay5 v3) (k0_pay6 v9) (k0_pay53 w) (k0_pay54 w) gb) (k0_pay59 k) (k0_pay60 v) (k0_pay66 st) = stF v3 v9 w gb k v st := rfl

/-- Head 1 stores the carried state as named. -/
theorem st1_eq : k0_pay50 (k0_pay36 (k0_pay4 v3) (k0_pay5 v3) (k0_pay6 v9) (k0_pay32 w) (k0_pay33 w) (k0_pay34 w) gb) (k0_pay37 (k0_pay4 v3) (k0_pay5 v3) (k0_pay6 v9) (k0_pay32 w) (k0_pay33 w) (k0_pay34 w) gb) (k0_pay39 k) (k0_pay40 v) (k0_pay47 st) = stF v3 v9 w gb k v st := rfl

/-- Head 0 stores the carried state as named. -/
theorem st0_eq : k0_pay30 (k0_pay17 (k0_pay4 v3) (k0_pay5 v3) (k0_pay6 v9) (k0_pay14 w) (k0_pay15 w) gb) (k0_pay18 (k0_pay4 v3) (k0_pay5 v3) (k0_pay6 v9) (k0_pay14 w) (k0_pay15 w) gb) (k0_pay20 k) (k0_pay21 v) (k0_pay28 st) = stF v3 v9 w gb k v st := rfl

end Heads

/-! Each piece read at an index, at real entries. -/

/-- A sum of reals read as extended reals is the real sum. -/
theorem coe_sum {ι : Type} (s : Finset ι) (f : ι → ℝ) : (∑ i ∈ s, (f i : EReal)) = ((∑ i ∈ s, f i : ℝ) : EReal) :=
  (map_sum (⟨⟨fun x : ℝ => (x : EReal), EReal.coe_zero⟩, EReal.coe_add⟩ : ℝ →+ EReal) f s).symm

/-- The smaller of two reals, read as an extended real. -/
theorem coe_min' (x y : ℝ) : min (x : EReal) (y : EReal) = ((min x y : ℝ) : EReal) := (EReal.coe_strictMono.monotone.map_min).symm

/-- The larger of two reals, read as an extended real. -/
theorem coe_max' (x y : ℝ) : max (x : EReal) (y : EReal) = ((max x y : ℝ) : EReal) := (EReal.coe_strictMono.monotone.map_max).symm

/-- A real minus itself. -/
theorem coe_sub_self (x : ℝ) : (x : EReal) - (x : EReal) = 0 := by rw [← EReal.coe_sub, sub_self, EReal.coe_zero]

/-- The pre-activation at real entries: the sixteen gate columns stand at columns 64 to 79, the other rows of the weight are zero. -/
theorem z_at (v3 : Vec Ideal S256x128 .f32) (w : Vec Ideal S128x256 .f32) (gb : Vec Ideal S1x256 .f32) (u d : Fin 256)
    (gl : Fin 16 → ℝ) (w2 : Fin 16 → ℝ) (b : ℝ)
    (hl : ∀ c : Fin 16, v3 (ix2 u ⟨64 + c.val, by omega⟩) = ((gl c : ℝ) : EReal))
    (hw : ∀ c : Fin 16, w (ix2 ⟨64 + c.val, by omega⟩ d) = ((w2 c : ℝ) : EReal))
    (hw0 : ∀ x : Fin 128, (x.val < 64 ∨ 80 ≤ x.val) → w (ix2 x d) = (0 : EReal))
    (hb : gb (ix2 0 d) = ((b : ℝ) : EReal)) :
    zF v3 w gb (ix2 u d) = ((∑ c, gl c * w2 c + b : ℝ) : EReal) := by
  pointwise [zF, k0_pay4, k0_pay15, k0_pay14, k0_pay5, k0_pay3]
  have split : ∀ x : Fin 128, (∃ c : Fin 16, (⟨64 + c.val, by omega⟩ : Fin 128) = x) ∨ (x.val < 64 ∨ 80 ≤ x.val) := by
    intro x
    by_cases h : x.val < 64 ∨ 80 ≤ x.val
    · exact Or.inr h
    · exact Or.inl ⟨⟨x.val - 64, by omega⟩, Fin.ext (by show 64 + (x.val - 64) = x.val; omega)⟩
  have h1 : (∑ x : Fin 128, (v3 (ix2 u x) * w (ix2 x d) : EReal)) = ((∑ c, gl c * w2 c : ℝ) : EReal) := by
    rw [← coe_sum]
    symm
    refine Fintype.sum_of_injective (fun c : Fin 16 => (⟨64 + c.val, by omega⟩ : Fin 128)) ?_ _ _ ?_ ?_
    · intro a b h; exact Fin.ext (by have := congrArg Fin.val h; simp only at this; omega)
    · intro x hx
      rcases split x with ⟨c, hc⟩ | h
      · exact absurd ⟨c, hc⟩ hx
      · rw [hw0 x h]; exact mul_zero _
    · intro c
      show ((gl c * w2 c : ℝ) : EReal) = v3 (ix2 u ⟨64 + c.val, _⟩) * w (ix2 ⟨64 + c.val, _⟩ d)
      rw [hl, hw]; exact EReal.coe_mul _ _
  have h2 : (∑ x : Fin 128, (v3 (ix2 u x) * (w (ix2 x d) - w (ix2 x d)) : EReal)) = 0 := by
    refine Finset.sum_eq_zero fun x _ => ?_
    have : (w (ix2 x d) - w (ix2 x d) : EReal) = 0 := by
      rcases split x with ⟨c, rfl⟩ | h
      · rw [hw]; exact coe_sub_self _
      · rw [hw0 x h]; exact coe_sub_self 0
    rw [this]; exact mul_zero _
  have h3 : (∑ x : Fin 128, ((v3 (ix2 u x) - v3 (ix2 u x)) * w (ix2 x d) : EReal)) = 0 := by
    refine Finset.sum_eq_zero fun x _ => ?_
    rcases split x with ⟨c, rfl⟩ | h
    · rw [hl, coe_sub_self]; exact zero_mul _
    · rw [hw0 x h]; exact mul_zero _
  rw [h1, h2, h3, hb, add_zero, add_zero, ← EReal.coe_add]

/-- The constant one sixteenth. -/
theorem sixteenth : Ideal.ofBits .f32 0x3D800000#32 = (((1 : ℝ) / 16 : ℝ) : EReal) := by
  simp [Ideal.ofBits, Ideal.ieee]
  rw [← EReal.coe_mul]
  norm_num

/-- The log decay at a real pre-activation. -/
theorem la_at (z : FVec Ideal S256x256 .f32) (u d : Fin 256) (x : ℝ) (h : z (ix2 u d) = (x : EReal)) : laF z (ix2 u d) = ((gate x : ℝ) : EReal) := by
  pointwise [laF]
  rw [sixteenth, h]
  show (min (x : EReal) ((0 : ℝ) : EReal) - Ideal.log1p (Ideal.exp (((0 : ℝ) : EReal) - max (x : EReal) (-(x : EReal))))) * _ = _
  rw [← EReal.coe_neg, coe_max', coe_min', ← EReal.coe_sub, Ideal.exp_coe, Ideal.log1p, ← EReal.coe_one, ← EReal.coe_add, Ideal.log_coe,
    if_neg (by have := Real.exp_pos (0 - max x (-x)); linarith), ← EReal.coe_sub, ← EReal.coe_mul]
  rfl

/-- Where the ones of row `t` of the matrices end. -/
def mhi (t : ℕ) : ℕ := if t < 256 then t + 1 else if t < 512 then 256 else t % 256 + 1

/-- Where the ones taken away from row `t` of the matrices end. -/
def mlo (t : ℕ) : ℕ :=
  if t < 256 then 0 else if t < 512 then t % 256 + 1 else if t < 768 then anc 128 (t % 256) + 1 else if t < 1024 then anc 64 (t % 256) + 1
  else if t < 1280 then anc 32 (t % 256) + 1 else if t < 1536 then anc 16 (t % 256) + 1 else t % 256 / 16 * 16 + 1

/-- Every row's ones end inside the row. -/
theorem mhi_le (t : ℕ) : mhi t ≤ 256 := by
  unfold mhi; split_ifs <;> omega

/-- Every row's ones taken away end inside the row. -/
theorem mlo_le : ∀ t : Fin 1792, mlo t.val ≤ 256 := by decide +kernel

/-- A sum against an initial stretch of ones. -/
theorem sum_below (g : ℕ → ℝ) (n : ℕ) (h : n ≤ 256) : (∑ x : Fin 256, (if x.val < n then (1 : ℝ) else 0) * g x.val) = ∑ u ∈ Finset.range n, g u := by
  rw [Finset.sum_fin_eq_sum_range]
  rw [← Finset.sum_subset (Finset.range_mono h)]
  · refine Finset.sum_congr rfl fun x hx => ?_
    have hx' := Finset.mem_range.1 hx
    rw [dif_pos (by omega)]
    simp [hx']
  · intro x hx hn
    have hx' := Finset.mem_range.1 hx
    have hn' : ¬ x < n := fun h => hn (Finset.mem_range.2 h)
    rw [dif_pos hx']
    simp [hn']

/-- The partial sums of a real log decay. -/
theorem dec_at (v9 : Vec Ideal S1792x256 .bf16) (la : FVec Ideal S256x256 .f32) (t : Fin 1792) (d : Fin 256) (g : ℕ → ℝ)
    (hm : ∀ x : Fin 256, v9 (ix2 t x) = (((if x.val < mhi t.val then (1 : ℝ) else 0) - (if x.val < mlo t.val then (1 : ℝ) else 0) : ℝ) : EReal))
    (hg : ∀ x : Fin 256, la (ix2 x d) = ((g x.val : ℝ) : EReal)) :
    decF v9 la (ix2 t d) = ((∑ u ∈ Finset.range (mhi t.val), g u - ∑ u ∈ Finset.range (mlo t.val), g u : ℝ) : EReal) := by
  pointwise [decF, k0_pay6]
  have h1 : (∑ x : Fin 256, (v9 (ix2 t x) * la (ix2 x d) : EReal)) = ((∑ u ∈ Finset.range (mhi t.val), g u - ∑ u ∈ Finset.range (mlo t.val), g u : ℝ) : EReal) := by
    rw [← sum_below g _ (mhi_le t.val), ← sum_below g _ (mlo_le t), ← Finset.sum_sub_distrib, ← coe_sum]
    refine Finset.sum_congr rfl fun x _ => ?_
    rw [hm, hg, ← sub_mul]; exact (EReal.coe_mul _ _).symm
  have h2 : (∑ x : Fin 256, (v9 (ix2 t x) * (la (ix2 x d) - la (ix2 x d)) : EReal)) = 0 :=
    Finset.sum_eq_zero fun x _ => by rw [hg, coe_sub_self]; exact mul_zero _
  have h3 : (∑ x : Fin 256, (v9 (ix2 t x) * (la (ix2 x d) - la (ix2 x d) - (la (ix2 x d) - la (ix2 x d))) : EReal)) = 0 :=
    Finset.sum_eq_zero fun x _ => by rw [hg, coe_sub_self]; exact (congrArg _ (coe_sub_self 0)).trans (mul_zero _)
  rw [h1, h2, h3, add_zero, add_zero]

/-- Two small numbers' words are equal exactly when the numbers are. -/
theorem ofNat_beq (a b : ℕ) (ha : a < 256) (hb : b < 256) : (BitVec.ofNat 32 a == BitVec.ofNat 32 b) = (a == b) := by
  rw [Bool.eq_iff_iff, beq_iff_eq, beq_iff_eq]
  constructor
  · intro h
    have := congrArg BitVec.toNat h
    rw [BitVec.toNat_ofNat, BitVec.toNat_ofNat, Nat.mod_eq_of_lt (by omega), Nat.mod_eq_of_lt (by omega)] at this
    exact this
  · rintro rfl; rfl

/-- A level's mask bit, from what the shift and the bit test leave of a position. -/
theorem mask_bit (m : ℕ) (s b : BitVec 32)
    (hs : ∀ i : Fin 256, IntOp.shrsi ArithUnit.vector (BitVec.ofNat 32 i.val) s = BitVec.ofNat 32 (i.val / (2 * m)))
    (hb : ∀ i : Fin 256, (IntOp.andi (BitVec.ofNat 32 i.val) b == 0#32) = (i.val / m % 2 == 0)) (i j : Fin 256) :
    IntOp.andi (IntOp.andi
        (IntOp.cmpi CmpIPredicate.eq (IntOp.shrsi ArithUnit.vector (BitVec.ofNat 32 i.val) s) (IntOp.shrsi ArithUnit.vector (BitVec.ofNat 32 j.val) s))
        (IntOp.cmpi CmpIPredicate.ne (IntOp.andi (BitVec.ofNat 32 i.val) b) 0#32))
      (IntOp.cmpi CmpIPredicate.eq (IntOp.andi (BitVec.ofNat 32 j.val) b) 0#32) = BitVec.ofBool (lvl m i j) := by
  have e1 : ∀ a b : BitVec 32, IntOp.cmpi CmpIPredicate.eq a b = BitVec.ofBool (a == b) := fun _ _ => rfl
  have e2 : ∀ a b : BitVec 32, IntOp.cmpi CmpIPredicate.ne a b = BitVec.ofBool (a != b) := fun _ _ => rfl
  have e3 : ∀ a b : Bool, IntOp.andi (BitVec.ofBool a) (BitVec.ofBool b) = BitVec.ofBool (a && b) := by decide
  have l1 : i.val / (2 * m) < 256 := lt_of_le_of_lt (Nat.div_le_self _ _) i.isLt
  have l2 : j.val / (2 * m) < 256 := lt_of_le_of_lt (Nat.div_le_self _ _) j.isLt
  rw [e1, e2, e1, e3, e3, hs, hs, ofNat_beq _ _ l1 l2, bne, hb, hb]
  unfold lvl
  congr 2
  have h2 : i.val / m % 2 = 0 ∨ i.val / m % 2 = 1 := by omega
  rcases h2 with h | h <;> rw [h] <;> rfl

/-- The kernel's mask of the level 128: row and column share their block of twice that size, the row in its upper half. -/
theorem mask128 (i j : Fin 256) : k0_pay7 (ix2 i j) = BitVec.ofBool (lvl 128 i j) := by
  pointwise [k0_pay7]
  exact mask_bit 128 8#32 128#32 (by decide +kernel) (by decide +kernel) i j

/-- The kernel's mask of the level 64: row and column share their block of twice that size, the row in its upper half. -/
theorem mask64 (i j : Fin 256) : k0_pay10 k0_pay8 k0_pay9 (ix2 i j) = BitVec.ofBool (lvl 64 i j) := by
  pointwise [k0_pay8, k0_pay9, k0_pay10]
  exact mask_bit 64 7#32 64#32 (by decide +kernel) (by decide +kernel) i j

/-- The kernel's mask of the level 32: row and column share their block of twice that size, the row in its upper half. -/
theorem mask32 (i j : Fin 256) : k0_pay11 i0F i1F (ix2 i j) = BitVec.ofBool (lvl 32 i j) := by
  pointwise [k0_pay11]
  exact mask_bit 32 6#32 32#32 (by decide +kernel) (by decide +kernel) i j

/-- The kernel's mask of the level 16: row and column share their block of twice that size, the row in its upper half. -/
theorem mask16 (i j : Fin 256) : k0_pay12 i0F i1F (ix2 i j) = BitVec.ofBool (lvl 16 i j) := by
  pointwise [k0_pay12]
  exact mask_bit 16 5#32 16#32 (by decide +kernel) (by decide +kernel) i j

/-- The bits of a position's word. -/
theorem maskD (i j : Fin 256) : k0_pay13 i0F i1F (ix2 i j) = BitVec.ofBool (dia i j) := by
  pointwise [k0_pay13]
  have e1 : ∀ a b : BitVec 32, IntOp.cmpi CmpIPredicate.eq a b = BitVec.ofBool (a == b) := fun _ _ => rfl
  have e2 : ∀ a b : BitVec 32, IntOp.cmpi CmpIPredicate.sle a b = BitVec.ofBool (a.sle b) := fun _ _ => rfl
  have e3 : ∀ a b : Bool, IntOp.andi (BitVec.ofBool a) (BitVec.ofBool b) = BitVec.ofBool (a && b) := by decide
  have hs : ∀ i : Fin 256, IntOp.shrsi ArithUnit.vector (BitVec.ofNat 32 i.val) 4#32 = BitVec.ofNat 32 (i.val / 16) := by decide +kernel
  have ht : ∀ i : Fin 256, (BitVec.ofNat 32 i.val).toInt = i.val := by decide +kernel
  rw [e1, e2, e3, hs, hs, ofNat_beq _ _ (by omega) (by omega), BitVec.sle, ht, ht]
  unfold dia
  congr 2
  rw [decide_eq_decide]; omega

/-- One masked level at real entries. -/
theorem lv_at (mask : IVec S256x256 1) (d Q K : FVec Ideal S256x256 .f32) (i j : Fin 256) (b : Bool) (di dj q k : Fin 256 → ℝ)
    (hm : mask (ix2 i j) = BitVec.ofBool b) (h1 : ∀ x, d (ix2 i x) = ((di x : ℝ) : EReal)) (h2 : ∀ x, d (ix2 j x) = ((dj x : ℝ) : EReal))
    (hq : ∀ x, Q (ix2 i x) = ((q x : ℝ) : EReal)) (hk : ∀ x, K (ix2 j x) = ((k x : ℝ) : EReal)) :
    lvF mask d Q K (ix2 i j)
      = (((if b = true then ∑ x, (q x * Real.exp (min (di x) 0)) * (k x * Real.exp (min (0 - dj x) 0)) else 0) : ℝ) : EReal) := by
  pointwise [lvF]
  rw [hm]
  have : (∑ x, (Q (ix2 i x) * Ideal.exp (min (d (ix2 i x)) 0) * (K (ix2 j x) * Ideal.exp (min (0 - d (ix2 j x)) 0)) : EReal))
      = ((∑ x, (q x * Real.exp (min (di x) 0)) * (k x * Real.exp (min (0 - dj x) 0)) : ℝ) : EReal) := by
    rw [← coe_sum]
    refine Finset.sum_congr rfl fun x _ => ?_
    rw [h1, h2, hq, hk, ← EReal.coe_zero, ← EReal.coe_sub, coe_min', coe_min', Ideal.exp_coe, Ideal.exp_coe, ← EReal.coe_mul, ← EReal.coe_mul, ← EReal.coe_mul]
  rw [this]
  cases b
  · rfl
  · rfl

/-- The diagonal blocks at real entries. -/
theorem dg_at (mask : IVec S256x256 1) (d Q K : FVec Ideal S256x256 .f32) (i j : Fin 256) (b : Bool) (di dj q k : Fin 256 → ℝ)
    (hm : mask (ix2 i j) = BitVec.ofBool b) (h1 : ∀ x, d (ix2 i x) = ((di x : ℝ) : EReal)) (h2 : ∀ x, d (ix2 j x) = ((dj x : ℝ) : EReal))
    (hq : ∀ x, Q (ix2 i x) = ((q x : ℝ) : EReal)) (hk : ∀ x, K (ix2 j x) = ((k x : ℝ) : EReal)) :
    dgF mask d Q K (ix2 i j)
      = (((if b = true then ∑ x, (q x * Real.exp (di x)) * (k x * Real.exp (0 - dj x)) else 0) : ℝ) : EReal) := by
  pointwise [dgF]
  rw [hm]
  have : (∑ x, (Q (ix2 i x) * Ideal.exp (d (ix2 i x)) * (K (ix2 j x) * Ideal.exp (0 - d (ix2 j x))) : EReal))
      = ((∑ x, (q x * Real.exp (di x)) * (k x * Real.exp (0 - dj x)) : ℝ) : EReal) := by
    rw [← coe_sum]
    refine Finset.sum_congr rfl fun x _ => ?_
    rw [h1, h2, hq, hk, ← EReal.coe_zero, ← EReal.coe_sub, Ideal.exp_coe, Ideal.exp_coe, ← EReal.coe_mul, ← EReal.coe_mul, ← EReal.coe_mul]
  rw [this]
  cases b
  · rfl
  · rfl

/-- What the partial sums of one head are, at a block that starts at position `n0` of the head's log decay `g`. -/
def DecAt (dec : FVec Ideal S1792x256 .f32) (g : ℕ → Fin 256 → ℝ) (n0 : ℕ) : Prop :=
  ∀ (t : Fin 1792) (d : Fin 256), dec (ix2 t d)
    = ((∑ u ∈ Finset.range (mhi t.val), g (n0 + u) d - ∑ u ∈ Finset.range (mlo t.val), g (n0 + u) d : ℝ) : EReal)

section Real
variable (g q k : ℕ → Fin 256 → ℝ) (v : ℕ → Fin 512 → ℝ) (n0 : ℕ)

/-- The rows a level reads. -/
theorem dec_level (dec : FVec Ideal S1792x256 .f32) (h : DecAt dec g n0) (o m : ℕ) (i : Fin 256) (ho : o + i.val < 1792)
    (h1 : mhi (o + i.val) = i.val + 1) (h2 : mlo (o + i.val) = m + 1) (d : Fin 256) :
    dec (ix2 ⟨o + i.val, ho⟩ d) = ((pre (fun u => g u d) n0 i.val - pre (fun u => g u d) n0 m : ℝ) : EReal) := by
  rw [h]; simp only [h1, h2]; rfl

/-- The upper end of the sums below the first two groups of rows: the row itself. -/
theorem mhi_o (o : ℕ) (ho : o = 512 ∨ o = 768 ∨ o = 1024 ∨ o = 1280 ∨ o = 1536) (i : Fin 256) : mhi (o + i.val) = i.val + 1 := by
  rcases ho with rfl | rfl | rfl | rfl | rfl <;> unfold mhi <;> rw [if_neg (by omega), if_neg (by omega)] <;> omega

/-- The lower end of the sums of the group of rows that begins at 512. -/
theorem mlo_512 (i : Fin 256) : mlo (512 + i.val) = anc 128 i.val + 1 := by
  unfold mlo; rw [if_neg (by omega), if_neg (by omega), if_pos (by omega), show (512 + i.val) % 256 = i.val by omega]
/-- The lower end of the sums of the group of rows that begins at 768. -/
theorem mlo_768 (i : Fin 256) : mlo (768 + i.val) = anc 64 i.val + 1 := by
  unfold mlo; rw [if_neg (by omega), if_neg (by omega), if_neg (by omega), if_pos (by omega), show (768 + i.val) % 256 = i.val by omega]
/-- The lower end of the sums of the group of rows that begins at 1024. -/
theorem mlo_1024 (i : Fin 256) : mlo (1024 + i.val) = anc 32 i.val + 1 := by
  unfold mlo; rw [if_neg (by omega), if_neg (by omega), if_neg (by omega), if_neg (by omega), if_pos (by omega), show (1024 + i.val) % 256 = i.val by omega]
/-- The lower end of the sums of the group of rows that begins at 1280. -/
theorem mlo_1280 (i : Fin 256) : mlo (1280 + i.val) = anc 16 i.val + 1 := by
  unfold mlo; rw [if_neg (by omega), if_neg (by omega), if_neg (by omega), if_neg (by omega), if_neg (by omega), if_pos (by omega), show (1280 + i.val) % 256 = i.val by omega]
/-- The lower end of the sums of the group of rows that begins at 1536. -/
theorem mlo_1536 (i : Fin 256) : mlo (1536 + i.val) = i.val / 16 * 16 + 1 := by
  unfold mlo; rw [if_neg (by omega), if_neg (by omega), if_neg (by omega), if_neg (by omega), if_neg (by omega), if_neg (by omega), show (1536 + i.val) % 256 = i.val by omega]

/-- The block's scores are the pairwise ones at and before the row, zero after it. -/
theorem at_at (dec : FVec Ideal S1792x256 .f32) (Q K : FVec Ideal S256x256 .f32) (hg : ∀ u d, g u d ≤ 0) (hd : DecAt dec g n0)
    (hq : ∀ i d : Fin 256, Q (ix2 i d) = ((q (n0 + i.val) d : ℝ) : EReal)) (hk : ∀ i d : Fin 256, K (ix2 i d) = ((k (n0 + i.val) d : ℝ) : EReal))
    (i j : Fin 256) :
    atF dec Q K (ix2 i j) = (((if j.val ≤ i.val then ∑ d, q (n0 + i.val) d * k (n0 + j.val) d
      * Real.exp (pre (fun u => g u d) n0 i.val - pre (fun u => g u d) n0 j.val) else 0) : ℝ) : EReal) := by
  pointwise [atF]
  have L : ∀ (o m : ℕ) (i d : Fin 256) (ho : o + i.val < 1792) (h1 : mhi (o + i.val) = i.val + 1) (h2 : mlo (o + i.val) = m + 1)
      (hs : S1792x256.Slices ![o, 0] S256x256),
      extractStridedSlice S256x256 ![o, 0] dec hs (ix2 i d) = ((pre (fun u => g u d) n0 i.val - pre (fun u => g u d) n0 m : ℝ) : EReal) := by
    intro o m i d ho h1 h2 hs
    refine Eq.trans ?_ (dec_level g n0 dec hd o m i ho h1 h2 d)
    unfold extractStridedSlice
    congr 1
    funext a
    match a with
    | 0 => rfl
    | 1 => exact Fin.ext (Nat.zero_add _)
  rw [lv_at _ _ Q K i j _ _ _ _ _ (mask128 i j) (fun x => L 512 (anc 128 i.val) i x (by omega) (mhi_o 512 (by simp) i) (mlo_512 i) _)
      (fun x => L 512 (anc 128 j.val) j x (by omega) (mhi_o 512 (by simp) j) (mlo_512 j) _) (fun x => hq i x) (fun x => hk j x),
    lv_at _ _ Q K i j _ _ _ _ _ (mask64 i j) (fun x => L 768 (anc 64 i.val) i x (by omega) (mhi_o 768 (by simp) i) (mlo_768 i) _)
      (fun x => L 768 (anc 64 j.val) j x (by omega) (mhi_o 768 (by simp) j) (mlo_768 j) _) (fun x => hq i x) (fun x => hk j x),
    lv_at _ _ Q K i j _ _ _ _ _ (mask32 i j) (fun x => L 1024 (anc 32 i.val) i x (by omega) (mhi_o 1024 (by simp) i) (mlo_1024 i) _)
      (fun x => L 1024 (anc 32 j.val) j x (by omega) (mhi_o 1024 (by simp) j) (mlo_1024 j) _) (fun x => hq i x) (fun x => hk j x),
    lv_at _ _ Q K i j _ _ _ _ _ (mask16 i j) (fun x => L 1280 (anc 16 i.val) i x (by omega) (mhi_o 1280 (by simp) i) (mlo_1280 i) _)
      (fun x => L 1280 (anc 16 j.val) j x (by omega) (mhi_o 1280 (by simp) j) (mlo_1280 j) _) (fun x => hq i x) (fun x => hk j x),
    dg_at _ _ Q K i j _ _ _ _ _ (maskD i j) (fun x => L 1536 (i.val / 16 * 16) i x (by omega) (mhi_o 1536 (by simp) i) (mlo_1536 i) _)
      (fun x => L 1536 (j.val / 16 * 16) j x (by omega) (mhi_o 1536 (by simp) j) (mlo_1536 j) _) (fun x => hq i x) (fun x => hk j x),
    level_term g q k hg n0 128 (by norm_num) i j, level_term g q k hg n0 64 (by norm_num) i j, level_term g q k hg n0 32 (by norm_num) i j,
    level_term g q k hg n0 16 (by norm_num) i j, dia_term g q k n0 i j, ← EReal.coe_add, ← EReal.coe_add, ← EReal.coe_add, ← EReal.coe_add, pair_sum]

/-- The head's output before the normalisation, at real entries. -/
theorem o_at (dec : FVec Ideal S1792x256 .f32) (Q K : FVec Ideal S256x256 .f32) (V : Vec Ideal S256x512 .f32) (st : Vec Ideal S1x512x256 .f32)
    (hg : ∀ u d, g u d ≤ 0) (hd : DecAt dec g n0)
    (hq : ∀ i d : Fin 256, Q (ix2 i d) = ((q (n0 + i.val) d : ℝ) : EReal)) (hk : ∀ i d : Fin 256, K (ix2 i d) = ((k (n0 + i.val) d : ℝ) : EReal))
    (hv : ∀ (i : Fin 256) (e : Fin 512), V (ix2 i e) = ((v (n0 + i.val) e : ℝ) : EReal))
    (hs : ∀ (e : Fin 512) (d : Fin 256), st (ix3 0 e d) = ((S (fun u => g u d) (fun u => k u d) (fun u => v u e) n0 : ℝ) : EReal))
    (i : Fin 256) (e : Fin 512) :
    oF dec Q K V st (ix2 i e) = ((O q k g (fun u => v u e) (n0 + i.val) : ℝ) : EReal) := by
  pointwise [oF, inF, k0_pay29, k0_pay28, k0_pay22, k0_pay21]
  have h0 : ∀ d, dec (ix2 ⟨i.val, by omega⟩ d) = ((pre (fun u => g u d) n0 i.val : ℝ) : EReal) := by
    intro d
    rw [hd]
    have e1 : mhi i.val = i.val + 1 := if_pos i.isLt
    have e2 : mlo i.val = 0 := if_pos i.isLt
    simp only [e1, e2, Finset.range_zero, Finset.sum_empty, sub_zero]; rfl
  have h1 : (∑ x, (Q (ix2 i x) * Ideal.exp (dec (ix2 ⟨i.val, by omega⟩ x)) * st (ix3 0 e x) : EReal))
      = ((∑ d, (q (n0 + i.val) d * Real.exp (pre (fun u => g u d) n0 i.val)) * S (fun u => g u d) (fun u => k u d) (fun u => v u e) n0 : ℝ) : EReal) := by
    rw [← coe_sum]
    refine Finset.sum_congr rfl fun x _ => ?_
    rw [h0, hq, hs, Ideal.exp_coe, ← EReal.coe_mul, ← EReal.coe_mul]
  have h2 : (∑ x, (atF dec Q K (ix2 i x) * V (ix2 x e) : EReal))
      = ((∑ j ∈ Finset.range 256, (if j ≤ i.val then ∑ d, q (n0 + i.val) d * k (n0 + j) d
          * Real.exp (pre (fun u => g u d) n0 i.val - pre (fun u => g u d) n0 j) else 0) * v (n0 + j) e : ℝ) : EReal) := by
    rw [← Fin.sum_univ_eq_sum_range (fun j => (if j ≤ i.val then ∑ d, q (n0 + i.val) d * k (n0 + j) d
          * Real.exp (pre (fun u => g u d) n0 i.val - pre (fun u => g u d) n0 j) else 0) * v (n0 + j) e) 256, ← coe_sum]
    refine Finset.sum_congr rfl fun x _ => ?_
    rw [at_at g q k n0 dec Q K hg hd hq hk, hv]
    exact (EReal.coe_mul _ _).symm
  rw [h1, h2, ← EReal.coe_add, out_step q k g (fun u => v u e) n0 256 i.val i.isLt]

/-- The carried state after the block, at real entries. -/
theorem st_at (v3 : Vec Ideal S256x128 .f32) (v9 : Vec Ideal S1792x256 .bf16) (w : Vec Ideal S128x256 .f32) (gb : Vec Ideal S1x256 .f32)
    (K : Vec Ideal S256x256 .f32) (V : Vec Ideal S256x512 .f32) (st : Vec Ideal S1x512x256 .f32) (hd : DecAt (hdF v3 v9 w gb) g n0)
    (hk : ∀ i d : Fin 256, K (ix2 i d) = ((k (n0 + i.val) d : ℝ) : EReal))
    (hv : ∀ (i : Fin 256) (e : Fin 512), V (ix2 i e) = ((v (n0 + i.val) e : ℝ) : EReal))
    (hs : ∀ (e : Fin 512) (d : Fin 256), st (ix3 0 e d) = ((S (fun u => g u d) (fun u => k u d) (fun u => v u e) n0 : ℝ) : EReal))
    (e : Fin 512) (d : Fin 256) :
    stF v3 v9 w gb K V st (ix3 0 e d) = ((S (fun u => g u d) (fun u => k u d) (fun u => v u e) (n0 + 256) : ℝ) : EReal) := by
  pointwise [stF, k0_pay30, k0_pay20, k0_pay21, k0_pay28]
  have e1 : mhi 255 = 256 := rfl
  have e2 : mlo 255 = 0 := rfl
  have h0 : hdF v3 v9 w gb (ix2 255 d) = ((pre (fun u => g u d) n0 255 : ℝ) : EReal) := by
    rw [hd]
    show ((∑ u ∈ Finset.range (mhi 255), g (n0 + u) d - ∑ u ∈ Finset.range (mlo 255), g (n0 + u) d : ℝ) : EReal) = _
    rw [e1, e2, Finset.range_zero, Finset.sum_empty, sub_zero]; rfl
  have h1 : ∀ x : Fin 256, hdF v3 v9 w gb (ix2 ⟨256 + x.val, by omega⟩ d) = ((pre (fun u => g u d) n0 255 - pre (fun u => g u d) n0 x.val : ℝ) : EReal) := by
    intro x
    rw [hd]
    have e3 : mhi (256 + x.val) = 256 := by unfold mhi; rw [if_neg (by omega), if_pos (by omega)]
    have e4 : mlo (256 + x.val) = x.val + 1 := by
      unfold mlo; rw [if_neg (by omega), if_pos (by omega), show (256 + x.val) % 256 = x.val by omega]
    simp only [e3, e4]; rfl
  have h2 : (∑ x : Fin 256, (V (ix2 x e) * (K (ix2 x d) * Ideal.exp (hdF v3 v9 w gb (ix2 ⟨256 + x.val, by omega⟩ d))) : EReal))
      = ((∑ i ∈ Finset.range (255 + 1), (k (n0 + i) d * Real.exp (pre (fun u => g u d) n0 255 - pre (fun u => g u d) n0 i)) * v (n0 + i) e : ℝ) : EReal) := by
    rw [← Fin.sum_univ_eq_sum_range (fun i => (k (n0 + i) d * Real.exp (pre (fun u => g u d) n0 255 - pre (fun u => g u d) n0 i)) * v (n0 + i) e) (255 + 1), ← coe_sum]
    refine Finset.sum_congr rfl fun x _ => ?_
    rw [h1, hk, hv, Ideal.exp_coe, mul_comm, ← EReal.coe_mul, ← EReal.coe_mul]
  rw [h0, h2, hs, Ideal.exp_coe, mul_comm ((S _ _ _ _ : ℝ) : EReal), ← EReal.coe_mul, ← EReal.coe_add,
    state_step (fun u => g u d) (fun u => k u d) (fun u => v u e) n0 255]

end Real

/-- The tail of the result at an index. -/
theorem tl_at (o : FVec Ideal S256x512 .f32) (hg : Vec Ideal S1x512 .f32) (r : Vec Ideal S256x512 .f32) (i : Fin 256) (e : Fin 512) :
    tlF o hg r (ix2 i e) = (o (ix2 i e) * Ideal.rsqrt (Ideal.div (∑ x, o (ix2 i x) * o (ix2 i x)) (Ideal.ofBits .f32 0x44000000#32)
        + Ideal.ofBits .f32 0x358637BD#32) * hg (ix2 0 e) * (r (ix2 i e) * Ideal.logistic (r (ix2 i e))) : EReal) := by
  pointwise [tlF]

end Cert.GlaHead
end
-- ==== Proof.GlaPoint.lean ====
module

public import proofs.«01_k».proof.Proof.Gen.KernelIdeal.Value
public import proofs.«01_k».proof.Proof.GlaHead
public import Idealize.ShloMosaic.Lib.Pipeline.ValueKit
public import Idealize.ShloMosaic.Lib.Pipeline.ReadBack
public import Idealize.ShloMosaic.Lib.Pointwise

/-! What one grid point leaves in the result's block and in the carried state: four heads side by side. -/

@[expose] public section

set_option maxRecDepth 16384
noncomputable section
open Idealize.ShloMosaic Idealize.ShloMosaic.TcCoe Idealize.SL.Sem
open Idealize.ShloMosaic.Pipeline (Dat)
namespace Cert.GlaPoint
open Cert.KernelIdeal Cert.KernelIdeal.Gen Cert.KernelIdeal.Value Cert.GlaHead
variable (m : (ℓ : Loc nD τ sig) → Buf (Elt Ideal) ℓ)

/-- A head's columns of the gate weight. -/
def colW (X : Vec Ideal S128x1024 .f32) (n : Fin 4) : Vec Ideal S128x256 .f32 :=
  fun z => X (ix2 (z 0) ⟨256 * n.val + (z 1).val, by have : (z 1).val < 256 := (z 1).isLt; omega⟩)
/-- A head's columns of the gate bias. -/
def colB (X : Vec Ideal S1x1024 .f32) (n : Fin 4) : Vec Ideal S1x256 .f32 :=
  fun z => X (ix2 0 ⟨256 * n.val + (z 1).val, by have : (z 1).val < 256 := (z 1).isLt; omega⟩)
/-- A head's query or key columns. -/
def colQ (X : Vec Ideal S256x1024 .f32) (n : Fin 4) : Vec Ideal S256x256 .f32 :=
  fun z => X (ix2 (z 0) ⟨256 * n.val + (z 1).val, by have : (z 1).val < 256 := (z 1).isLt; omega⟩)
/-- A head's value or output-gate columns. -/
def colV (X : Vec Ideal S256x2048 .f32) (n : Fin 4) : Vec Ideal S256x512 .f32 :=
  fun z => X (ix2 (z 0) ⟨512 * n.val + (z 1).val, by have : (z 1).val < 512 := (z 1).isLt; omega⟩)
/-- A head's columns of the head gain. -/
def colH (X : Vec Ideal S1x2048 .f32) (n : Fin 4) : Vec Ideal S1x512 .f32 :=
  fun z => X (ix2 0 ⟨512 * n.val + (z 1).val, by have : (z 1).val < 512 := (z 1).isLt; omega⟩)
/-- A head's carried state. -/
def stH (X : Vec Ideal S4x512x256 .f32) (n : Fin 4) : Vec Ideal S1x512x256 .f32 := fun z => X (ix3 n (z 1) (z 2))

/-- A head's part of the result's block. -/
def outP (c : Dev nD) (t : Fin cfg0.N) (st : Vec Ideal S4x512x256 .f32) (n : Fin 4) : FVec Ideal S256x512 .bf16 :=
  outF (iblk m c 4 t) (iblk m c 8 t) (colW (iblk m c 5 t) n) (colB (iblk m c 6 t) n) (colQ (X0_0 m c t) n) (colQ (X0_1 m c t) n) (colV (X0_2 m c t) n)
    (stH st n) (colH (iblk m c 7 t) n) (colV (X0_3 m c t) n)

/-- A head's carried state after the point. -/
def stP (c : Dev nD) (t : Fin cfg0.N) (st : Vec Ideal S4x512x256 .f32) (n : Fin 4) : FVec Ideal S1x512x256 .f32 :=
  stF (iblk m c 4 t) (iblk m c 8 t) (colW (iblk m c 5 t) n) (colB (iblk m c 6 t) n) (colQ (X0_1 m c t) n) (colV (X0_2 m c t) n) (stH st n)

/-- Equal operands give equal outputs. -/
theorem outF_congr {v3 : Vec Ideal S256x128 .f32} {v9 : Vec Ideal S1792x256 .bf16} {w w' : Vec Ideal S128x256 .f32} {gb gb' : Vec Ideal S1x256 .f32}
    {q q' k k' : Vec Ideal S256x256 .f32} {v v' : Vec Ideal S256x512 .f32} {st st' : Vec Ideal S1x512x256 .f32} {hg hg' : Vec Ideal S1x512 .f32}
    {r r' : Vec Ideal S256x512 .f32} {x x' : S256x512.Idx} (e1 : ∀ z, w z = w' z) (e2 : ∀ z, gb z = gb' z) (e3 : ∀ z, q z = q' z) (e4 : ∀ z, k z = k' z)
    (e5 : ∀ z, v z = v' z) (e6 : ∀ z, st z = st' z) (e7 : ∀ z, hg z = hg' z) (e8 : ∀ z, r z = r' z) (e9 : x = x') :
    outF v3 v9 w gb q k v st hg r x = outF v3 v9 w' gb' q' k' v' st' hg' r' x' := by
  rw [funext e1, funext e2, funext e3, funext e4, funext e5, funext e6, funext e7, funext e8, e9]

/-- Equal operands give equal carried states. -/
theorem stF_congr {v3 : Vec Ideal S256x128 .f32} {v9 : Vec Ideal S1792x256 .bf16} {w w' : Vec Ideal S128x256 .f32} {gb gb' : Vec Ideal S1x256 .f32}
    {k k' : Vec Ideal S256x256 .f32} {v v' : Vec Ideal S256x512 .f32} {st st' : Vec Ideal S1x512x256 .f32}
    {x x' : S1x512x256.Idx} (e1 : ∀ z, w z = w' z) (e2 : ∀ z, gb z = gb' z) (e4 : ∀ z, k z = k' z)
    (e5 : ∀ z, v z = v' z) (e6 : ∀ z, st z = st' z) (e9 : x = x') :
    stF v3 v9 w gb k v st x = stF v3 v9 w' gb' k' v' st' x' := by
  rw [funext e1, funext e2, funext e4, funext e5, funext e6, e9]

/-- The result of a later point, from the state carried to it. -/
theorem outB (c : Dev nD) (t : Fin cfg0.N) (acc) (b0 : ¬t.val % 32 = 0) (y : S256x2048.Idx) (n : Fin 4) (i : Fin 256) (e : Fin 512) (yi : (y 0).val = i.val) (ye : (y 1).val = 512 * n.val + e.val) :
    (stAt0 m c t.val t.isLt acc).1 y = outP m c t acc.2 n (ix2 i e) := by
  rw [stAt0_B m c t acc b0]
  dsimp only
  frame_out
  try simp (disch := decide) only [↓View.readCov_skip, ↓View.readCov_fill]
  simp only [read_unread_whole]
  canon_tiles x h
  · have en : n = 3 := Fin.ext (by have u1 : (x 1).val < 512 := (x 1).isLt; show n.val = 3; omega)
    subst en
    rw [out3_eq]
    unfold outP
    refine outF_congr (fun z => ?_) (fun z => ?_) (fun z => ?_) (fun z => ?_) (fun z => ?_) (fun z => ?_) (fun z => ?_) (fun z => ?_) ?_
    · pointwise [colW]
    · pointwise [colB]
    · pointwise [colQ]
    · pointwise [colQ]
    · pointwise [colV]
    · pointwise [stH]
    · pointwise [colH]
    · pointwise [colV]
    · refine funext fun a => Fin.ext ?_
      fin_cases a
      · show (x 0).val = i.val; omega
      · show (x 1).val = e.val; simp at ye; omega
  · have en : n = 2 := Fin.ext (by have u1 : (x 1).val < 512 := (x 1).isLt; show n.val = 2; omega)
    subst en
    rw [out2_eq]
    unfold outP
    refine outF_congr (fun z => ?_) (fun z => ?_) (fun z => ?_) (fun z => ?_) (fun z => ?_) (fun z => ?_) (fun z => ?_) (fun z => ?_) ?_
    · pointwise [colW]
    · pointwise [colB]
    · pointwise [colQ]
    · pointwise [colQ]
    · pointwise [colV]
    · pointwise [stH]
    · pointwise [colH]
    · pointwise [colV]
    · refine funext fun a => Fin.ext ?_
      fin_cases a
      · show (x 0).val = i.val; omega
      · show (x 1).val = e.val; simp at ye; omega
  · have en : n = 1 := Fin.ext (by have u1 : (x 1).val < 512 := (x 1).isLt; show n.val = 1; omega)
    subst en
    rw [out1_eq]
    unfold outP
    refine outF_congr (fun z => ?_) (fun z => ?_) (fun z => ?_) (fun z => ?_) (fun z => ?_) (fun z => ?_) (fun z => ?_) (fun z => ?_) ?_
    · pointwise [colW]
    · pointwise [colB]
    · pointwise [colQ]
    · pointwise [colQ]
    · pointwise [colV]
    · pointwise [stH]
    · pointwise [colH]
    · pointwise [colV]
    · refine funext fun a => Fin.ext ?_
      fin_cases a
      · show (x 0).val = i.val; omega
      · show (x 1).val = e.val; simp at ye; omega
  · have en : n = 0 := Fin.ext (by have u1 : (x 1).val < 512 := (x 1).isLt; show n.val = 0; omega)
    subst en
    rw [out0_eq]
    unfold outP
    refine outF_congr (fun z => ?_) (fun z => ?_) (fun z => ?_) (fun z => ?_) (fun z => ?_) (fun z => ?_) (fun z => ?_) (fun z => ?_) ?_
    · pointwise [colW]
    · pointwise [colB]
    · pointwise [colQ]
    · pointwise [colQ]
    · pointwise [colV]
    · pointwise [stH]
    · pointwise [colH]
    · pointwise [colV]
    · refine funext fun a => Fin.ext ?_
      fin_cases a
      · show (x 0).val = i.val; omega
      · show (x 1).val = e.val; simp at ye; omega

/-- The result of the first point. -/
theorem outA (c : Dev nD) (t : Fin cfg0.N) (acc) (b0 : t.val % 32 = 0) (y : S256x2048.Idx) (n : Fin 4) (i : Fin 256) (e : Fin 512) (yi : (y 0).val = i.val) (ye : (y 1).val = 512 * n.val + e.val) :
    (stAt0 m c t.val t.isLt acc).1 y = outP m c t (k0_pay2 (F := Ideal)) n (ix2 i e) := by
  rw [stAt0_A m c t acc b0]
  dsimp only
  frame_out
  try simp (disch := decide) only [↓View.readCov_skip, ↓View.readCov_fill]
  canon_tiles x h
  · have en : n = 3 := Fin.ext (by have u1 : (x 1).val < 512 := (x 1).isLt; show n.val = 3; omega)
    subst en
    rw [out3_eq]
    unfold outP
    refine outF_congr (fun z => ?_) (fun z => ?_) (fun z => ?_) (fun z => ?_) (fun z => ?_) (fun z => ?_) (fun z => ?_) (fun z => ?_) ?_
    · pointwise [colW]
    · pointwise [colB]
    · pointwise [colQ]
    · pointwise [colQ]
    · pointwise [colV]
    · pointwise [stH]
    · pointwise [colH]
    · pointwise [colV]
    · refine funext fun a => Fin.ext ?_
      fin_cases a
      · show (x 0).val = i.val; omega
      · show (x 1).val = e.val; simp at ye; omega
  · have en : n = 2 := Fin.ext (by have u1 : (x 1).val < 512 := (x 1).isLt; show n.val = 2; omega)
    subst en
    rw [out2_eq]
    unfold outP
    refine outF_congr (fun z => ?_) (fun z => ?_) (fun z => ?_) (fun z => ?_) (fun z => ?_) (fun z => ?_) (fun z => ?_) (fun z => ?_) ?_
    · pointwise [colW]
    · pointwise [colB]
    · pointwise [colQ]
    · pointwise [colQ]
    · pointwise [colV]
    · pointwise [stH]
    · pointwise [colH]
    · pointwise [colV]
    · refine funext fun a => Fin.ext ?_
      fin_cases a
      · show (x 0).val = i.val; omega
      · show (x 1).val = e.val; simp at ye; omega
  · have en : n = 1 := Fin.ext (by have u1 : (x 1).val < 512 := (x 1).isLt; show n.val = 1; omega)
    subst en
    rw [out1_eq]
    unfold outP
    refine outF_congr (fun z => ?_) (fun z => ?_) (fun z => ?_) (fun z => ?_) (fun z => ?_) (fun z => ?_) (fun z => ?_) (fun z => ?_) ?_
    · pointwise [colW]
    · pointwise [colB]
    · pointwise [colQ]
    · pointwise [colQ]
    · pointwise [colV]
    · pointwise [stH]
    · pointwise [colH]
    · pointwise [colV]
    · refine funext fun a => Fin.ext ?_
      fin_cases a
      · show (x 0).val = i.val; omega
      · show (x 1).val = e.val; simp at ye; omega
  · have en : n = 0 := Fin.ext (by have u1 : (x 1).val < 512 := (x 1).isLt; show n.val = 0; omega)
    subst en
    rw [out0_eq]
    unfold outP
    refine outF_congr (fun z => ?_) (fun z => ?_) (fun z => ?_) (fun z => ?_) (fun z => ?_) (fun z => ?_) (fun z => ?_) (fun z => ?_) ?_
    · pointwise [colW]
    · pointwise [colB]
    · pointwise [colQ]
    · pointwise [colQ]
    · pointwise [colV]
    · pointwise [stH]
    · pointwise [colH]
    · pointwise [colV]
    · refine funext fun a => Fin.ext ?_
      fin_cases a
      · show (x 0).val = i.val; omega
      · show (x 1).val = e.val; simp at ye; omega

/-- The state a later point leaves. -/
theorem stB (c : Dev nD) (t : Fin cfg0.N) (acc) (b0 : ¬t.val % 32 = 0) (y : S4x512x256.Idx) (n : Fin 4) (e : Fin 512) (d : Fin 256) (yn : (y 0).val = n.val) (ye : (y 1).val = e.val) (yd : (y 2).val = d.val) :
    (stAt0 m c t.val t.isLt acc).2 y = stP m c t acc.2 n (ix3 0 e d) := by
  rw [stAt0_B m c t acc b0]
  dsimp only
  frame_out
  try simp (disch := decide) only [↓View.readCov_skip, ↓View.readCov_fill]
  simp only [read_unread_whole]
  canon_tiles x h
  · have en : n = 3 := Fin.ext (by have u0 : (x 0).val < 1 := (x 0).isLt; show n.val = 3; omega)
    subst en
    rw [st3_eq]
    unfold stP
    refine stF_congr (fun z => ?_) (fun z => ?_) (fun z => ?_) (fun z => ?_) (fun z => ?_) ?_
    · pointwise [colW]
    · pointwise [colB]
    · pointwise [colQ]
    · pointwise [colV]
    · pointwise [stH]
    · refine funext fun a => Fin.ext ?_
      fin_cases a
      · have u0 : (x 0).val < 1 := (x 0).isLt
        show (x 0).val = 0; omega
      · show (x 1).val = e.val; omega
      · show (x 2).val = d.val; omega
  · have en : n = 2 := Fin.ext (by have u0 : (x 0).val < 1 := (x 0).isLt; show n.val = 2; omega)
    subst en
    rw [st2_eq]
    unfold stP
    refine stF_congr (fun z => ?_) (fun z => ?_) (fun z => ?_) (fun z => ?_) (fun z => ?_) ?_
    · pointwise [colW]
    · pointwise [colB]
    · pointwise [colQ]
    · pointwise [colV]
    · pointwise [stH]
    · refine funext fun a => Fin.ext ?_
      fin_cases a
      · have u0 : (x 0).val < 1 := (x 0).isLt
        show (x 0).val = 0; omega
      · show (x 1).val = e.val; omega
      · show (x 2).val = d.val; omega
  · have en : n = 1 := Fin.ext (by have u0 : (x 0).val < 1 := (x 0).isLt; show n.val = 1; omega)
    subst en
    rw [st1_eq]
    unfold stP
    refine stF_congr (fun z => ?_) (fun z => ?_) (fun z => ?_) (fun z => ?_) (fun z => ?_) ?_
    · pointwise [colW]
    · pointwise [colB]
    · pointwise [colQ]
    · pointwise [colV]
    · pointwise [stH]
    · refine funext fun a => Fin.ext ?_
      fin_cases a
      · have u0 : (x 0).val < 1 := (x 0).isLt
        show (x 0).val = 0; omega
      · show (x 1).val = e.val; omega
      · show (x 2).val = d.val; omega
  · have en : n = 0 := Fin.ext (by have u0 : (x 0).val < 1 := (x 0).isLt; show n.val = 0; omega)
    subst en
    rw [st0_eq]
    unfold stP
    refine stF_congr (fun z => ?_) (fun z => ?_) (fun z => ?_) (fun z => ?_) (fun z => ?_) ?_
    · pointwise [colW]
    · pointwise [colB]
    · pointwise [colQ]
    · pointwise [colV]
    · pointwise [stH]
    · refine funext fun a => Fin.ext ?_
      fin_cases a
      · have u0 : (x 0).val < 1 := (x 0).isLt
        show (x 0).val = 0; omega
      · show (x 1).val = e.val; omega
      · show (x 2).val = d.val; omega

/-- Stores made before ones that cover an index leave nothing of themselves there. -/
theorem canon_drop {Val : EltTy → Type} [∀ e, Nonempty (Val e)] {s : Shape} {e : EltTy} (L L' : List (View.Piece Val s e)) (y : s.Idx)
    (hy : ∃ p ∈ L, y ∈ p.1.set) : View.canon (L ++ L') y = View.canon L y := by
  induction L with
  | nil => obtain ⟨p, hp, _⟩ := hy; simp at hp
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := hy
      rcases List.mem_cons.mp hq with rfl | hq'
      · exact absurd hyq hm
      · exact ih ⟨q, hq', hyq⟩

/-- The state the first point leaves. -/
theorem stA (c : Dev nD) (t : Fin cfg0.N) (acc) (b0 : t.val % 32 = 0) (y : S4x512x256.Idx) (n : Fin 4) (e : Fin 512) (d : Fin 256) (yn : (y 0).val = n.val) (ye : (y 1).val = e.val) (yd : (y 2).val = d.val) :
    (stAt0 m c t.val t.isLt acc).2 y = stP m c t (k0_pay2 (F := Ideal)) n (ix3 0 e d) := by
  rw [stAt0_A m c t acc b0]
  dsimp only
  frame_out
  try simp (disch := decide) only [↓View.readCov_skip, ↓View.readCov_fill]
  refine (canon_drop [_, _, _, _] _ y ?_).trans ?_
  · have y1 : (y 1).val < 512 := (y 1).isLt
    have y2 : (y 2).val < 256 := (y 2).isLt
    have yN : (y 0).val = 3 ∨ (y 0).val = 2 ∨ (y 0).val = 1 ∨ (y 0).val = 0 := by omega
    rcases yN with e0 | e0 | e0 | e0
    · refine ⟨_, List.mem_cons_self, (Rect.mem_set_unit (inb := inb_S4x512x256_S1x512x256_3_0_0)).2 fun a => ?_⟩
      fin_cases a <;> simp <;> omega
    · refine ⟨_, List.mem_cons_of_mem _ List.mem_cons_self, (Rect.mem_set_unit (inb := inb_S4x512x256_S1x512x256_2_0_0)).2 fun a => ?_⟩
      fin_cases a <;> simp <;> omega
    · refine ⟨_, List.mem_cons_of_mem _ (List.mem_cons_of_mem _ List.mem_cons_self), (Rect.mem_set_unit (inb := inb_S4x512x256_S1x512x256_1_0_0)).2 fun a => ?_⟩
      fin_cases a <;> simp <;> omega
    · refine ⟨_, List.mem_cons_of_mem _ (List.mem_cons_of_mem _ (List.mem_cons_of_mem _ List.mem_cons_self)), (Rect.mem_set_unit (inb := inb_S4x512x256_S1x512x256_0_0_0)).2 fun a => ?_⟩
      fin_cases a <;> simp <;> omega
  canon_tiles x h
  · have en : n = 3 := Fin.ext (by have u0 : (x 0).val < 1 := (x 0).isLt; show n.val = 3; omega)
    subst en
    rw [st3_eq]
    unfold stP
    refine stF_congr (fun z => ?_) (fun z => ?_) (fun z => ?_) (fun z => ?_) (fun z => ?_) ?_
    · pointwise [colW]
    · pointwise [colB]
    · pointwise [colQ]
    · pointwise [colV]
    · pointwise [stH]
    · refine funext fun a => Fin.ext ?_
      fin_cases a
      · have u0 : (x 0).val < 1 := (x 0).isLt
        show (x 0).val = 0; omega
      · show (x 1).val = e.val; omega
      · show (x 2).val = d.val; omega
  · have en : n = 2 := Fin.ext (by have u0 : (x 0).val < 1 := (x 0).isLt; show n.val = 2; omega)
    subst en
    rw [st2_eq]
    unfold stP
    refine stF_congr (fun z => ?_) (fun z => ?_) (fun z => ?_) (fun z => ?_) (fun z => ?_) ?_
    · pointwise [colW]
    · pointwise [colB]
    · pointwise [colQ]
    · pointwise [colV]
    · pointwise [stH]
    · refine funext fun a => Fin.ext ?_
      fin_cases a
      · have u0 : (x 0).val < 1 := (x 0).isLt
        show (x 0).val = 0; omega
      · show (x 1).val = e.val; omega
      · show (x 2).val = d.val; omega
  · have en : n = 1 := Fin.ext (by have u0 : (x 0).val < 1 := (x 0).isLt; show n.val = 1; omega)
    subst en
    rw [st1_eq]
    unfold stP
    refine stF_congr (fun z => ?_) (fun z => ?_) (fun z => ?_) (fun z => ?_) (fun z => ?_) ?_
    · pointwise [colW]
    · pointwise [colB]
    · pointwise [colQ]
    · pointwise [colV]
    · pointwise [stH]
    · refine funext fun a => Fin.ext ?_
      fin_cases a
      · have u0 : (x 0).val < 1 := (x 0).isLt
        show (x 0).val = 0; omega
      · show (x 1).val = e.val; omega
      · show (x 2).val = d.val; omega
  · have en : n = 0 := Fin.ext (by have u0 : (x 0).val < 1 := (x 0).isLt; show n.val = 0; omega)
    subst en
    rw [st0_eq]
    unfold stP
    refine stF_congr (fun z => ?_) (fun z => ?_) (fun z => ?_) (fun z => ?_) (fun z => ?_) ?_
    · pointwise [colW]
    · pointwise [colB]
    · pointwise [colQ]
    · pointwise [colV]
    · pointwise [stH]
    · refine funext fun a => Fin.ext ?_
      fin_cases a
      · have u0 : (x 0).val < 1 := (x 0).isLt
        show (x 0).val = 0; omega
      · show (x 1).val = e.val; omega
      · show (x 2).val = d.val; omega

end Cert.GlaPoint
end
-- ==== Proof.GlaArrays.lean ====
module

public import proofs.«01_k».proof.Proof.Gen.KernelIdeal.Value
public import proofs.«01_k».proof.Proof.GlaHead
public import Idealize.ShloMosaic.Lib.Pipeline.ValueKit
public import Idealize.ShloMosaic.Lib.Pointwise
public import Idealize.ShloMosaic.Lib.Claim
public import Idealize.ShloMosaic.Lib.Routing.OpsSet

/-! The arrays the host hands to the kernel: the projection with its columns in the kernel's order, the gate
    weight with its zero rows, and the stacked matrices of ones. -/

@[expose] public section

set_option maxRecDepth 16384
noncomputable section
open Idealize.ShloMosaic Idealize.ShloMosaic.TcCoe Idealize.SL.Sem
open Idealize.ShloMosaic.Pipeline (Dat)
namespace Cert.GlaArrays
open Cert.KernelIdeal Cert.KernelIdeal.Gen Cert.KernelIdeal.Value
variable (m : (ℓ : Loc nD τ sig) → Buf (Elt Ideal) ℓ)

/-- The projection, its columns in the order the kernel reads them. -/
def projF (a : FVec Ideal S8192x13664 .f32) : FVec Ideal S8192x13824 .f32 :=
  concatenate S8192x13824 1 [⟨S8192x2048, extractStridedSlice S8192x2048 ![0, 2048] a slices_S8192x13664_S8192x2048_0_2048⟩,
    ⟨S8192x2048, extractStridedSlice S8192x2048 ![0, 4096] a slices_S8192x13664_S8192x2048_0_4096⟩,
    ⟨S8192x2048, extractStridedSlice S8192x2048 ![0, 6160] a slices_S8192x13664_S8192x2048_0_6160⟩,
    ⟨S8192x2048, extractStridedSlice S8192x2048 ![0, 9568] a slices_S8192x13664_S8192x2048_0_9568⟩,
    ⟨S8192x2048, extractStridedSlice S8192x2048 ![0, 11616] a slices_S8192x13664_S8192x2048_0_11616⟩,
    ⟨S8192x1024, extractStridedSlice S8192x1024 ![0, 0] a slices_S8192x13664_S8192x1024_0_0⟩,
    ⟨S8192x1024, extractStridedSlice S8192x1024 ![0, 1024] a slices_S8192x13664_S8192x1024_0_1024⟩,
    ⟨S8192x1024, extractStridedSlice S8192x1024 ![0, 8464] a slices_S8192x13664_S8192x1024_0_8464⟩,
    ⟨S8192x128, extractStridedSlice S8192x128 ![0, 8208] a slices_S8192x13664_S8192x128_0_8208⟩,
    ⟨S8192x128, extractStridedSlice S8192x128 ![0, 8336] a slices_S8192x13664_S8192x128_0_8336⟩,
    ⟨S8192x64, extractStridedSlice S8192x64 ![0, 9488] a slices_S8192x13664_S8192x64_0_9488⟩,
    ⟨S8192x16, extractStridedSlice S8192x16 ![0, 6144] a slices_S8192x13664_S8192x16_0_6144⟩,
    ⟨S8192x16, extractStridedSlice S8192x16 ![0, 9552] a slices_S8192x13664_S8192x16_0_9552⟩,
    ⟨S8192x160, broadcastInDim S8192x160 ![] bcast_S_S8192x160 (constant S_ .f32 0x00000000#32)⟩]
    concatenates_S8192x2048_S8192x2048_S8192x2048_S8192x2048_S8192x2048_S8192x1024_S8192x1024_S8192x1024_S8192x128_S8192x128_S8192x64_S8192x16_S8192x16_S8192x160_S8192x13824_d1

/-- The gate weight, laid into rows of zeros. -/
def w2F (w : FVec Ideal S16x1024 .f32) : FVec Ideal S128x1024 .f32 :=
  Host.scatter scatter_S128x1024_S1_S16x1024_01_n_0_0 (fun _ b => b)
    (broadcastInDim S128x1024 ![] bcast_S_S128x1024 (constant S_ .f32 0x00000000#32))
    (broadcastInDim S1 ![] bcast_S_S1 (constantI S_ 32 64#32)) w

/-- A number, everywhere. -/
def cF (n : BitVec 32) : IVec S256x256 32 := broadcastInDim S256x256 ![] bcast_S_S256x256 (constantI S_ 32 n)

/-- The ones at the columns up to a bound. -/
def leF (y : IVec S256x256 32) : FVec Ideal S256x256 .f32 := uitofp .f32 (cmpi .sle (iotaInDim S256x256 32 1) y)

/-- The columns up to the row, less the columns before the row's level-`n` split. -/
def midF (n h : BitVec 32) : IVec S256x256 32 := subi (addi (muli (Host.divsi (iotaInDim S256x256 32 0) (cF n)) (cF n)) (cF h)) (cF 1#32)

/-- The start of the row's tile. -/
def tileF : IVec S256x256 32 := muli (Host.divsi (iotaInDim S256x256 32 0) (cF 16#32)) (cF 16#32)

/-- The stacked matrices of ones. -/
def matF : FVec Ideal S1792x256 .bf16 :=
  truncf .bf16 (concatenate S1792x256 0 [⟨S256x256, leF (iotaInDim S256x256 32 0)⟩,
    ⟨S256x256, uitofp .f32 (cmpi .sgt (iotaInDim S256x256 32 1) (iotaInDim S256x256 32 0))⟩,
    ⟨S256x256, subf (leF (iotaInDim S256x256 32 0)) (leF (midF 256#32 128#32))⟩,
    ⟨S256x256, subf (leF (iotaInDim S256x256 32 0)) (leF (midF 128#32 64#32))⟩,
    ⟨S256x256, subf (leF (iotaInDim S256x256 32 0)) (leF (midF 64#32 32#32))⟩,
    ⟨S256x256, subf (leF (iotaInDim S256x256 32 0)) (leF (midF 32#32 16#32))⟩,
    ⟨S256x256, subf (leF (iotaInDim S256x256 32 0)) (leF tileF)⟩]
    concatenates_S256x256_S256x256_S256x256_S256x256_S256x256_S256x256_S256x256_S1792x256_d0) bitsLt_bf16_f32

/-- The value columns. -/
theorem proj_v (a : FVec Ideal S8192x13664 .f32) (r : Fin 8192) (x : Fin 2048) :
    projF a (ix2 r ⟨x.val, by omega⟩) = a (ix2 r ⟨2048 + x.val, by omega⟩) := by
  pointwise [projF]
/-- The output-gate columns. -/
theorem proj_r (a : FVec Ideal S8192x13664 .f32) (r : Fin 8192) (x : Fin 2048) :
    projF a (ix2 r ⟨2048 + x.val, by omega⟩) = a (ix2 r ⟨4096 + x.val, by omega⟩) := by
  pointwise [projF]
/-- The query columns. -/
theorem proj_q (a : FVec Ideal S8192x13664 .f32) (r : Fin 8192) (x : Fin 1024) :
    projF a (ix2 r ⟨10240 + x.val, by omega⟩) = a (ix2 r ⟨x.val, by omega⟩) := by
  pointwise [projF]
  iterate 5 (refine (dif_neg (by omega)).trans ?_)
  refine (dif_pos (by omega)).trans ?_
  exact congrArg a (congrArg (ix2 r) (Fin.ext (by dsimp only; omega)))
/-- The key columns. -/
theorem proj_k (a : FVec Ideal S8192x13664 .f32) (r : Fin 8192) (x : Fin 1024) :
    projF a (ix2 r ⟨11264 + x.val, by omega⟩) = a (ix2 r ⟨1024 + x.val, by omega⟩) := by
  pointwise [projF]
  iterate 6 (refine (dif_neg (by omega)).trans ?_)
  refine (dif_pos (by omega)).trans ?_
  exact congrArg a (congrArg (ix2 r) (Fin.ext (by dsimp only; omega)))
/-- The gate's low-rank columns. -/
theorem proj_g (a : FVec Ideal S8192x13664 .f32) (r : Fin 8192) (x : Fin 16) :
    projF a (ix2 r ⟨13632 + x.val, by omega⟩) = a (ix2 r ⟨6144 + x.val, by omega⟩) := by
  pointwise [projF]
  iterate 11 (refine (dif_neg (by omega)).trans ?_)
  refine (dif_pos (by omega)).trans ?_
  exact congrArg a (congrArg (ix2 r) (Fin.ext (by dsimp only; omega)))

/-- Where an update row of the gate weight lands. -/
theorem w2_lands (k : S16x1024.Idx) (idx : IVec S1 32) (hi : ∀ j, idx j = 64#32) :
    scatter_S128x1024_S1_S16x1024_01_n_0_0.resultIdx? k idx = some (ix2 ⟨64 + (k 0).val, by have := (k 0).isLt; show _ < 128; have : (k 0).val < 16 := (k 0).isLt; omega⟩ (k 1)) := by
  have hs : ∀ a, scatter_S128x1024_S1_S16x1024_01_n_0_0.start k idx a = if a = 0 then 64 else 0 := by
    intro a
    unfold ScatterDims.start
    fin_cases a
    · rw [dif_pos (by decide), hi]; rfl
    · rw [dif_neg (by decide)]; rfl
  have hw : ∀ a, scatter_S128x1024_S1_S16x1024_01_n_0_0.window k a = (k a).val := by
    intro a
    unfold ScatterDims.window
    fin_cases a
    · rw [dif_pos (by decide)]; rfl
    · rw [dif_pos (by decide)]; rfl
  have h0 : (k 0).val < 16 := (k 0).isLt
  have h1 : (k 1).val < 1024 := (k 1).isLt
  unfold ScatterDims.resultIdx?
  rw [dif_pos]
  · congr 1
    funext a
    apply Fin.ext
    fin_cases a
    · simp [hs, hw]; omega
    · simp [hs, hw]
  · intro a
    rw [hs, hw]
    fin_cases a
    · simp; omega
    · simp; omega

/-- The gate weight's own rows. -/
theorem w2_in (w : FVec Ideal S16x1024 .f32) (c : Fin 16) (d : Fin 1024) : w2F w (ix2 ⟨64 + c.val, by omega⟩ d) = w (ix2 c d) := by
  refine Routing.scatter_set_hit _ _ _ _ _ _ (fun k hk => ?_) (ix2 c d) ?_
  · replace hk := (w2_lands k _ (fun _ => rfl)).symm.trans hk
    have hk' := Option.some.inj hk
    have e0 := congrArg Fin.val (congrFun hk' 0)
    have e1 := congrArg Fin.val (congrFun hk' 1)
    congr 1
    funext a
    apply Fin.ext
    fin_cases a
    · have : 64 + (k 0).val = 64 + c.val := e0
      show (k 0).val = c.val
      omega
    · exact e1
  · exact (w2_lands (ix2 c d) _ (fun _ => rfl)).trans rfl

/-- The other rows are zero. -/
theorem w2_out (w : FVec Ideal S16x1024 .f32) (x : Fin 128) (d : Fin 1024) (hx : x.val < 64 ∨ 80 ≤ x.val) : w2F w (ix2 x d) = 0 := by
  refine (Routing.scatter_set_miss _ _ _ _ _ (fun k hk => ?_)).trans ?_
  · replace hk := (w2_lands k _ (fun _ => rfl)).symm.trans hk
    have e0 := congrArg Fin.val (congrFun (Option.some.inj hk) 0)
    have : 64 + (k 0).val = x.val := e0
    have h0 : (k 0).val < 16 := (k 0).isLt
    omega
  · pointwise

/-- A comparison of small words is the comparison of the numbers. -/
theorem sle_small (x n : ℕ) (hx : x < 256) (hn : n < 256) : (BitVec.ofNat 32 x).sle (BitVec.ofNat 32 n) = decide (x ≤ n) := by
  have h : ∀ k, k < 256 → (BitVec.ofNat 32 k).toInt = k := by
    intro k hk
    rw [BitVec.toInt_eq_toNat_of_lt] <;> simp [BitVec.toNat_ofNat] <;> omega
  rw [BitVec.sle, h x hx, h n hn]
  simp

/-- A row of ones up to a bound. -/
theorem le_at (y : IVec S256x256 32) (i x : Fin 256) (n : ℕ) (hn : n < 256) (hy : y (ix2 i x) = BitVec.ofNat 32 n) :
    leF y (ix2 i x) = ((if x.val < n + 1 then 1 else 0 : ℝ) : EReal) := by
  pointwise [leF]
  rw [hy]
  show (((BitVec.ofBool ((BitVec.ofNat 32 x.val).sle (BitVec.ofNat 32 n))).toNat : ℝ) : EReal) = _
  rw [sle_small _ _ x.isLt hn]
  by_cases h : x.val ≤ n
  · rw [if_pos (by omega)]; simp [h]
  · rw [if_neg (by omega)]; simp [h]

/-- The word that bounds a row's lower ones, level by level. -/
theorem word (n h : BitVec 32) (k : ℕ) (hk : ∀ i : Fin 256, IntOp.subi (IntOp.addi (IntOp.muli (IntOp.divsi ArithUnit.host (BitVec.ofNat 32 i.val) n) n) h) 1#32 =
    BitVec.ofNat 32 (Cert.GlaMath.anc k i.val)) (i x : Fin 256) : midF n h (ix2 i x) = BitVec.ofNat 32 (Cert.GlaMath.anc k i.val) := by
  pointwise [midF, cF]
  exact hk i

/-- The bounds fit in a row. -/
theorem anc_lt : ∀ i : Fin 256, Cert.GlaMath.anc 128 i.val < 256 ∧ Cert.GlaMath.anc 64 i.val < 256 ∧ Cert.GlaMath.anc 32 i.val < 256 ∧ Cert.GlaMath.anc 16 i.val < 256 := by decide +kernel

/-- The first anchor table at a row: the middle of the row's block of 256. -/
theorem mid0 (i x : Fin 256) : midF 256#32 128#32 (ix2 i x) = BitVec.ofNat 32 (Cert.GlaMath.anc 128 i.val) := word _ _ _ (by decide +kernel) i x
/-- The second anchor table at a row: the middle of the row's block of 128. -/
theorem mid1 (i x : Fin 256) : midF 128#32 64#32 (ix2 i x) = BitVec.ofNat 32 (Cert.GlaMath.anc 64 i.val) := word _ _ _ (by decide +kernel) i x
/-- The third anchor table at a row: the middle of the row's block of 64. -/
theorem mid2 (i x : Fin 256) : midF 64#32 32#32 (ix2 i x) = BitVec.ofNat 32 (Cert.GlaMath.anc 32 i.val) := word _ _ _ (by decide +kernel) i x
/-- The fourth anchor table at a row: the middle of the row's block of 32. -/
theorem mid3 (i x : Fin 256) : midF 32#32 16#32 (ix2 i x) = BitVec.ofNat 32 (Cert.GlaMath.anc 16 i.val) := word _ _ _ (by decide +kernel) i x
/-- The table of diagonal tiles: the first row of the row's tile of 16. -/
theorem tile (i x : Fin 256) : tileF (ix2 i x) = BitVec.ofNat 32 (i.val / 16 * 16) := by
  pointwise [tileF, cF]
  revert i; decide +kernel
/-- The table of row numbers at a row. -/
theorem row (i x : Fin 256) : (iotaInDim S256x256 32 0 : IVec S256x256 32) (ix2 i x) = BitVec.ofNat 32 i.val := by
  pointwise

/-- The ones after the row. -/
theorem gt_at (i : ℕ) (x : Fin 256) (hi : i < 256) : (FloatOps.uitofp (F := Ideal) .f32 (IntOp.cmpi .sgt (BitVec.ofNat 32 x.val) (BitVec.ofNat 32 i)) : EReal)
    = ((1 - (if x.val < i + 1 then 1 else 0) : ℝ) : EReal) := by
  show (((BitVec.ofBool ((BitVec.ofNat 32 i).slt (BitVec.ofNat 32 x.val))).toNat : ℝ) : EReal) = _
  have e : (BitVec.ofNat 32 i).slt (BitVec.ofNat 32 x.val) = !((BitVec.ofNat 32 x.val).sle (BitVec.ofNat 32 i)) := by
    rw [BitVec.slt, BitVec.sle]
    by_cases h : (BitVec.ofNat 32 x.val).toInt ≤ (BitVec.ofNat 32 i).toInt
    · simp [h, not_lt.2 h]
    · simp [h, not_le.1 h]
  rw [e, sle_small _ _ x.isLt hi]
  by_cases h : x.val ≤ i
  · rw [if_pos (by omega)]; simp [h]
  · rw [if_neg (by omega)]; simp [h]

/-- A level's block of rows. -/
theorem lev_at (y : IVec S256x256 32) (i x : Fin 256) (n : ℕ) (hn : n < 256) (hy : y (ix2 i x) = BitVec.ofNat 32 n) :
    leF (iotaInDim S256x256 32 0) (ix2 i x) - leF y (ix2 i x) = (((if x.val < i.val + 1 then 1 else 0) - (if x.val < n + 1 then 1 else 0) : ℝ) : EReal) := by
  rw [le_at _ i x i.val i.isLt (row i x), le_at y i x n hn hy, EReal.coe_sub]

set_option maxHeartbeats 1000000 in
/-- The stacked matrices, row by row. -/
theorem mat_at (t : Fin 1792) (x : Fin 256) :
    matF (ix2 t x) = (((if x.val < Cert.GlaHead.mhi t.val then 1 else 0) - (if x.val < Cert.GlaHead.mlo t.val then 1 else 0) : ℝ) : EReal) := by
  pointwise [matF]
  unfold Cert.GlaHead.mhi Cert.GlaHead.mlo
  by_cases h0 : t.val < 256
  · rw [dif_pos h0, le_at _ _ x t.val h0 (row _ x), if_pos h0, if_pos h0]
    simp
  rw [dif_neg h0, if_neg h0, if_neg h0]
  by_cases h1 : t.val < 512
  · rw [dif_pos (by omega), gt_at _ x (by omega), if_pos h1, if_pos h1, if_pos x.isLt, show t.val % 256 = t.val - 256 by omega]
  rw [dif_neg (by omega), if_neg h1, if_neg h1]
  by_cases h2 : t.val < 768
  · rw [dif_pos (by omega), if_pos h2, show t.val % 256 = t.val - 256 - 256 by omega]
    have hi : t.val - 256 - 256 < 256 := by omega
    exact lev_at (midF 256#32 128#32) ⟨t.val - 256 - 256, hi⟩ x (Cert.GlaMath.anc 128 (t.val - 256 - 256)) (anc_lt ⟨t.val - 256 - 256, hi⟩).1 (mid0 ⟨t.val - 256 - 256, hi⟩ x)
  rw [dif_neg (by omega), if_neg h2]
  by_cases h3 : t.val < 1024
  · rw [dif_pos (by omega), if_pos h3, show t.val % 256 = t.val - 256 - 256 - 256 by omega]
    have hi : t.val - 256 - 256 - 256 < 256 := by omega
    exact lev_at (midF 128#32 64#32) ⟨t.val - 256 - 256 - 256, hi⟩ x (Cert.GlaMath.anc 64 (t.val - 256 - 256 - 256)) (anc_lt ⟨t.val - 256 - 256 - 256, hi⟩).2.1 (mid1 ⟨t.val - 256 - 256 - 256, hi⟩ x)
  rw [dif_neg (by omega), if_neg h3]
  by_cases h4 : t.val < 1280
  · rw [dif_pos (by omega), if_pos h4, show t.val % 256 = t.val - 256 - 256 - 256 - 256 by omega]
    have hi : t.val - 256 - 256 - 256 - 256 < 256 := by omega
    exact lev_at (midF 64#32 32#32) ⟨t.val - 256 - 256 - 256 - 256, hi⟩ x (Cert.GlaMath.anc 32 (t.val - 256 - 256 - 256 - 256)) (anc_lt ⟨t.val - 256 - 256 - 256 - 256, hi⟩).2.2.1 (mid2 ⟨t.val - 256 - 256 - 256 - 256, hi⟩ x)
  rw [dif_neg (by omega), if_neg h4]
  have ht := t.isLt
  by_cases h5 : t.val < 1536
  · rw [dif_pos (by omega), if_pos h5, show t.val % 256 = t.val - 256 - 256 - 256 - 256 - 256 by omega]
    have hi : t.val - 256 - 256 - 256 - 256 - 256 < 256 := by omega
    exact lev_at (midF 32#32 16#32) ⟨t.val - 256 - 256 - 256 - 256 - 256, hi⟩ x (Cert.GlaMath.anc 16 (t.val - 256 - 256 - 256 - 256 - 256)) (anc_lt ⟨t.val - 256 - 256 - 256 - 256 - 256, hi⟩).2.2.2 (mid3 ⟨t.val - 256 - 256 - 256 - 256 - 256, hi⟩ x)
  · rw [dif_neg (by omega), if_neg h5, show t.val % 256 = t.val - 256 - 256 - 256 - 256 - 256 - 256 by omega]
    have hi : t.val - 256 - 256 - 256 - 256 - 256 - 256 < 256 := by omega
    exact lev_at tileF ⟨t.val - 256 - 256 - 256 - 256 - 256 - 256, hi⟩ x ((t.val - 256 - 256 - 256 - 256 - 256 - 256) / 16 * 16) (by omega) (tile ⟨t.val - 256 - 256 - 256 - 256 - 256 - 256, hi⟩ x)

end Cert.GlaArrays
end
-- ==== Proof.GlaEntry.lean ====
module

public import proofs.«01_k».proof.Proof.Gen.KernelIdeal.Value
public import proofs.«01_k».proof.Proof.GlaArrays
public import Idealize.ShloMosaic.Lib.Pipeline.ValueKit
public import Idealize.ShloMosaic.Lib.Pointwise
public import Idealize.ShloMosaic.Lib.Claim
public import Idealize.ShloMosaic.Lib.Routing.OpsSet

/-! What the arrays at the call are: the host operations composed. -/

@[expose] public section

set_option maxRecDepth 16384
noncomputable section
open Idealize.ShloMosaic Idealize.ShloMosaic.TcCoe Idealize.SL.Sem
open Idealize.ShloMosaic.Pipeline (Dat)
namespace Cert.GlaEntry
open Cert.GlaArrays Cert.KernelIdeal Cert.KernelIdeal.Gen Cert.KernelIdeal.Value
variable (m : (ℓ : Loc nD τ sig) → Buf (Elt Ideal) ℓ)

set_option maxRecDepth 200000 in
set_option maxHeartbeats 2000000 in
/-- The projection's array at the call. -/
theorem v14 (c : Dev nD) : V m c main_v14 = projF (m ((c.tc : Thread nD τ).loc main_arg0)) := rfl

/-- The gate weight's array at the call. -/
theorem v17 (c : Dev nD) : V m c main_v17 = w2F (m ((c.tc : Thread nD τ).loc main_arg1)) := by
  entry_read; rfl

set_option maxRecDepth 200000 in
set_option maxHeartbeats 8000000 in
/-- The stacked matrices' array at the call. -/
theorem v76 (c : Dev nD) : V m c main_v76 = matF := by
  unfold matF tileF midF leF cF
  rfl

set_option maxRecDepth 200000 in
set_option maxHeartbeats 2000000 in
/-- The gate bias at the call. -/
theorem v77 (c : Dev nD) : V m c main_v77 = (shapeCast S1x1024 (m ((c.tc : Thread nD τ).loc main_arg2) : FVec Ideal S1024 .f32) shapeCasts_S1024_S1x1024 : FVec Ideal S1x1024 .f32) := rfl

set_option maxRecDepth 200000 in
set_option maxHeartbeats 2000000 in
/-- The head gain at the call. -/
theorem v78 (c : Dev nD) : V m c main_v78 = (shapeCast S1x2048 (m ((c.tc : Thread nD τ).loc main_arg3) : FVec Ideal S4x512 .f32) shapeCasts_S4x512_S1x2048 : FVec Ideal S1x2048 .f32) := rfl

end Cert.GlaEntry
end
-- ==== Proof.GlaBlocks.lean ====
module

public import proofs.«01_k».proof.Proof.Gen.KernelIdeal.Value
public import proofs.«01_k».proof.Proof.GlaArrays
public import proofs.«01_k».proof.Proof.GlaEntry
public import Idealize.ShloMosaic.Lib.Pipeline.ValueKit
public import Idealize.ShloMosaic.Lib.Pointwise

/-! The blocks a grid point reads, in the arguments' own entries. -/

@[expose] public section

set_option maxRecDepth 16384
noncomputable section
open Idealize.ShloMosaic Idealize.ShloMosaic.TcCoe Idealize.SL.Sem
open Idealize.ShloMosaic.Pipeline (Dat)
namespace Cert.GlaBlocks
open Cert.KernelIdeal Cert.KernelIdeal.Gen Cert.KernelIdeal.Value Cert.GlaArrays Cert.GlaEntry
variable (m : (ℓ : Loc nD τ sig) → Buf (Elt Ideal) ℓ)

/-- The block index of each window at a grid point. -/
theorem idx : ∀ t : Fin cfg0.N, (win0_0.index t 0 = t.val ∧ win0_0.index t 1 = 10) ∧ (win0_1.index t 0 = t.val ∧ win0_1.index t 1 = 11)
    ∧ (win0_2.index t 0 = t.val ∧ win0_2.index t 1 = 0) ∧ (win0_3.index t 0 = t.val ∧ win0_3.index t 1 = 1)
    ∧ (win0_4.index t 0 = t.val ∧ win0_4.index t 1 = 106) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = t.val ∧ win0_9.index t 1 = 0) := by decide +kernel

/-- The launch has 32 points. -/
theorem lt_N (t : Fin cfg0.N) : t.val < 32 := t.isLt

/-- The query block. -/
theorem blk_q (c : Dev nD) (t : Fin cfg0.N) (i : Fin 256) (x : Fin 1024) :
    X0_0 m c t (ix2 i x : S256x1024.Idx) = (m ((c.tc : Thread nD τ).loc main_arg0)) (ix2 ⟨t.val * 256 + i.val, by have := lt_N t; omega⟩ ⟨x.val, by omega⟩) := by
  have ht := lt_N t
  unfold X0_0 Pipeline.Window.fill
  rw [dif_pos (moved0_0 t _)]
  refine Eq.trans ?_ (proj_q _ ⟨t.val * 256 + i.val, by omega⟩ x)
  rw [← v14]
  unfold iblk
  rw [show V m c (Pipeline.arrRef spec0 0) = V m c main_v14 from rfl]
  generalize V m c main_v14 = X
  blk_ext [idx t]

/-- The key block. -/
theorem blk_k (c : Dev nD) (t : Fin cfg0.N) (i : Fin 256) (x : Fin 1024) :
    X0_1 m c t (ix2 i x : S256x1024.Idx) = (m ((c.tc : Thread nD τ).loc main_arg0)) (ix2 ⟨t.val * 256 + i.val, by have := lt_N t; omega⟩ ⟨1024 + x.val, by omega⟩) := by
  have ht := lt_N t
  unfold X0_1 Pipeline.Window.fill
  rw [dif_pos (moved0_1 t _)]
  refine Eq.trans ?_ (proj_k _ ⟨t.val * 256 + i.val, by omega⟩ x)
  rw [← v14]
  unfold iblk
  rw [show V m c (Pipeline.arrRef spec0 1) = V m c main_v14 from rfl]
  generalize V m c main_v14 = X
  blk_ext [idx t]

/-- The value block. -/
theorem blk_v (c : Dev nD) (t : Fin cfg0.N) (i : Fin 256) (x : Fin 2048) :
    X0_2 m c t (ix2 i x : S256x2048.Idx) = (m ((c.tc : Thread nD τ).loc main_arg0)) (ix2 ⟨t.val * 256 + i.val, by have := lt_N t; omega⟩ ⟨2048 + x.val, by omega⟩) := by
  have ht := lt_N t
  unfold X0_2 Pipeline.Window.fill
  rw [dif_pos (moved0_2 t _)]
  refine Eq.trans ?_ (proj_v _ ⟨t.val * 256 + i.val, by omega⟩ x)
  rw [← v14]
  unfold iblk
  rw [show V m c (Pipeline.arrRef spec0 2) = V m c main_v14 from rfl]
  generalize V m c main_v14 = X
  blk_ext [idx t]

/-- The output-gate block. -/
theorem blk_r (c : Dev nD) (t : Fin cfg0.N) (i : Fin 256) (x : Fin 2048) :
    X0_3 m c t (ix2 i x : S256x2048.Idx) = (m ((c.tc : Thread nD τ).loc main_arg0)) (ix2 ⟨t.val * 256 + i.val, by have := lt_N t; omega⟩ ⟨4096 + x.val, by omega⟩) := by
  have ht := lt_N t
  unfold X0_3 Pipeline.Window.fill
  rw [dif_pos (moved0_3 t _)]
  refine Eq.trans ?_ (proj_r _ ⟨t.val * 256 + i.val, by omega⟩ x)
  rw [← v14]
  unfold iblk
  rw [show V m c (Pipeline.arrRef spec0 3) = V m c main_v14 from rfl]
  generalize V m c main_v14 = X
  blk_ext [idx t]

/-- The gate's low-rank columns in the tail block. -/
theorem blk_g (c : Dev nD) (t : Fin cfg0.N) (i : Fin 256) (x : Fin 16) :
    iblk m c 4 t (ix2 i ⟨64 + x.val, by omega⟩ : S256x128.Idx) = (m ((c.tc : Thread nD τ).loc main_arg0)) (ix2 ⟨t.val * 256 + i.val, by have := lt_N t; omega⟩ ⟨6144 + x.val, by omega⟩) := by
  have ht := lt_N t
  refine Eq.trans ?_ (proj_g _ ⟨t.val * 256 + i.val, by omega⟩ x)
  rw [← v14]
  unfold iblk
  rw [show V m c (Pipeline.arrRef spec0 4) = V m c main_v14 from rfl]
  generalize V m c main_v14 = X
  blk_ext [idx t]

/-- The gate weight's block is its array. -/
theorem blk_w (c : Dev nD) (t : Fin cfg0.N) (x : Fin 128) (d : Fin 1024) :
    iblk m c 5 t (ix2 x d : S128x1024.Idx) = w2F (m ((c.tc : Thread nD τ).loc main_arg1)) (ix2 x d) := by
  rw [← v17]
  unfold iblk
  rw [show V m c (Pipeline.arrRef spec0 5) = V m c main_v17 from rfl]
  generalize V m c main_v17 = X
  blk_ext [idx t]

/-- The stacked matrices' block is their array. -/
theorem blk_m (c : Dev nD) (t : Fin cfg0.N) (x : Fin 1792) (d : Fin 256) :
    iblk m c 8 t (ix2 x d : S1792x256.Idx) = matF (ix2 x d) := by
  rw [← v76]
  unfold iblk
  rw [show V m c (Pipeline.arrRef spec0 8) = V m c main_v76 from rfl]
  generalize V m c main_v76 = X
  blk_ext [idx t]

/-- The gate bias. -/
theorem blk_b (c : Dev nD) (t : Fin cfg0.N) (d : Fin 1024) :
    iblk m c 6 t (ix2 0 d : S1x1024.Idx) = (m ((c.tc : Thread nD τ).loc main_arg2)) (ix1 d) := by
  have e : V m c main_v77 (ix2 0 d : S1x1024.Idx) = (m ((c.tc : Thread nD τ).loc main_arg2)) (ix1 d) := by
    rw [v77]
    pointwise
  rw [← e]
  unfold iblk
  rw [show V m c (Pipeline.arrRef spec0 6) = V m c main_v77 from rfl]
  generalize V m c main_v77 = X
  blk_ext [idx t]

/-- The head gain as one row. -/
theorem gain_row (X : FVec Ideal S4x512 .f32) (n : Fin 4) (e : Fin 512) :
    shapeCast S1x2048 X shapeCasts_S4x512_S1x2048 (ix2 0 ⟨512 * n.val + e.val, by omega⟩) = X (ix2 n e) :=
  shapeCast_apply X _ _ _ (by
    rw [Shape.rowMajor_val_two, Shape.rowMajor_val_two]
    show n.val * 512 + e.val = 0 * 2048 + (512 * n.val + e.val)
    omega)

/-- The head gain. -/
theorem blk_h (c : Dev nD) (t : Fin cfg0.N) (n : Fin 4) (e : Fin 512) :
    iblk m c 7 t (ix2 0 ⟨512 * n.val + e.val, by omega⟩ : S1x2048.Idx) = (m ((c.tc : Thread nD τ).loc main_arg3)) (ix2 n e) := by
  refine Eq.trans ?_ (gain_row _ n e)
  rw [← v78]
  unfold iblk
  rw [show V m c (Pipeline.arrRef spec0 7) = V m c main_v78 from rfl]
  generalize V m c main_v78 = X
  blk_ext [idx t]

end Cert.GlaBlocks
end
-- ==== Proof.GlaReal.lean ====
module

public import Idealize.ShloMosaic.PureOps.Ideal
public import proofs.«01_k».proof.Proof.GlaMath

/-! The layer's real operands, head by head, and the output's tail: what both programs are compared with. -/

@[expose] public section

noncomputable section
open Idealize.ShloMosaic
namespace Cert.GlaReal
open Cert.GlaMath

/-- The real values behind the finite entries: the projection's rows, the gate weight, the gate bias. -/
structure Ops where
  pr : ℕ → ℕ → ℝ
  w2 : Fin 16 → ℕ → ℝ
  b : ℕ → ℝ

/-- The entries the recurrence reads are these reals. -/
structure Ops.Of (R : Ops) (p : Fin 8192 → Fin 13664 → EReal) (w : Fin 16 → Fin 1024 → EReal) (b : Fin 1024 → EReal) : Prop where
  pr : ∀ r x, (x.val < 4096 ∨ (6144 ≤ x.val ∧ x.val < 6160)) → p r x = ((R.pr r.val x.val : ℝ) : EReal)
  w2 : ∀ c d, w c d = ((R.w2 c d.val : ℝ) : EReal)
  b : ∀ d, b d = ((R.b d.val : ℝ) : EReal)

/-- Finite entries are reals. -/
theorem exists_of (p : Fin 8192 → Fin 13664 → EReal) (w : Fin 16 → Fin 1024 → EReal) (b : Fin 1024 → EReal)
    (hp : ∀ r x, (x.val < 4096 ∨ (6144 ≤ x.val ∧ x.val < 6160)) → p r x ≠ ⊤ ∧ p r x ≠ ⊥) (hw : ∀ c d, w c d ≠ ⊤ ∧ w c d ≠ ⊥)
    (hb : ∀ d, b d ≠ ⊤ ∧ b d ≠ ⊥) : ∃ R : Ops, R.Of p w b := by
  refine ⟨⟨fun r x => if h : r < 8192 ∧ x < 13664 then (p ⟨r, h.1⟩ ⟨x, h.2⟩).toReal else 0,
    fun c d => if h : d < 1024 then (w c ⟨d, h⟩).toReal else 0, fun d => if h : d < 1024 then (b ⟨d, h⟩).toReal else 0⟩, ⟨?_, ?_, ?_⟩⟩
  · intro r x h
    dsimp only
    rw [dif_pos ⟨r.isLt, x.isLt⟩]
    exact (EReal.coe_toReal (hp r x h).1 (hp r x h).2).symm
  · intro c d
    dsimp only
    rw [dif_pos d.isLt]
    exact (EReal.coe_toReal (hw c d).1 (hw c d).2).symm
  · intro d
    dsimp only
    rw [dif_pos d.isLt]
    exact (EReal.coe_toReal (hb d).1 (hb d).2).symm

/-- A head's log decays. -/
def Ops.g (R : Ops) (n : Fin 4) (u : ℕ) (d : Fin 256) : ℝ := gate (∑ c : Fin 16, R.pr u (6144 + c.val) * R.w2 c (256 * n.val + d.val) + R.b (256 * n.val + d.val))
/-- A head's scaled queries. -/
def Ops.q (R : Ops) (n : Fin 4) (u : ℕ) (d : Fin 256) : ℝ := R.pr u (256 * n.val + d.val) * (1 / 16)
/-- A head's keys. -/
def Ops.k (R : Ops) (n : Fin 4) (u : ℕ) (d : Fin 256) : ℝ := R.pr u (1024 + (256 * n.val + d.val))
/-- A head's values. -/
def Ops.v (R : Ops) (n : Fin 4) (u : ℕ) (e : Fin 512) : ℝ := R.pr u (2048 + (512 * n.val + e.val))

/-- A head's carried state before row `r`. -/
def Ops.st (R : Ops) (n : Fin 4) (e : Fin 512) (d : Fin 256) (r : ℕ) : ℝ := S (fun u => R.g n u d) (fun u => R.k n u d) (fun u => R.v n u e) r
/-- A head's output at row `r`. -/
def Ops.o (R : Ops) (n : Fin 4) (r : ℕ) (e : Fin 512) : ℝ := O (R.q n) (R.k n) (R.g n) (fun u => R.v n u e) r

/-- Log decays are not positive. -/
theorem Ops.g_nonpos (R : Ops) (n : Fin 4) (u : ℕ) (d : Fin 256) : R.g n u d ≤ 0 := gate_nonpos _

/-- Before the first row the state is zero. -/
theorem Ops.st_zero (R : Ops) (n : Fin 4) (e : Fin 512) (d : Fin 256) : R.st n e d 0 = 0 := by
  simp [Ops.st, S]

/-- The tail: the normalisation over a head's outputs, its gain, the output gate. -/
def tailE (o : Fin 512 → EReal) (e : Fin 512) (hg r : EReal) : EReal :=
  o e * Ideal.rsqrt (Ideal.div (∑ x, o x * o x) (Ideal.ofBits .f32 0x44000000#32) + Ideal.ofBits .f32 0x358637BD#32) * hg * (r * Ideal.logistic r)

end Cert.GlaReal
end
-- ==== Proof.GlaKernel.lean ====
module

public import proofs.«01_k».proof.Proof.Gen.KernelIdeal.Value
public import proofs.«01_k».proof.Proof.GlaHead
public import proofs.«01_k».proof.Proof.GlaPoint
public import proofs.«01_k».proof.Proof.GlaBlocks
public import proofs.«01_k».proof.Proof.GlaReal
public import Idealize.ShloMosaic.Lib.Pipeline.ValueKit
public import Idealize.ShloMosaic.Lib.Pointwise

/-! The kernel's result: the state carried from point to point is the recurrence's, and so is every point's output. -/

@[expose] public section

set_option maxRecDepth 16384
noncomputable section
open Idealize.ShloMosaic Idealize.ShloMosaic.TcCoe Idealize.SL.Sem
open Idealize.ShloMosaic.Pipeline (Dat)
namespace Cert.GlaKernel
open Cert.KernelIdeal Cert.KernelIdeal.Gen Cert.KernelIdeal.Value Cert.GlaHead Cert.GlaPoint Cert.GlaBlocks Cert.GlaArrays Cert.GlaReal Cert.GlaMath
variable (m : (ℓ : Loc nD τ sig) → Buf (Elt Ideal) ℓ) (c : Dev nD) (R : Ops)

/-- The reals behind the arguments in memory. -/
def At : Prop := R.Of (fun r x => (m ((c.tc : Thread nD τ).loc main_arg0)) (ix2 r x)) (fun a d => (m ((c.tc : Thread nD τ).loc main_arg1)) (ix2 a d))
  (fun d => (m ((c.tc : Thread nD τ).loc main_arg2)) (ix1 d))

variable {m c R}

/-- The point's decay sums, head by head. -/
theorem dec_pt (H : At m c R) (t : Fin cfg0.N) (n : Fin 4) :
    DecAt (hdF (iblk m c 4 t) (iblk m c 8 t) (colW (iblk m c 5 t) n) (colB (iblk m c 6 t) n)) (R.g n) (t.val * 256) := by
  have ht := lt_N t
  intro r d
  refine dec_at _ _ r d (fun u => R.g n (t.val * 256 + u) d) (fun x => ?_) (fun x => ?_)
  · rw [blk_m, mat_at]
  · refine la_at _ x d _ ?_
    refine z_at _ _ _ x d (fun a => R.pr (t.val * 256 + x.val) (6144 + a.val)) (fun a => R.w2 a (256 * n.val + d.val)) (R.b (256 * n.val + d.val)) (fun a => ?_) (fun a => ?_) (fun a ha => ?_) ?_
    · rw [blk_g m c t x a]
      exact H.pr ⟨t.val * 256 + x.val, by omega⟩ ⟨6144 + a.val, by omega⟩ (Or.inr (by dsimp only; omega))
    · show (iblk m c 5 t (ix2 ⟨64 + a.val, by omega⟩ ⟨256 * n.val + d.val, by omega⟩ : S128x1024.Idx) : EReal) = _
      rw [blk_w, w2_in]
      exact H.w2 a ⟨256 * n.val + d.val, by omega⟩
    · show (iblk m c 5 t (ix2 a ⟨256 * n.val + d.val, by omega⟩ : S128x1024.Idx) : EReal) = _
      rw [blk_w, w2_out _ _ _ ha]
    · show (iblk m c 6 t (ix2 0 ⟨256 * n.val + d.val, by omega⟩ : S1x1024.Idx) : EReal) = _
      rw [blk_b]
      exact H.b ⟨256 * n.val + d.val, by omega⟩

/-- The point's keys. -/
theorem k_pt (H : At m c R) (t : Fin cfg0.N) (n : Fin 4) (i d : Fin 256) : colQ (X0_1 m c t) n (ix2 i d) = ((R.k n (t.val * 256 + i.val) d : ℝ) : EReal) := by
  have ht := lt_N t
  show (X0_1 m c t (ix2 i ⟨256 * n.val + d.val, by omega⟩ : S256x1024.Idx) : EReal) = _
  rw [blk_k]
  exact H.pr ⟨t.val * 256 + i.val, by omega⟩ ⟨1024 + (256 * n.val + d.val), by omega⟩ (Or.inl (by dsimp only; omega))

/-- The point's queries. -/
theorem q_pt (H : At m c R) (t : Fin cfg0.N) (n : Fin 4) (i d : Fin 256) : colQ (X0_0 m c t) n (ix2 i d) = ((R.pr (t.val * 256 + i.val) (256 * n.val + d.val) : ℝ) : EReal) := by
  have ht := lt_N t
  show (X0_0 m c t (ix2 i ⟨256 * n.val + d.val, by omega⟩ : S256x1024.Idx) : EReal) = _
  rw [blk_q]
  exact H.pr ⟨t.val * 256 + i.val, by omega⟩ ⟨256 * n.val + d.val, by omega⟩ (Or.inl (by dsimp only; omega))

/-- The point's values. -/
theorem v_pt (H : At m c R) (t : Fin cfg0.N) (n : Fin 4) (i : Fin 256) (e : Fin 512) : colV (X0_2 m c t) n (ix2 i e) = ((R.v n (t.val * 256 + i.val) e : ℝ) : EReal) := by
  have ht := lt_N t
  show (X0_2 m c t (ix2 i ⟨512 * n.val + e.val, by omega⟩ : S256x2048.Idx) : EReal) = _
  rw [blk_v]
  exact H.pr ⟨t.val * 256 + i.val, by omega⟩ ⟨2048 + (512 * n.val + e.val), by omega⟩ (Or.inl (by dsimp only; omega))

/-- A carried state that is the recurrence's before row `r`. -/
def StAt (R : Ops) (st : Vec Ideal S4x512x256 .f32) (r : ℕ) : Prop :=
  ∀ (n : Fin 4) (e : Fin 512) (d : Fin 256), st (ix3 n e d) = ((R.st n e d r : ℝ) : EReal)

/-- The cast of a block of keys changes nothing. -/
theorem pay20_at (K : Vec Ideal S256x256 .f32) (i d : Fin 256) : k0_pay20 (F := Ideal) K (ix2 i d) = K (ix2 i d) := by
  pointwise [k0_pay20]

/-- The queries are scaled by a sixteenth. -/
theorem pay19_at (Q : Vec Ideal S256x256 .f32) (i d : Fin 256) : k0_pay19 (F := Ideal) Q (ix2 i d) = Q (ix2 i d) * Ideal.ofBits .f32 0x3D800000#32 := by
  pointwise [k0_pay19]

/-- The state after a point. -/
theorem st_pt (H : At m c R) (t : Fin cfg0.N) (st : Vec Ideal S4x512x256 .f32) (hs : StAt R st (t.val * 256)) (n : Fin 4) (e : Fin 512) (d : Fin 256) :
    stP m c t st n (ix3 0 e d) = ((R.st n e d (t.val * 256 + 256) : ℝ) : EReal) :=
  st_at (R.g n) (R.k n) (R.v n) (t.val * 256) _ _ _ _ _ _ _ (dec_pt H t n) (k_pt H t n) (v_pt H t n) (fun e d => hs n e d) e d

/-- The result of a point. -/
theorem out_pt (H : At m c R) (t : Fin cfg0.N) (st : Vec Ideal S4x512x256 .f32) (hs : StAt R st (t.val * 256)) (n : Fin 4) (i : Fin 256) (e : Fin 512) :
    outP m c t st n (ix2 i e) = tailE (fun x => ((R.o n (t.val * 256 + i.val) x : ℝ) : EReal)) e ((m ((c.tc : Thread nD τ).loc main_arg3)) (ix2 n e))
      ((m ((c.tc : Thread nD τ).loc main_arg0)) (ix2 ⟨t.val * 256 + i.val, by have := lt_N t; omega⟩ ⟨4096 + (512 * n.val + e.val), by omega⟩)) := by
  unfold outP outF
  rw [tl_at]
  have ho : ∀ x, oF (hdF (iblk m c 4 t) (iblk m c 8 t) (colW (iblk m c 5 t) n) (colB (iblk m c 6 t) n)) (k0_pay19 (colQ (X0_0 m c t) n)) (k0_pay20 (colQ (X0_1 m c t) n))
      (colV (X0_2 m c t) n) (stH st n) (ix2 i x) = ((R.o n (t.val * 256 + i.val) x : ℝ) : EReal) := fun x =>
    o_at (R.g n) (R.q n) (R.k n) (R.v n) (t.val * 256) _ _ _ _ _ (R.g_nonpos n) (dec_pt H t n)
      (fun i d => by rw [pay19_at, q_pt H t n, sixteenth, ← EReal.coe_mul]; rfl) (fun i d => by rw [pay20_at, k_pt H t n]) (v_pt H t n) (fun e d => hs n e d) i x
  have hh : colH (iblk m c 7 t) n (ix2 0 e) = (m ((c.tc : Thread nD τ).loc main_arg3)) (ix2 n e) := blk_h m c t n e
  have hr : colV (X0_3 m c t) n (ix2 i e) = (m ((c.tc : Thread nD τ).loc main_arg0)) (ix2 ⟨t.val * 256 + i.val, by have := lt_N t; omega⟩ ⟨4096 + (512 * n.val + e.val), by omega⟩) :=
    blk_r m c t i ⟨512 * n.val + e.val, by omega⟩
  simp only [ho, hh, hr]
  rfl

/-- The first point starts from zero. -/
theorem st_start : StAt R (k0_pay2 (F := Ideal)) 0 := by
  intro n e d
  rw [R.st_zero]
  pointwise [k0_pay2]
  try rfl

/-- The state carried through the points is the recurrence's. -/
theorem fold_st (H : At m c R) : ∀ (j : ℕ) (h : 0 + j < cfg0.N),
    StAt R (Pipeline.accAt (fun n h => stAt0 m c n h junk0) (stAt0 m c) 0 j h).2 (j * 256 + 256)
  | 0, h => fun n e d => by
    rw [Pipeline.accAt_zero]
    refine (stA m c ⟨0, h⟩ junk0 rfl (ix3 n e d) n e d rfl rfl rfl).trans ?_
    exact st_pt H ⟨0, h⟩ _ (by simpa using st_start) n e d
  | j + 1, h => fun n e d => by
    have hN : j + 1 < 32 := by have : 0 + (j + 1) < 32 := h; omega
    have ih := fold_st H j (Nat.lt_of_succ_lt h)
    rw [Pipeline.accAt_succ]
    refine (stB m c ⟨0 + (j + 1), h⟩ _ (by dsimp only; omega) (ix3 n e d) n e d rfl rfl rfl).trans ?_
    refine (st_pt H ⟨0 + (j + 1), h⟩ _ ?_ n e d).trans ?_
    · rw [show (0 + (j + 1)) * 256 = j * 256 + 256 by omega]; exact ih
    · rw [show (0 + (j + 1)) * 256 + 256 = (j + 1) * 256 + 256 by omega]

/-- What a point leaves of the result. -/
theorem fold_out (H : At m c R) (j : ℕ) (h : 0 + j < cfg0.N) (i : Fin 256) (n : Fin 4) (e : Fin 512) (y : S256x2048.Idx)
    (yi : (y 0).val = i.val) (ye : (y 1).val = 512 * n.val + e.val) (r : Fin 8192) (hr : r.val = j * 256 + i.val) :
    (Pipeline.accAt (fun n h => stAt0 m c n h junk0) (stAt0 m c) 0 j h).1 y
      = tailE (fun x => ((R.o n r.val x : ℝ) : EReal)) e ((m ((c.tc : Thread nD τ).loc main_arg3)) (ix2 n e))
      ((m ((c.tc : Thread nD τ).loc main_arg0)) (ix2 r ⟨4096 + (512 * n.val + e.val), by omega⟩)) := by
  have er : ∀ (t : Fin cfg0.N) (ht : t.val = j) (hx), (⟨t.val * 256 + i.val, hx⟩ : Fin 8192) = r := fun t ht hx => Fin.ext (by dsimp only; rw [ht, hr])
  match j, h with
  | 0, h =>
    rw [Pipeline.accAt_zero]
    refine (outA m c ⟨0, h⟩ junk0 rfl y n i e yi ye).trans ?_
    refine (out_pt H ⟨0, h⟩ _ (by simpa using st_start) n i e).trans ?_
    rw [er ⟨0, h⟩ rfl, hr]
  | j + 1, h =>
    have hN : j + 1 < 32 := by have : 0 + (j + 1) < 32 := h; omega
    have ih := fold_st H j (Nat.lt_of_succ_lt h)
    rw [Pipeline.accAt_succ]
    refine (outB m c ⟨0 + (j + 1), h⟩ _ (by dsimp only; omega) y n i e yi ye).trans ?_
    refine (out_pt H ⟨0 + (j + 1), h⟩ _ ?_ n i e).trans ?_
    · rw [show (0 + (j + 1)) * 256 = j * 256 + 256 by omega]; exact ih
    · rw [er ⟨0 + (j + 1), h⟩ (by dsimp only; omega), hr, show (0 + (j + 1)) * 256 = (j + 1) * 256 by omega]

/-- The kernel's result, entry by entry. -/
theorem kernel_at (H : At m c R) (r : Fin 8192) (n : Fin 4) (e : Fin 512) :
    G9 m c (ix2 r ⟨512 * n.val + e.val, by omega⟩ : S8192x2048.Idx)
      = tailE (fun x => ((R.o n r.val x : ℝ) : EReal)) e ((m ((c.tc : Thread nD τ).loc main_arg3)) (ix2 n e))
      ((m ((c.tc : Thread nD τ).loc main_arg0)) (ix2 r ⟨4096 + (512 * n.val + e.val), by omega⟩)) := by
  have hp : pt9Of (ix2 r ⟨512 * n.val + e.val, by omega⟩ : S8192x2048.Idx) = r.val / 256 := by
    show 1 * (r.val / 256 - 0) + 1 * ((512 * n.val + e.val) / 2048 - 0) = r.val / 256
    omega
  have hN : pt9Of (ix2 r ⟨512 * n.val + e.val, by omega⟩ : S8192x2048.Idx) < cfg0.N := by
    rw [hp]; show r.val / 256 < 32; omega
  unfold G9
  rw [dif_pos hN]
  refine fold_out H _ _ ⟨r.val % 256, by omega⟩ n e _ rfl ?_ r ?_
  · show (512 * n.val + e.val) % 2048 = _
    omega
  · rw [hp]; dsimp only; omega

end Cert.GlaKernel
end
-- ==== Proof.GlaLoop.lean ====
/- The reference's loop, over the step that its body computes (after the generated run of the loop, whose statement for the
   outputs is proved here in another way). At a valuation that holds a state (the state at the carried arrays, the set-up
   values at the loop's constants, the trip's number at its counters) every value of one trip is the step's, one lemma each,
   so that the run keeps holding with the step applied; what comes before the loop holds the first state; and the result is
   read from the step iterated from the first state. -/
module

public import proofs.«01_k».proof.Proof.Gen.ReferenceIdeal.Run
public import proofs.«01_k».proof.Proof.Gen.ReferenceIdeal.Step

@[expose] public section

noncomputable section

namespace Cert.GlaLoop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v48_6) = s.main_v48_6
  f_7 : V0 (Proc.devRef .tc main_v48_7) = s.main_v48_7
  f_0 : V0 (Proc.devRef .tc main_v48_0) = s.main_v48_0
  f_1 : V0 (Proc.devRef .tc main_v48_1) = s.main_v48_1
  f_2 : V0 (Proc.devRef .tc main_v48_2) = s.main_v48_2
  f_3 : V0 (Proc.devRef .tc main_v48_3) = s.main_v48_3
  n_5 : V0 (Proc.devRef .tc main_v48_5) = constantI S_ 32 (BitVec.ofNat 32 j)
  k_4 : V0 (Proc.devRef .tc main_v48_4) = Cert.ReferenceIdeal.Step.K_main_v45 (F := F)

variable {V0 s j}

set_option maxRecDepth 8192 in
/-- Value 0 of one trip, at a valuation that holds the state, is the step's own. -/
theorem al_0 (h : Holds V0 s j) : (constantI S_ 32 0#32 : (Proc.devRef .tc main_while0b_call1_c : DevRef τ sig).ty.Contents (Elt F)) = Cert.ReferenceIdeal.Step.b0 j s := by
  unfold Cert.ReferenceIdeal.Step.b0
  rfl
set_option maxRecDepth 8192 in
/-- Value 1 of one trip, at a valuation that holds the state, is the step's own. -/
theorem al_1 (h : Holds V0 s j) : (constantI S_ 32 0#32 : (Proc.devRef .tc main_while0b_call1_c_0 : DevRef τ sig).ty.Contents (Elt F)) = Cert.ReferenceIdeal.Step.b1 j s := by
  unfold Cert.ReferenceIdeal.Step.b1
  rfl
set_option maxRecDepth 8192 in
/-- Value 2 of one trip, at a valuation that holds the state, is the step's own. -/
theorem al_2 (h : Holds V0 s j) : (constantI S_ 32 0#32 : (Proc.devRef .tc main_while0b_call1_c_1 : DevRef τ sig).ty.Contents (Elt F)) = Cert.ReferenceIdeal.Step.b2 j s := by
  unfold Cert.ReferenceIdeal.Step.b2
  rfl
set_option maxRecDepth 8192 in
/-- Value 3 of one trip, at a valuation that holds the state, is the step's own. -/
theorem al_3 (h : Holds V0 s j) : (constantI S_ 32 0#32 : (Proc.devRef .tc main_while0b_call1_c_2 : DevRef τ sig).ty.Contents (Elt F)) = Cert.ReferenceIdeal.Step.b3 j s := by
  unfold Cert.ReferenceIdeal.Step.b3
  rfl
set_option maxRecDepth 8192 in
/-- Value 4 of one trip, at a valuation that holds the state, is the step's own. -/
theorem al_4 (h : Holds V0 s j) : (Host.dynamicSlice S1x1x4x64x256 (V0 (Proc.devRef .tc main_v48_0)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x4x64x256_S1x1x4x64x256 : (Proc.devRef .tc main_while0b_call1_v0 : DevRef τ sig).ty.Contents (Elt F)) = Cert.ReferenceIdeal.Step.b4 j s := by
  unfold Cert.ReferenceIdeal.Step.b4
  rw [← al_0 h, ← al_1 h, ← al_2 h, ← al_3 h, h.f_0, h.n_5]
  try rfl
set_option maxRecDepth 8192 in
/-- Value 5 of one trip, at a valuation that holds the state, is the step's own. -/
theorem al_5 (h : Holds V0 s j) : (res_main_while0b_v71 V0 : (Proc.devRef .tc main_while0b_v71 : DevRef τ sig).ty.Contents (Elt F)) = Cert.ReferenceIdeal.Step.b5 j s := by
  unfold res_main_while0b_v71 Cert.ReferenceIdeal.Step.b5
  rw [← al_4 h]
  try rfl
set_option maxRecDepth 8192 in
/-- Value 6 of one trip, at a valuation that holds the state, is the step's own. -/
theorem al_6 (h : Holds V0 s j) : (constantI S_ 32 0#32 : (Proc.devRef .tc main_while0b_call2_c : DevRef τ sig).ty.Contents (Elt F)) = Cert.ReferenceIdeal.Step.b6 j s := by
  unfold Cert.ReferenceIdeal.Step.b6
  rfl
set_option maxRecDepth 8192 in
/-- Value 7 of one trip, at a valuation that holds the state, is the step's own. -/
theorem al_7 (h : Holds V0 s j) : (constantI S_ 32 0#32 : (Proc.devRef .tc main_while0b_call2_c_0 : DevRef τ sig).ty.Contents (Elt F)) = Cert.ReferenceIdeal.Step.b7 j s := by
  unfold Cert.ReferenceIdeal.Step.b7
  rfl
set_option maxRecDepth 8192 in
/-- Value 8 of one trip, at a valuation that holds the state, is the step's own. -/
theorem al_8 (h : Holds V0 s j) : (constantI S_ 32 0#32 : (Proc.devRef .tc main_while0b_call2_c_1 : DevRef τ sig).ty.Contents (Elt F)) = Cert.ReferenceIdeal.Step.b8 j s := by
  unfold Cert.ReferenceIdeal.Step.b8
  rfl
set_option maxRecDepth 8192 in
/-- Value 9 of one trip, at a valuation that holds the state, is the step's own. -/
theorem al_9 (h : Holds V0 s j) : (constantI S_ 32 0#32 : (Proc.devRef .tc main_while0b_call2_c_2 : DevRef τ sig).ty.Contents (Elt F)) = Cert.ReferenceIdeal.Step.b9 j s := by
  unfold Cert.ReferenceIdeal.Step.b9
  rfl
set_option maxRecDepth 8192 in
/-- Value 10 of one trip, at a valuation that holds the state, is the step's own. -/
theorem al_10 (h : Holds V0 s j) : (Host.dynamicSlice S1x1x4x64x256 (V0 (Proc.devRef .tc main_v48_1)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x4x64x256_S1x1x4x64x256 : (Proc.devRef .tc main_while0b_call2_v0 : DevRef τ sig).ty.Contents (Elt F)) = Cert.ReferenceIdeal.Step.b10 j s := by
  unfold Cert.ReferenceIdeal.Step.b10
  rw [← al_6 h, ← al_7 h, ← al_8 h, ← al_9 h, h.f_1, h.n_5]
  try rfl
set_option maxRecDepth 8192 in
/-- Value 11 of one trip, at a valuation that holds the state, is the step's own. -/
theorem al_11 (h : Holds V0 s j) : (res_main_while0b_v72 V0 : (Proc.devRef .tc main_while0b_v72 : DevRef τ sig).ty.Contents (Elt F)) = Cert.ReferenceIdeal.Step.b11 j s := by
  unfold res_main_while0b_v72 Cert.ReferenceIdeal.Step.b11
  rw [← al_10 h]
  try rfl
set_option maxRecDepth 8192 in
/-- Value 12 of one trip, at a valuation that holds the state, is the step's own. -/
theorem al_12 (h : Holds V0 s j) : (constantI S_ 32 0#32 : (Proc.devRef .tc main_while0b_call3_c : DevRef τ sig).ty.Contents (Elt F)) = Cert.ReferenceIdeal.Step.b12 j s := by
  unfold Cert.ReferenceIdeal.Step.b12
  rfl
set_option maxRecDepth 8192 in
/-- Value 13 of one trip, at a valuation that holds the state, is the step's own. -/
theorem al_13 (h : Holds V0 s j) : (constantI S_ 32 0#32 : (Proc.devRef .tc main_while0b_call3_c_0 : DevRef τ sig).ty.Contents (Elt F)) = Cert.ReferenceIdeal.Step.b13 j s := by
  unfold Cert.ReferenceIdeal.Step.b13
  rfl
set_option maxRecDepth 8192 in
/-- Value 14 of one trip, at a valuation that holds the state, is the step's own. -/
theorem al_14 (h : Holds V0 s j) : (constantI S_ 32 0#32 : (Proc.devRef .tc main_while0b_call3_c_1 : DevRef τ sig).ty.Contents (Elt F)) = Cert.ReferenceIdeal.Step.b14 j s := by
  unfold Cert.ReferenceIdeal.Step.b14
  rfl
set_option maxRecDepth 8192 in
/-- Value 15 of one trip, at a valuation that holds the state, is the step's own. -/
theorem al_15 (h : Holds V0 s j) : (constantI S_ 32 0#32 : (Proc.devRef .tc main_while0b_call3_c_2 : DevRef τ sig).ty.Contents (Elt F)) = Cert.ReferenceIdeal.Step.b15 j s := by
  unfold Cert.ReferenceIdeal.Step.b15
  rfl
set_option maxRecDepth 8192 in
/-- Value 16 of one trip, at a valuation that holds the state, is the step's own. -/
theorem al_16 (h : Holds V0 s j) : (Host.dynamicSlice S1x1x4x64x512 (V0 (Proc.devRef .tc main_v48_2)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x4x64x512_S1x1x4x64x512 : (Proc.devRef .tc main_while0b_call3_v0 : DevRef τ sig).ty.Contents (Elt F)) = Cert.ReferenceIdeal.Step.b16 j s := by
  unfold Cert.ReferenceIdeal.Step.b16
  rw [← al_12 h, ← al_13 h, ← al_14 h, ← al_15 h, h.f_2, h.n_5]
  try rfl
set_option maxRecDepth 8192 in
/-- Value 17 of one trip, at a valuation that holds the state, is the step's own. -/
theorem al_17 (h : Holds V0 s j) : (res_main_while0b_v73 V0 : (Proc.devRef .tc main_while0b_v73 : DevRef τ sig).ty.Contents (Elt F)) = Cert.ReferenceIdeal.Step.b17 j s := by
  unfold res_main_while0b_v73 Cert.ReferenceIdeal.Step.b17
  rw [← al_16 h]
  try rfl
set_option maxRecDepth 8192 in
/-- Value 18 of one trip, at a valuation that holds the state, is the step's own. -/
theorem al_18 (h : Holds V0 s j) : (constantI S_ 32 0#32 : (Proc.devRef .tc main_while0b_call4_c : DevRef τ sig).ty.Contents (Elt F)) = Cert.ReferenceIdeal.Step.b18 j s := by
  unfold Cert.ReferenceIdeal.Step.b18
  rfl
set_option maxRecDepth 8192 in
/-- Value 19 of one trip, at a valuation that holds the state, is the step's own. -/
theorem al_19 (h : Holds V0 s j) : (constantI S_ 32 0#32 : (Proc.devRef .tc main_while0b_call4_c_0 : DevRef τ sig).ty.Contents (Elt F)) = Cert.ReferenceIdeal.Step.b19 j s := by
  unfold Cert.ReferenceIdeal.Step.b19
  rfl
set_option maxRecDepth 8192 in
/-- Value 20 of one trip, at a valuation that holds the state, is the step's own. -/
theorem al_20 (h : Holds V0 s j) : (constantI S_ 32 0#32 : (Proc.devRef .tc main_while0b_call4_c_1 : DevRef τ sig).ty.Contents (Elt F)) = Cert.ReferenceIdeal.Step.b20 j s := by
  unfold Cert.ReferenceIdeal.Step.b20
  rfl
set_option maxRecDepth 8192 in
/-- Value 21 of one trip, at a valuation that holds the state, is the step's own. -/
theorem al_21 (h : Holds V0 s j) : (constantI S_ 32 0#32 : (Proc.devRef .tc main_while0b_call4_c_2 : DevRef τ sig).ty.Contents (Elt F)) = Cert.ReferenceIdeal.Step.b21 j s := by
  unfold Cert.ReferenceIdeal.Step.b21
  rfl
set_option maxRecDepth 8192 in
/-- Value 22 of one trip, at a valuation that holds the state, is the step's own. -/
theorem al_22 (h : Holds V0 s j) : (Host.dynamicSlice S1x1x4x64x256 (V0 (Proc.devRef .tc main_v48_3)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x4x64x256_S1x1x4x64x256 : (Proc.devRef .tc main_while0b_call4_v0 : DevRef τ sig).ty.Contents (Elt F)) = Cert.ReferenceIdeal.Step.b22 j s := by
  unfold Cert.ReferenceIdeal.Step.b22
  rw [← al_18 h, ← al_19 h, ← al_20 h, ← al_21 h, h.f_3, h.n_5]
  try rfl
set_option maxRecDepth 8192 in
/-- Value 23 of one trip, at a valuation that holds the state, is the step's own. -/
theorem al_23 (h : Holds V0 s j) : (shapeCast S1x4x64x256 (Host.dynamicSlice S1x1x4x64x256 (V0 (Proc.devRef .tc main_v48_3)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x4x64x256_S1x1x4x64x256) shapeCasts_S1x1x4x64x256_S1x4x64x256 : (Proc.devRef .tc main_while0b_v74 : DevRef τ sig).ty.Contents (Elt F)) = Cert.ReferenceIdeal.Step.b23 j s := by
  unfold Cert.ReferenceIdeal.Step.b23
  rw [← al_22 h]
  try rfl
set_option maxRecDepth 8192 in
/-- Value 24 of one trip, at a valuation that holds the state, is the step's own. -/
theorem al_24 (h : Holds V0 s j) : (constant S_ .f32 0x00000000#32 : (Proc.devRef .tc main_while0b_call5_call0_cst : DevRef τ sig).ty.Contents (Elt F)) = Cert.ReferenceIdeal.Step.b24 j s := by
  unfold Cert.ReferenceIdeal.Step.b24
  rfl
set_option maxRecDepth 8192 in
/-- Value 25 of one trip, at a valuation that holds the state, is the step's own. -/
theorem al_25 (h : Holds V0 s j) : (broadcastInDim S_ ![] bcast_S_S_ (constant S_ .f32 0x00000000#32) : (Proc.devRef .tc main_while0b_call5_call0_v0 : DevRef τ sig).ty.Contents (Elt F)) = Cert.ReferenceIdeal.Step.b25 j s := by
  unfold Cert.ReferenceIdeal.Step.b25
  rw [← al_24 h]
  try rfl
set_option maxRecDepth 8192 in
/-- Value 26 of one trip, at a valuation that holds the state, is the step's own. -/
theorem al_26 (h : Holds V0 s j) : (res_main_while0b_v75 V0 : (Proc.devRef .tc main_while0b_v75 : DevRef τ sig).ty.Contents (Elt F)) = Cert.ReferenceIdeal.Step.b26 j s := by
  unfold res_main_while0b_v75 Cert.ReferenceIdeal.Step.b26
  rw [← al_23 h, ← al_25 h]
  try rfl
set_option maxRecDepth 8192 in
/-- Value 27 of one trip, at a valuation that holds the state, is the step's own. -/
theorem al_27 (h : Holds V0 s j) : (Host.exp (res_main_while0b_v75 V0) : (Proc.devRef .tc main_while0b_v76 : DevRef τ sig).ty.Contents (Elt F)) = Cert.ReferenceIdeal.Step.b27 j s := by
  unfold Cert.ReferenceIdeal.Step.b27
  rw [← al_26 h]
  try rfl
set_option maxRecDepth 8192 in
/-- Value 28 of one trip, at a valuation that holds the state, is the step's own. -/
theorem al_28 (h : Holds V0 s j) : (mulf (res_main_while0b_v71 V0) (Host.exp (res_main_while0b_v75 V0)) : (Proc.devRef .tc main_while0b_v77 : DevRef τ sig).ty.Contents (Elt F)) = Cert.ReferenceIdeal.Step.b28 j s := by
  unfold Cert.ReferenceIdeal.Step.b28
  rw [← al_5 h, ← al_27 h]
  try rfl
set_option maxRecDepth 8192 in
/-- Value 29 of one trip, at a valuation that holds the state, is the step's own. -/
theorem al_29 (h : Holds V0 s j) : (Host.dotGeneral dot_S1x4x64x256_S1x4x256x512_S1x4x64x512_3_2_2_3_01_01 none (mulf (res_main_while0b_v71 V0) (Host.exp (res_main_while0b_v75 V0))) (V0 (Proc.devRef .tc main_v48_6)) : (Proc.devRef .tc main_while0b_v78 : DevRef τ sig).ty.Contents (Elt F)) = Cert.ReferenceIdeal.Step.b29 j s := by
  unfold Cert.ReferenceIdeal.Step.b29
  rw [← al_28 h, h.f_6]
  try rfl
set_option maxRecDepth 8192 in
/-- Value 30 of one trip, at a valuation that holds the state, is the step's own. -/
theorem al_30 (h : Holds V0 s j) : (broadcastInDim S1x4x64x1x256 ![0, 1, 2, 4] bcast_S1x4x64x256_S1x4x64x1x256_0_1_2_4 (res_main_while0b_v75 V0) : (Proc.devRef .tc main_while0b_v79 : DevRef τ sig).ty.Contents (Elt F)) = Cert.ReferenceIdeal.Step.b30 j s := by
  unfold Cert.ReferenceIdeal.Step.b30
  rw [← al_26 h]
  try rfl
set_option maxRecDepth 8192 in
/-- Value 31 of one trip, at a valuation that holds the state, is the step's own. -/
theorem al_31 (h : Holds V0 s j) : (broadcastInDim S1x4x1x64x256 ![0, 1, 3, 4] bcast_S1x4x64x256_S1x4x1x64x256_0_1_3_4 (res_main_while0b_v75 V0) : (Proc.devRef .tc main_while0b_v80 : DevRef τ sig).ty.Contents (Elt F)) = Cert.ReferenceIdeal.Step.b31 j s := by
  unfold Cert.ReferenceIdeal.Step.b31
  rw [← al_26 h]
  try rfl
set_option maxRecDepth 8192 in
/-- Value 32 of one trip, at a valuation that holds the state, is the step's own. -/
theorem al_32 (h : Holds V0 s j) : (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 (res_main_while0b_v75 V0)) : (Proc.devRef .tc main_while0b_v81 : DevRef τ sig).ty.Contents (Elt F)) = Cert.ReferenceIdeal.Step.b32 j s := by
  unfold Cert.ReferenceIdeal.Step.b32
  rw [← al_30 h]
  try rfl
set_option maxRecDepth 8192 in
/-- Value 33 of one trip, at a valuation that holds the state, is the step's own. -/
theorem al_33 (h : Holds V0 s j) : (broadcastInDim S1x4x64x64x256 ![0, 1, 2, 3, 4] bcast_S1x4x1x64x256_S1x4x64x64x256_0_1_2_3_4 (broadcastInDim S1x4x1x64x256 ![0, 1, 3, 4] bcast_S1x4x64x256_S1x4x1x64x256_0_1_3_4 (res_main_while0b_v75 V0)) : (Proc.devRef .tc main_while0b_v82 : DevRef τ sig).ty.Contents (Elt F)) = Cert.ReferenceIdeal.Step.b33 j s := by
  unfold Cert.ReferenceIdeal.Step.b33
  rw [← al_31 h]
  try rfl
set_option maxRecDepth 8192 in
/-- Value 34 of one trip, at a valuation that holds the state, is the step's own. -/
theorem al_34 (h : Holds V0 s j) : (subf (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 (res_main_while0b_v75 V0))) (broadcastInDim S1x4x64x64x256 ![0, 1, 2, 3, 4] bcast_S1x4x1x64x256_S1x4x64x64x256_0_1_2_3_4 (broadcastInDim S1x4x1x64x256 ![0, 1, 3, 4] bcast_S1x4x64x256_S1x4x1x64x256_0_1_3_4 (res_main_while0b_v75 V0))) : (Proc.devRef .tc main_while0b_v83 : DevRef τ sig).ty.Contents (Elt F)) = Cert.ReferenceIdeal.Step.b34 j s := by
  unfold Cert.ReferenceIdeal.Step.b34
  rw [← al_32 h, ← al_33 h]
  try rfl
set_option maxRecDepth 8192 in
/-- Value 35 of one trip, at a valuation that holds the state, is the step's own. -/
theorem al_35 (h : Holds V0 s j) : (constant S_ .f32 0xFF800000#32 : (Proc.devRef .tc main_while0b_cst_15 : DevRef τ sig).ty.Contents (Elt F)) = Cert.ReferenceIdeal.Step.b35 j s := by
  unfold Cert.ReferenceIdeal.Step.b35
  rfl
set_option maxRecDepth 8192 in
/-- Value 36 of one trip, at a valuation that holds the state, is the step's own. -/
theorem al_36 (h : Holds V0 s j) : (broadcastInDim S1x4x64x64x256 ![0, 1, 2, 3, 4] bcast_S1x1x64x64x1_S1x4x64x64x256_0_1_2_3_4 (V0 (Proc.devRef .tc main_v48_4)) : (Proc.devRef .tc main_while0b_call6_v0 : DevRef τ sig).ty.Contents (Elt F)) = Cert.ReferenceIdeal.Step.b36 j s := by
  unfold Cert.ReferenceIdeal.Step.b36
  rw [h.k_4]
  try rfl
set_option maxRecDepth 8192 in
/-- Value 37 of one trip, at a valuation that holds the state, is the step's own. -/
theorem al_37 (h : Holds V0 s j) : (broadcastInDim S1x4x64x64x256 ![] bcast_S_S1x4x64x64x256 (constant S_ .f32 0xFF800000#32) : (Proc.devRef .tc main_while0b_call6_v1 : DevRef τ sig).ty.Contents (Elt F)) = Cert.ReferenceIdeal.Step.b37 j s := by
  unfold Cert.ReferenceIdeal.Step.b37
  rw [← al_35 h]
  try rfl
set_option maxRecDepth 8192 in
/-- Value 38 of one trip, at a valuation that holds the state, is the step's own. -/
theorem al_38 (h : Holds V0 s j) : (select (broadcastInDim S1x4x64x64x256 ![0, 1, 2, 3, 4] bcast_S1x1x64x64x1_S1x4x64x64x256_0_1_2_3_4 (V0 (Proc.devRef .tc main_v48_4))) (subf (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 (res_main_while0b_v75 V0))) (broadcastInDim S1x4x64x64x256 ![0, 1, 2, 3, 4] bcast_S1x4x1x64x256_S1x4x64x64x256_0_1_2_3_4 (broadcastInDim S1x4x1x64x256 ![0, 1, 3, 4] bcast_S1x4x64x256_S1x4x1x64x256_0_1_3_4 (res_main_while0b_v75 V0)))) (broadcastInDim S1x4x64x64x256 ![] bcast_S_S1x4x64x64x256 (constant S_ .f32 0xFF800000#32)) : (Proc.devRef .tc main_while0b_v84 : DevRef τ sig).ty.Contents (Elt F)) = Cert.ReferenceIdeal.Step.b38 j s := by
  unfold Cert.ReferenceIdeal.Step.b38
  rw [← al_36 h, ← al_34 h, ← al_37 h]
  try rfl
set_option maxRecDepth 8192 in
/-- Value 39 of one trip, at a valuation that holds the state, is the step's own. -/
theorem al_39 (h : Holds V0 s j) : (broadcastInDim S1x4x64x1x256 ![0, 1, 2, 4] bcast_S1x4x64x256_S1x4x64x1x256_0_1_2_4 (res_main_while0b_v71 V0) : (Proc.devRef .tc main_while0b_v85 : DevRef τ sig).ty.Contents (Elt F)) = Cert.ReferenceIdeal.Step.b39 j s := by
  unfold Cert.ReferenceIdeal.Step.b39
  rw [← al_5 h]
  try rfl
set_option maxRecDepth 8192 in
/-- Value 40 of one trip, at a valuation that holds the state, is the step's own. -/
theorem al_40 (h : Holds V0 s j) : (Host.exp (select (broadcastInDim S1x4x64x64x256 ![0, 1, 2, 3, 4] bcast_S1x1x64x64x1_S1x4x64x64x256_0_1_2_3_4 (V0 (Proc.devRef .tc main_v48_4))) (subf (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 (res_main_while0b_v75 V0))) (broadcastInDim S1x4x64x64x256 ![0, 1, 2, 3, 4] bcast_S1x4x1x64x256_S1x4x64x64x256_0_1_2_3_4 (broadcastInDim S1x4x1x64x256 ![0, 1, 3, 4] bcast_S1x4x64x256_S1x4x1x64x256_0_1_3_4 (res_main_while0b_v75 V0)))) (broadcastInDim S1x4x64x64x256 ![] bcast_S_S1x4x64x64x256 (constant S_ .f32 0xFF800000#32))) : (Proc.devRef .tc main_while0b_v86 : DevRef τ sig).ty.Contents (Elt F)) = Cert.ReferenceIdeal.Step.b40 j s := by
  unfold Cert.ReferenceIdeal.Step.b40
  rw [← al_38 h]
  try rfl
set_option maxRecDepth 8192 in
/-- Value 41 of one trip, at a valuation that holds the state, is the step's own. -/
theorem al_41 (h : Holds V0 s j) : (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 (res_main_while0b_v71 V0)) : (Proc.devRef .tc main_while0b_v87 : DevRef τ sig).ty.Contents (Elt F)) = Cert.ReferenceIdeal.Step.b41 j s := by
  unfold Cert.ReferenceIdeal.Step.b41
  rw [← al_39 h]
  try rfl
set_option maxRecDepth 8192 in
/-- Value 42 of one trip, at a valuation that holds the state, is the step's own. -/
theorem al_42 (h : Holds V0 s j) : (mulf (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 (res_main_while0b_v71 V0))) (Host.exp (select (broadcastInDim S1x4x64x64x256 ![0, 1, 2, 3, 4] bcast_S1x1x64x64x1_S1x4x64x64x256_0_1_2_3_4 (V0 (Proc.devRef .tc main_v48_4))) (subf (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 (res_main_while0b_v75 V0))) (broadcastInDim S1x4x64x64x256 ![0, 1, 2, 3, 4] bcast_S1x4x1x64x256_S1x4x64x64x256_0_1_2_3_4 (broadcastInDim S1x4x1x64x256 ![0, 1, 3, 4] bcast_S1x4x64x256_S1x4x1x64x256_0_1_3_4 (res_main_while0b_v75 V0)))) (broadcastInDim S1x4x64x64x256 ![] bcast_S_S1x4x64x64x256 (constant S_ .f32 0xFF800000#32)))) : (Proc.devRef .tc main_while0b_v88 : DevRef τ sig).ty.Contents (Elt F)) = Cert.ReferenceIdeal.Step.b42 j s := by
  unfold Cert.ReferenceIdeal.Step.b42
  rw [← al_41 h, ← al_40 h]
  try rfl
set_option maxRecDepth 8192 in
/-- Value 43 of one trip, at a valuation that holds the state, is the step's own. -/
theorem al_43 (h : Holds V0 s j) : (Host.dotGeneral dot_S1x4x64x256_S1x4x64x64x256_S1x4x64x64_3_4_n_2_012_013 none (res_main_while0b_v72 V0) (mulf (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 (res_main_while0b_v71 V0))) (Host.exp (select (broadcastInDim S1x4x64x64x256 ![0, 1, 2, 3, 4] bcast_S1x1x64x64x1_S1x4x64x64x256_0_1_2_3_4 (V0 (Proc.devRef .tc main_v48_4))) (subf (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 (res_main_while0b_v75 V0))) (broadcastInDim S1x4x64x64x256 ![0, 1, 2, 3, 4] bcast_S1x4x1x64x256_S1x4x64x64x256_0_1_2_3_4 (broadcastInDim S1x4x1x64x256 ![0, 1, 3, 4] bcast_S1x4x64x256_S1x4x1x64x256_0_1_3_4 (res_main_while0b_v75 V0)))) (broadcastInDim S1x4x64x64x256 ![] bcast_S_S1x4x64x64x256 (constant S_ .f32 0xFF800000#32))))) : (Proc.devRef .tc main_while0b_v89 : DevRef τ sig).ty.Contents (Elt F)) = Cert.ReferenceIdeal.Step.b43 j s := by
  unfold Cert.ReferenceIdeal.Step.b43
  rw [← al_11 h, ← al_42 h]
  try rfl
set_option maxRecDepth 8192 in
/-- Value 44 of one trip, at a valuation that holds the state, is the step's own. -/
theorem al_44 (h : Holds V0 s j) : (transpose S1x4x64x64 [0, 1, 3, 2] (Host.dotGeneral dot_S1x4x64x256_S1x4x64x64x256_S1x4x64x64_3_4_n_2_012_013 none (res_main_while0b_v72 V0) (mulf (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 (res_main_while0b_v71 V0))) (Host.exp (select (broadcastInDim S1x4x64x64x256 ![0, 1, 2, 3, 4] bcast_S1x1x64x64x1_S1x4x64x64x256_0_1_2_3_4 (V0 (Proc.devRef .tc main_v48_4))) (subf (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 (res_main_while0b_v75 V0))) (broadcastInDim S1x4x64x64x256 ![0, 1, 2, 3, 4] bcast_S1x4x1x64x256_S1x4x64x64x256_0_1_2_3_4 (broadcastInDim S1x4x1x64x256 ![0, 1, 3, 4] bcast_S1x4x64x256_S1x4x1x64x256_0_1_3_4 (res_main_while0b_v75 V0)))) (broadcastInDim S1x4x64x64x256 ![] bcast_S_S1x4x64x64x256 (constant S_ .f32 0xFF800000#32)))))) transposes_S1x4x64x64_S1x4x64x64_0_1_3_2 : (Proc.devRef .tc main_while0b_v90 : DevRef τ sig).ty.Contents (Elt F)) = Cert.ReferenceIdeal.Step.b44 j s := by
  unfold Cert.ReferenceIdeal.Step.b44
  rw [← al_43 h]
  try rfl
set_option maxRecDepth 8192 in
/-- Value 45 of one trip, at a valuation that holds the state, is the step's own. -/
theorem al_45 (h : Holds V0 s j) : (Host.dotGeneral dot_S1x4x64x64_S1x4x64x512_S1x4x64x512_3_2_2_3_01_01 none (transpose S1x4x64x64 [0, 1, 3, 2] (Host.dotGeneral dot_S1x4x64x256_S1x4x64x64x256_S1x4x64x64_3_4_n_2_012_013 none (res_main_while0b_v72 V0) (mulf (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 (res_main_while0b_v71 V0))) (Host.exp (select (broadcastInDim S1x4x64x64x256 ![0, 1, 2, 3, 4] bcast_S1x1x64x64x1_S1x4x64x64x256_0_1_2_3_4 (V0 (Proc.devRef .tc main_v48_4))) (subf (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 (res_main_while0b_v75 V0))) (broadcastInDim S1x4x64x64x256 ![0, 1, 2, 3, 4] bcast_S1x4x1x64x256_S1x4x64x64x256_0_1_2_3_4 (broadcastInDim S1x4x1x64x256 ![0, 1, 3, 4] bcast_S1x4x64x256_S1x4x1x64x256_0_1_3_4 (res_main_while0b_v75 V0)))) (broadcastInDim S1x4x64x64x256 ![] bcast_S_S1x4x64x64x256 (constant S_ .f32 0xFF800000#32)))))) transposes_S1x4x64x64_S1x4x64x64_0_1_3_2) (res_main_while0b_v73 V0) : (Proc.devRef .tc main_while0b_v91 : DevRef τ sig).ty.Contents (Elt F)) = Cert.ReferenceIdeal.Step.b45 j s := by
  unfold Cert.ReferenceIdeal.Step.b45
  rw [← al_44 h, ← al_17 h]
  try rfl
set_option maxRecDepth 8192 in
/-- Value 46 of one trip, at a valuation that holds the state, is the step's own. -/
theorem al_46 (h : Holds V0 s j) : (res_main_while0b_v92 V0 : (Proc.devRef .tc main_while0b_v92 : DevRef τ sig).ty.Contents (Elt F)) = Cert.ReferenceIdeal.Step.b46 j s := by
  unfold res_main_while0b_v92 Cert.ReferenceIdeal.Step.b46
  rw [← al_26 h]
  try rfl
set_option maxRecDepth 8192 in
/-- Value 47 of one trip, at a valuation that holds the state, is the step's own. -/
theorem al_47 (h : Holds V0 s j) : (shapeCast S1x4x256 (res_main_while0b_v92 V0) shapeCasts_S1x4x1x256_S1x4x256 : (Proc.devRef .tc main_while0b_v93 : DevRef τ sig).ty.Contents (Elt F)) = Cert.ReferenceIdeal.Step.b47 j s := by
  unfold Cert.ReferenceIdeal.Step.b47
  rw [← al_46 h]
  try rfl
set_option maxRecDepth 8192 in
/-- Value 48 of one trip, at a valuation that holds the state, is the step's own. -/
theorem al_48 (h : Holds V0 s j) : (Host.exp (shapeCast S1x4x256 (res_main_while0b_v92 V0) shapeCasts_S1x4x1x256_S1x4x256) : (Proc.devRef .tc main_while0b_v94 : DevRef τ sig).ty.Contents (Elt F)) = Cert.ReferenceIdeal.Step.b48 j s := by
  unfold Cert.ReferenceIdeal.Step.b48
  rw [← al_47 h]
  try rfl
set_option maxRecDepth 8192 in
/-- Value 49 of one trip, at a valuation that holds the state, is the step's own. -/
theorem al_49 (h : Holds V0 s j) : (broadcastInDim S1x4x256x1 ![0, 1, 2] bcast_S1x4x256_S1x4x256x1_0_1_2 (Host.exp (shapeCast S1x4x256 (res_main_while0b_v92 V0) shapeCasts_S1x4x1x256_S1x4x256)) : (Proc.devRef .tc main_while0b_v95 : DevRef τ sig).ty.Contents (Elt F)) = Cert.ReferenceIdeal.Step.b49 j s := by
  unfold Cert.ReferenceIdeal.Step.b49
  rw [← al_48 h]
  try rfl
set_option maxRecDepth 8192 in
/-- Value 50 of one trip, at a valuation that holds the state, is the step's own. -/
theorem al_50 (h : Holds V0 s j) : (broadcastInDim S1x4x256x512 ![0, 1, 2, 3] bcast_S1x4x256x1_S1x4x256x512_0_1_2_3 (broadcastInDim S1x4x256x1 ![0, 1, 2] bcast_S1x4x256_S1x4x256x1_0_1_2 (Host.exp (shapeCast S1x4x256 (res_main_while0b_v92 V0) shapeCasts_S1x4x1x256_S1x4x256))) : (Proc.devRef .tc main_while0b_v96 : DevRef τ sig).ty.Contents (Elt F)) = Cert.ReferenceIdeal.Step.b50 j s := by
  unfold Cert.ReferenceIdeal.Step.b50
  rw [← al_49 h]
  try rfl
set_option maxRecDepth 8192 in
/-- Value 51 of one trip, at a valuation that holds the state, is the step's own. -/
theorem al_51 (h : Holds V0 s j) : (mulf (broadcastInDim S1x4x256x512 ![0, 1, 2, 3] bcast_S1x4x256x1_S1x4x256x512_0_1_2_3 (broadcastInDim S1x4x256x1 ![0, 1, 2] bcast_S1x4x256_S1x4x256x1_0_1_2 (Host.exp (shapeCast S1x4x256 (res_main_while0b_v92 V0) shapeCasts_S1x4x1x256_S1x4x256)))) (V0 (Proc.devRef .tc main_v48_6)) : (Proc.devRef .tc main_while0b_v97 : DevRef τ sig).ty.Contents (Elt F)) = Cert.ReferenceIdeal.Step.b51 j s := by
  unfold Cert.ReferenceIdeal.Step.b51
  rw [← al_50 h, h.f_6]
  try rfl
set_option maxRecDepth 8192 in
/-- Value 52 of one trip, at a valuation that holds the state, is the step's own. -/
theorem al_52 (h : Holds V0 s j) : (broadcastInDim S1x4x64x256 ![0, 1, 2, 3] bcast_S1x4x1x256_S1x4x64x256_0_1_2_3 (res_main_while0b_v92 V0) : (Proc.devRef .tc main_while0b_v98 : DevRef τ sig).ty.Contents (Elt F)) = Cert.ReferenceIdeal.Step.b52 j s := by
  unfold Cert.ReferenceIdeal.Step.b52
  rw [← al_46 h]
  try rfl
set_option maxRecDepth 8192 in
/-- Value 53 of one trip, at a valuation that holds the state, is the step's own. -/
theorem al_53 (h : Holds V0 s j) : (subf (broadcastInDim S1x4x64x256 ![0, 1, 2, 3] bcast_S1x4x1x256_S1x4x64x256_0_1_2_3 (res_main_while0b_v92 V0)) (res_main_while0b_v75 V0) : (Proc.devRef .tc main_while0b_v99 : DevRef τ sig).ty.Contents (Elt F)) = Cert.ReferenceIdeal.Step.b53 j s := by
  unfold Cert.ReferenceIdeal.Step.b53
  rw [← al_52 h, ← al_26 h]
  try rfl
set_option maxRecDepth 8192 in
/-- Value 54 of one trip, at a valuation that holds the state, is the step's own. -/
theorem al_54 (h : Holds V0 s j) : (Host.exp (subf (broadcastInDim S1x4x64x256 ![0, 1, 2, 3] bcast_S1x4x1x256_S1x4x64x256_0_1_2_3 (res_main_while0b_v92 V0)) (res_main_while0b_v75 V0)) : (Proc.devRef .tc main_while0b_v100 : DevRef τ sig).ty.Contents (Elt F)) = Cert.ReferenceIdeal.Step.b54 j s := by
  unfold Cert.ReferenceIdeal.Step.b54
  rw [← al_53 h]
  try rfl
set_option maxRecDepth 8192 in
/-- Value 55 of one trip, at a valuation that holds the state, is the step's own. -/
theorem al_55 (h : Holds V0 s j) : (mulf (res_main_while0b_v72 V0) (Host.exp (subf (broadcastInDim S1x4x64x256 ![0, 1, 2, 3] bcast_S1x4x1x256_S1x4x64x256_0_1_2_3 (res_main_while0b_v92 V0)) (res_main_while0b_v75 V0))) : (Proc.devRef .tc main_while0b_v101 : DevRef τ sig).ty.Contents (Elt F)) = Cert.ReferenceIdeal.Step.b55 j s := by
  unfold Cert.ReferenceIdeal.Step.b55
  rw [← al_11 h, ← al_54 h]
  try rfl
set_option maxRecDepth 8192 in
/-- Value 56 of one trip, at a valuation that holds the state, is the step's own. -/
theorem al_56 (h : Holds V0 s j) : (Host.dotGeneral dot_S1x4x64x256_S1x4x64x512_S1x4x256x512_2_2_3_3_01_01 none (mulf (res_main_while0b_v72 V0) (Host.exp (subf (broadcastInDim S1x4x64x256 ![0, 1, 2, 3] bcast_S1x4x1x256_S1x4x64x256_0_1_2_3 (res_main_while0b_v92 V0)) (res_main_while0b_v75 V0)))) (res_main_while0b_v73 V0) : (Proc.devRef .tc main_while0b_v102 : DevRef τ sig).ty.Contents (Elt F)) = Cert.ReferenceIdeal.Step.b56 j s := by
  unfold Cert.ReferenceIdeal.Step.b56
  rw [← al_55 h, ← al_17 h]
  try rfl
set_option maxRecDepth 8192 in
/-- Value 57 of one trip, at a valuation that holds the state, is the step's own. -/
theorem al_57 (h : Holds V0 s j) : (addf (mulf (broadcastInDim S1x4x256x512 ![0, 1, 2, 3] bcast_S1x4x256x1_S1x4x256x512_0_1_2_3 (broadcastInDim S1x4x256x1 ![0, 1, 2] bcast_S1x4x256_S1x4x256x1_0_1_2 (Host.exp (shapeCast S1x4x256 (res_main_while0b_v92 V0) shapeCasts_S1x4x1x256_S1x4x256)))) (V0 (Proc.devRef .tc main_v48_6))) (Host.dotGeneral dot_S1x4x64x256_S1x4x64x512_S1x4x256x512_2_2_3_3_01_01 none (mulf (res_main_while0b_v72 V0) (Host.exp (subf (broadcastInDim S1x4x64x256 ![0, 1, 2, 3] bcast_S1x4x1x256_S1x4x64x256_0_1_2_3 (res_main_while0b_v92 V0)) (res_main_while0b_v75 V0)))) (res_main_while0b_v73 V0)) : (Proc.devRef .tc main_while0b_v103 : DevRef τ sig).ty.Contents (Elt F)) = Cert.ReferenceIdeal.Step.b57 j s := by
  unfold Cert.ReferenceIdeal.Step.b57
  rw [← al_51 h, ← al_56 h]
  try rfl
set_option maxRecDepth 8192 in
/-- Value 58 of one trip, at a valuation that holds the state, is the step's own. -/
theorem al_58 (h : Holds V0 s j) : (addf (Host.dotGeneral dot_S1x4x64x256_S1x4x256x512_S1x4x64x512_3_2_2_3_01_01 none (mulf (res_main_while0b_v71 V0) (Host.exp (res_main_while0b_v75 V0))) (V0 (Proc.devRef .tc main_v48_6))) (Host.dotGeneral dot_S1x4x64x64_S1x4x64x512_S1x4x64x512_3_2_2_3_01_01 none (transpose S1x4x64x64 [0, 1, 3, 2] (Host.dotGeneral dot_S1x4x64x256_S1x4x64x64x256_S1x4x64x64_3_4_n_2_012_013 none (res_main_while0b_v72 V0) (mulf (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 (res_main_while0b_v71 V0))) (Host.exp (select (broadcastInDim S1x4x64x64x256 ![0, 1, 2, 3, 4] bcast_S1x1x64x64x1_S1x4x64x64x256_0_1_2_3_4 (V0 (Proc.devRef .tc main_v48_4))) (subf (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 (res_main_while0b_v75 V0))) (broadcastInDim S1x4x64x64x256 ![0, 1, 2, 3, 4] bcast_S1x4x1x64x256_S1x4x64x64x256_0_1_2_3_4 (broadcastInDim S1x4x1x64x256 ![0, 1, 3, 4] bcast_S1x4x64x256_S1x4x1x64x256_0_1_3_4 (res_main_while0b_v75 V0)))) (broadcastInDim S1x4x64x64x256 ![] bcast_S_S1x4x64x64x256 (constant S_ .f32 0xFF800000#32)))))) transposes_S1x4x64x64_S1x4x64x64_0_1_3_2) (res_main_while0b_v73 V0)) : (Proc.devRef .tc main_while0b_v104 : DevRef τ sig).ty.Contents (Elt F)) = Cert.ReferenceIdeal.Step.b58 j s := by
  unfold Cert.ReferenceIdeal.Step.b58
  rw [← al_29 h, ← al_45 h]
  try rfl
set_option maxRecDepth 8192 in
/-- Value 59 of one trip, at a valuation that holds the state, is the step's own. -/
theorem al_59 (h : Holds V0 s j) : (broadcastInDim S1x1x4x64x512 ![1, 2, 3, 4] bcast_S1x4x64x512_S1x1x4x64x512_1_2_3_4 (addf (Host.dotGeneral dot_S1x4x64x256_S1x4x256x512_S1x4x64x512_3_2_2_3_01_01 none (mulf (res_main_while0b_v71 V0) (Host.exp (res_main_while0b_v75 V0))) (V0 (Proc.devRef .tc main_v48_6))) (Host.dotGeneral dot_S1x4x64x64_S1x4x64x512_S1x4x64x512_3_2_2_3_01_01 none (transpose S1x4x64x64 [0, 1, 3, 2] (Host.dotGeneral dot_S1x4x64x256_S1x4x64x64x256_S1x4x64x64_3_4_n_2_012_013 none (res_main_while0b_v72 V0) (mulf (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 (res_main_while0b_v71 V0))) (Host.exp (select (broadcastInDim S1x4x64x64x256 ![0, 1, 2, 3, 4] bcast_S1x1x64x64x1_S1x4x64x64x256_0_1_2_3_4 (V0 (Proc.devRef .tc main_v48_4))) (subf (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 (res_main_while0b_v75 V0))) (broadcastInDim S1x4x64x64x256 ![0, 1, 2, 3, 4] bcast_S1x4x1x64x256_S1x4x64x64x256_0_1_2_3_4 (broadcastInDim S1x4x1x64x256 ![0, 1, 3, 4] bcast_S1x4x64x256_S1x4x1x64x256_0_1_3_4 (res_main_while0b_v75 V0)))) (broadcastInDim S1x4x64x64x256 ![] bcast_S_S1x4x64x64x256 (constant S_ .f32 0xFF800000#32)))))) transposes_S1x4x64x64_S1x4x64x64_0_1_3_2) (res_main_while0b_v73 V0))) : (Proc.devRef .tc main_while0b_call7_v0 : DevRef τ sig).ty.Contents (Elt F)) = Cert.ReferenceIdeal.Step.b59 j s := by
  unfold Cert.ReferenceIdeal.Step.b59
  rw [← al_58 h]
  try rfl
set_option maxRecDepth 8192 in
/-- Value 60 of one trip, at a valuation that holds the state, is the step's own. -/
theorem al_60 (h : Holds V0 s j) : (constantI S_ 32 0#32 : (Proc.devRef .tc main_while0b_call7_c : DevRef τ sig).ty.Contents (Elt F)) = Cert.ReferenceIdeal.Step.b60 j s := by
  unfold Cert.ReferenceIdeal.Step.b60
  rfl
set_option maxRecDepth 8192 in
/-- Value 61 of one trip, at a valuation that holds the state, is the step's own. -/
theorem al_61 (h : Holds V0 s j) : (constantI S_ 32 0#32 : (Proc.devRef .tc main_while0b_call7_c_0 : DevRef τ sig).ty.Contents (Elt F)) = Cert.ReferenceIdeal.Step.b61 j s := by
  unfold Cert.ReferenceIdeal.Step.b61
  rfl
set_option maxRecDepth 8192 in
/-- Value 62 of one trip, at a valuation that holds the state, is the step's own. -/
theorem al_62 (h : Holds V0 s j) : (constantI S_ 32 0#32 : (Proc.devRef .tc main_while0b_call7_c_1 : DevRef τ sig).ty.Contents (Elt F)) = Cert.ReferenceIdeal.Step.b62 j s := by
  unfold Cert.ReferenceIdeal.Step.b62
  rfl
set_option maxRecDepth 8192 in
/-- Value 63 of one trip, at a valuation that holds the state, is the step's own. -/
theorem al_63 (h : Holds V0 s j) : (constantI S_ 32 0#32 : (Proc.devRef .tc main_while0b_call7_c_2 : DevRef τ sig).ty.Contents (Elt F)) = Cert.ReferenceIdeal.Step.b63 j s := by
  unfold Cert.ReferenceIdeal.Step.b63
  rfl
set_option maxRecDepth 8192 in
/-- Value 64 of one trip, at a valuation that holds the state, is the step's own. -/
theorem al_64 (h : Holds V0 s j) : (Host.dynamicUpdateSlice (V0 (Proc.devRef .tc main_v48_7)) (broadcastInDim S1x1x4x64x512 ![1, 2, 3, 4] bcast_S1x4x64x512_S1x1x4x64x512_1_2_3_4 (addf (Host.dotGeneral dot_S1x4x64x256_S1x4x256x512_S1x4x64x512_3_2_2_3_01_01 none (mulf (res_main_while0b_v71 V0) (Host.exp (res_main_while0b_v75 V0))) (V0 (Proc.devRef .tc main_v48_6))) (Host.dotGeneral dot_S1x4x64x64_S1x4x64x512_S1x4x64x512_3_2_2_3_01_01 none (transpose S1x4x64x64 [0, 1, 3, 2] (Host.dotGeneral dot_S1x4x64x256_S1x4x64x64x256_S1x4x64x64_3_4_n_2_012_013 none (res_main_while0b_v72 V0) (mulf (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 (res_main_while0b_v71 V0))) (Host.exp (select (broadcastInDim S1x4x64x64x256 ![0, 1, 2, 3, 4] bcast_S1x1x64x64x1_S1x4x64x64x256_0_1_2_3_4 (V0 (Proc.devRef .tc main_v48_4))) (subf (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 (res_main_while0b_v75 V0))) (broadcastInDim S1x4x64x64x256 ![0, 1, 2, 3, 4] bcast_S1x4x1x64x256_S1x4x64x64x256_0_1_2_3_4 (broadcastInDim S1x4x1x64x256 ![0, 1, 3, 4] bcast_S1x4x64x256_S1x4x1x64x256_0_1_3_4 (res_main_while0b_v75 V0)))) (broadcastInDim S1x4x64x64x256 ![] bcast_S_S1x4x64x64x256 (constant S_ .f32 0xFF800000#32)))))) transposes_S1x4x64x64_S1x4x64x64_0_1_3_2) (res_main_while0b_v73 V0)))) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) updateFits_S128x1x4x64x512_S1x1x4x64x512 : (Proc.devRef .tc main_while0b_v105 : DevRef τ sig).ty.Contents (Elt F)) = Cert.ReferenceIdeal.Step.b64 j s := by
  unfold Cert.ReferenceIdeal.Step.b64
  rw [← al_59 h, ← al_60 h, ← al_61 h, ← al_62 h, ← al_63 h, h.f_7, h.n_5]
  try rfl

/-! One trip's step of the carried values is `step`, field by field; a counter steps to the next number. -/

/-- The carried state after one trip. -/
theorem step_6 (h : Holds V0 s j) : step_main_v48_6 V0 = (step j s).main_v48_6 := by
  unfold step_main_v48_6 Cert.ReferenceIdeal.Step.step
  show id (addf (mulf (broadcastInDim S1x4x256x512 ![0, 1, 2, 3] bcast_S1x4x256x1_S1x4x256x512_0_1_2_3 (broadcastInDim S1x4x256x1 ![0, 1, 2] bcast_S1x4x256_S1x4x256x1_0_1_2 (Host.exp (shapeCast S1x4x256 (res_main_while0b_v92 V0) shapeCasts_S1x4x1x256_S1x4x256)))) (V0 (Proc.devRef .tc main_v48_6))) (Host.dotGeneral dot_S1x4x64x256_S1x4x64x512_S1x4x256x512_2_2_3_3_01_01 none (mulf (res_main_while0b_v72 V0) (Host.exp (subf (broadcastInDim S1x4x64x256 ![0, 1, 2, 3] bcast_S1x4x1x256_S1x4x64x256_0_1_2_3 (res_main_while0b_v92 V0)) (res_main_while0b_v75 V0)))) (res_main_while0b_v73 V0))) = _
  rw [al_57 h]
  try rfl
/-- The outputs written so far, after one trip. -/
theorem step_7 (h : Holds V0 s j) : step_main_v48_7 V0 = (step j s).main_v48_7 := by
  unfold step_main_v48_7 Cert.ReferenceIdeal.Step.step
  show id (Host.dynamicUpdateSlice (V0 (Proc.devRef .tc main_v48_7)) (broadcastInDim S1x1x4x64x512 ![1, 2, 3, 4] bcast_S1x4x64x512_S1x1x4x64x512_1_2_3_4 (addf (Host.dotGeneral dot_S1x4x64x256_S1x4x256x512_S1x4x64x512_3_2_2_3_01_01 none (mulf (res_main_while0b_v71 V0) (Host.exp (res_main_while0b_v75 V0))) (V0 (Proc.devRef .tc main_v48_6))) (Host.dotGeneral dot_S1x4x64x64_S1x4x64x512_S1x4x64x512_3_2_2_3_01_01 none (transpose S1x4x64x64 [0, 1, 3, 2] (Host.dotGeneral dot_S1x4x64x256_S1x4x64x64x256_S1x4x64x64_3_4_n_2_012_013 none (res_main_while0b_v72 V0) (mulf (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 (res_main_while0b_v71 V0))) (Host.exp (select (broadcastInDim S1x4x64x64x256 ![0, 1, 2, 3, 4] bcast_S1x1x64x64x1_S1x4x64x64x256_0_1_2_3_4 (V0 (Proc.devRef .tc main_v48_4))) (subf (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 (res_main_while0b_v75 V0))) (broadcastInDim S1x4x64x64x256 ![0, 1, 2, 3, 4] bcast_S1x4x1x64x256_S1x4x64x64x256_0_1_2_3_4 (broadcastInDim S1x4x1x64x256 ![0, 1, 3, 4] bcast_S1x4x64x256_S1x4x1x64x256_0_1_3_4 (res_main_while0b_v75 V0)))) (broadcastInDim S1x4x64x64x256 ![] bcast_S_S1x4x64x64x256 (constant S_ .f32 0xFF800000#32)))))) transposes_S1x4x64x64_S1x4x64x64_0_1_3_2) (res_main_while0b_v73 V0)))) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) updateFits_S128x1x4x64x512_S1x1x4x64x512) = _
  exact (al_64 h).trans rfl
  try rfl
/-- The trip counter after one trip. -/
theorem step_5 (h : Holds V0 s j) : step_main_v48_5 V0 = constantI S_ 32 (BitVec.ofNat 32 (j + 1)) := by
  unfold step_main_v48_5
  rw [h.n_5]
  funext i
  show BitVec.ofNat 32 j + 1#32 = BitVec.ofNat 32 (j + 1)
  simp only [BitVec.ofNat_add]

set_option maxRecDepth 8192 in
/-- The result of the whole program from the loop's final state. -/
theorem out_main_v70_holds (h : Holds V0 s j) {x_main_arg0 : (⟨S8192x13664, .f32⟩ : BufTy).Contents (Elt F)} (h_main_arg0 : V0 (Proc.devRef .tc main_arg0) = x_main_arg0) {x_main_arg3 : (⟨S4x512, .f32⟩ : BufTy).Contents (Elt F)} (h_main_arg3 : V0 (Proc.devRef .tc main_arg3) = x_main_arg3) : out_main_v70 V0 = Cert.ReferenceIdeal.Step.R_main_v70 s x_main_arg0 x_main_arg3 := by
  unfold out_main_v70 Cert.ReferenceIdeal.Step.R_main_v70
  rw [h.f_7, h_main_arg0, h_main_arg3]
  try rfl

/-- One trip keeps the valuation holding: `step` of the state, the same set-up values, the next number. -/
theorem holds_step (h : Holds V0 s j) : Holds (STEP V0) (step j s) (j + 1) where
  f_6 := (STEP_main_v48_6 V0).trans (step_6 h)
  f_7 := (STEP_main_v48_7 V0).trans (step_7 h)
  n_5 := (STEP_main_v48_5 V0).trans (step_5 h)
  k_4 := (STEP_main_v48_4 V0).trans h.k_4
  f_0 := (STEP_main_v48_0 V0).trans h.f_0
  f_1 := (STEP_main_v48_1 V0).trans h.f_1
  f_2 := (STEP_main_v48_2 V0).trans h.f_2
  f_3 := (STEP_main_v48_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v70) = Cert.ReferenceIdeal.Step.R_main_v70 (it c 128) (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 128
    ⟨(h c).1.trans (out_main_v70_holds hk (iter_main_arg0 m c 128) (iter_main_arg3 m c 128)), (h c).2.1, (h c).2.2.1, (h c).2.2.2.1, (h c).2.2.2.2⟩) (Value.run m ρ)

end Cert.GlaLoop

end
-- ==== Proof.GlaChunks.lean ====
module

public import proofs.«01_k».proof.Proof.Gen.ReferenceIdeal.Step
public import proofs.«01_k».proof.Proof.GlaReal
public import proofs.«01_k».proof.Proof.GlaHead
public import Idealize.ShloMosaic.Lib.Pipeline.ValueKit
public import Idealize.ShloMosaic.Lib.Pointwise

/-! The reference's operands, cut into chunks of 64 rows, at the reals behind the arguments. -/

@[expose] public section

set_option maxRecDepth 16384
noncomputable section
open Idealize.ShloMosaic Idealize.ShloMosaic.TcCoe Idealize.SL.Sem
namespace Cert.GlaChunks
open Cert.ReferenceIdeal Cert.ReferenceIdeal.Gen Cert.ReferenceIdeal.Step Cert.GlaReal Cert.GlaMath

/-- Splitting 1024 columns into four heads of 256. -/
theorem heads256 (X : FVec Ideal S1x8192x1024 .f32) (r : Fin 8192) (n : Fin 4) (d : Fin 256) :
    shapeCast S1x8192x4x256 X shapeCasts_S1x8192x1024_S1x8192x4x256 (ix4 0 r n d) = X (ix3 0 r ⟨256 * n.val + d.val, by omega⟩) :=
  shapeCast_apply X _ _ _ (by
    rw [Shape.rowMajor_val_three, Shape.rowMajor_val_four]
    show (0 * 8192 + r.val) * 1024 + (256 * n.val + d.val) = ((0 * 8192 + r.val) * 4 + n.val) * 256 + d.val
    omega)

/-- Splitting 2048 columns into four heads of 512. -/
theorem heads512 (X : FVec Ideal S1x8192x2048 .f32) (r : Fin 8192) (n : Fin 4) (d : Fin 512) :
    shapeCast S1x8192x4x512 X shapeCasts_S1x8192x2048_S1x8192x4x512 (ix4 0 r n d) = X (ix3 0 r ⟨512 * n.val + d.val, by omega⟩) :=
  shapeCast_apply X _ _ _ (by
    rw [Shape.rowMajor_val_three, Shape.rowMajor_val_four]
    show (0 * 8192 + r.val) * 2048 + (512 * n.val + d.val) = ((0 * 8192 + r.val) * 4 + n.val) * 512 + d.val
    omega)

/-- Splitting 8192 rows into 128 chunks of 64. -/
theorem rows256 (X : FVec Ideal S1x8192x4x256 .f32) (a : Fin 128) (n : Fin 4) (i : Fin 64) (d : Fin 256) :
    shapeCast S1x128x64x4x256 X shapeCasts_S1x8192x4x256_S1x128x64x4x256 (ix5 0 a i n d) = X (ix4 0 ⟨64 * a.val + i.val, by omega⟩ n d) :=
  shapeCast_apply X _ _ _ (by
    rw [Shape.rowMajor_val_four, Shape.rowMajor_val_five]
    show ((0 * 8192 + (64 * a.val + i.val)) * 4 + n.val) * 256 + d.val = (((0 * 128 + a.val) * 64 + i.val) * 4 + n.val) * 256 + d.val
    omega)

/-- The same at a width of 512. -/
theorem rows512 (X : FVec Ideal S1x8192x4x512 .f32) (a : Fin 128) (n : Fin 4) (i : Fin 64) (d : Fin 512) :
    shapeCast S1x128x64x4x512 X shapeCasts_S1x8192x4x512_S1x128x64x4x512 (ix5 0 a i n d) = X (ix4 0 ⟨64 * a.val + i.val, by omega⟩ n d) :=
  shapeCast_apply X _ _ _ (by
    rw [Shape.rowMajor_val_four, Shape.rowMajor_val_five]
    show ((0 * 8192 + (64 * a.val + i.val)) * 4 + n.val) * 512 + d.val = (((0 * 128 + a.val) * 64 + i.val) * 4 + n.val) * 512 + d.val
    omega)

/-- The chunk axis in front, the head axis before the rows. -/
theorem front256 (X : FVec Ideal S1x128x64x4x256 .f32) (a : Fin 128) (n : Fin 4) (i : Fin 64) (d : Fin 256) :
    transpose S128x1x4x64x256 [1, 0, 3, 2, 4] X transposes_S1x128x64x4x256_S128x1x4x64x256_1_0_3_2_4 (ix5 a 0 n i d) = X (ix5 0 a i n d) := by
  pointwise

/-- The same at a width of 512. -/
theorem front512 (X : FVec Ideal S1x128x64x4x512 .f32) (a : Fin 128) (n : Fin 4) (i : Fin 64) (d : Fin 512) :
    transpose S128x1x4x64x512 [1, 0, 3, 2, 4] X transposes_S1x128x64x4x512_S128x1x4x64x512_1_0_3_2_4 (ix5 a 0 n i d) = X (ix5 0 a i n d) := by
  pointwise

variable {R : Ops} {p : FVec Ideal S8192x13664 .f32} {w : FVec Ideal S16x1024 .f32} {b : FVec Ideal S1024 .f32}

/-- The reals behind the arguments. -/
def At (R : Ops) (p : FVec Ideal S8192x13664 .f32) (w : FVec Ideal S16x1024 .f32) (b : FVec Ideal S1024 .f32) : Prop :=
  R.Of (fun r x => p (ix2 r x)) (fun a d => w (ix2 a d)) (fun d => b (ix1 d))

/-- The query chunks. -/
theorem q_at (H : At R p w b) (a : Fin 128) (n : Fin 4) (i : Fin 64) (d : Fin 256) :
    A_main_v36 (F := Ideal) p w b (ix5 a 0 n i d) = ((R.q n (64 * a.val + i.val) d : ℝ) : EReal) := by
  unfold A_main_v36 A_main_v35
  rw [front256, rows256]
  unfold A_main_v34 A_main_v29
  rw [mulf_apply, heads256]
  have h1 : A_main_v1 (F := Ideal) p w b (ix3 0 ⟨64 * a.val + i.val, by omega⟩ ⟨256 * n.val + d.val, by omega⟩)
      = p (ix2 ⟨64 * a.val + i.val, by omega⟩ ⟨256 * n.val + d.val, by omega⟩) := by
    pointwise [A_main_v1, A_main_v0]
  have h2 : K_main_v33 (F := Ideal) (ix4 0 ⟨64 * a.val + i.val, by omega⟩ n d) = Ideal.ofBits .f32 0x3D800000#32 := by
    pointwise [K_main_v33, K_main_cst_1]
  rw [h1, h2, Cert.GlaHead.sixteenth, H.pr _ _ (by left; dsimp only; omega)]
  exact (EReal.coe_mul _ _).symm

/-- The key chunks. -/
theorem k_at (H : At R p w b) (a : Fin 128) (n : Fin 4) (i : Fin 64) (d : Fin 256) :
    A_main_v38 (F := Ideal) p w b (ix5 a 0 n i d) = ((R.k n (64 * a.val + i.val) d : ℝ) : EReal) := by
  unfold A_main_v38 A_main_v37
  rw [front256, rows256]
  unfold A_main_v30
  rw [heads256]
  have h1 : A_main_v3 (F := Ideal) p w b (ix3 0 ⟨64 * a.val + i.val, by omega⟩ ⟨256 * n.val + d.val, by omega⟩)
      = p (ix2 ⟨64 * a.val + i.val, by omega⟩ ⟨1024 + (256 * n.val + d.val), by omega⟩) := by
    pointwise [A_main_v3, A_main_v2]
  rw [h1, H.pr _ _ (by left; dsimp only; omega)]
  rfl

/-- The value chunks. -/
theorem v_at (H : At R p w b) (a : Fin 128) (n : Fin 4) (i : Fin 64) (e : Fin 512) :
    A_main_v40 (F := Ideal) p w b (ix5 a 0 n i e) = ((R.v n (64 * a.val + i.val) e : ℝ) : EReal) := by
  unfold A_main_v40 A_main_v39
  rw [front512, rows512]
  unfold A_main_v31
  rw [heads512]
  have h1 : A_main_v5 (F := Ideal) p w b (ix3 0 ⟨64 * a.val + i.val, by omega⟩ ⟨512 * n.val + e.val, by omega⟩)
      = p (ix2 ⟨64 * a.val + i.val, by omega⟩ ⟨2048 + (512 * n.val + e.val), by omega⟩) := by
    pointwise [A_main_v5, A_main_v4]
  rw [h1, H.pr _ _ (by left; dsimp only; omega)]
  rfl

/-- The gate's logit. -/
theorem z_at (H : At R p w b) (r : Fin 8192) (x : Fin 1024) :
    A_main_v11 (F := Ideal) p w b (ix3 0 r x) = ((∑ c : Fin 16, R.pr r.val (6144 + c.val) * R.w2 c x.val + R.b x.val : ℝ) : EReal) := by
  pointwise [A_main_v11, A_main_v10, A_main_v9, A_main_v8, A_main_v7, A_main_v6]
  rw [EReal.coe_add, ← Cert.GlaHead.coe_sum]
  refine congrArg₂ (· + ·) (Finset.sum_congr rfl fun c _ => ?_) (H.b x)
  rw [EReal.coe_mul]
  exact congrArg₂ (· * ·) (H.pr _ _ (by right; dsimp only; omega)) (H.w2 c x)

/-- Sixteen, as the reference spells it. -/
theorem sixteen : Ideal.ofBits .f32 0x41800000#32 = ((16 : ℝ) : EReal) := by
  simp [Ideal.ofBits, Ideal.ieee]
  rw [← EReal.coe_mul]
  norm_num

/-- The log decay of a real logit. -/
theorem la_at (r : Fin 8192) (x : Fin 1024) (z : ℝ) (hz : A_main_v11 (F := Ideal) p w b (ix3 0 r x) = (z : EReal)) :
    A_main_v28 (F := Ideal) p w b (ix3 0 r x) = ((gate z : ℝ) : EReal) := by
  have h12 : A_main_v12 (F := Ideal) p w b (ix3 0 r x) = ((-z : ℝ) : EReal) := by
    unfold A_main_v12; rw [EReal.coe_neg]; exact congrArg (- ·) hz
  have h0 : (Ideal.ofBits .f32 0x00000000#32 : EReal) = ((0 : ℝ) : EReal) := (Ideal.ofBits_zero .f32).trans EReal.coe_zero.symm
  have h15 : K_main_v15 (F := Ideal) (ix3 0 r x) = ((0 : ℝ) : EReal) := by
    rw [← h0]; pointwise [K_main_v15, K_main_cst]
  have h13 : K_main_v13 (F := Ideal) (ix3 0 r x) = ((0 : ℝ) : EReal) := by
    rw [← h0]; pointwise [K_main_v13, K_main_cst]
  have h27 : K_main_v27 (F := Ideal) (ix3 0 r x) = ((16 : ℝ) : EReal) := by
    rw [← sixteen]; pointwise [K_main_v27, K_main_cst_0]
  have h16 : A_main_v16 (F := Ideal) p w b (ix3 0 r x) = ((-z : ℝ) : EReal) := by
    unfold A_main_v16; rw [subf_apply, h12, h15]; exact (EReal.coe_sub _ _).symm.trans (congrArg _ (sub_zero _))
  have h17 : A_main_v17 (F := Ideal) p w b (ix3 0 r x) = 0#1 := by
    unfold A_main_v17; rw [ValueIdx.cmpf_apply, h16]; show Ideal.cmp .une _ _ = _; simp [Ideal.cmp]
  have h23 : A_main_v23 (F := Ideal) p w b (ix3 0 r x) = ((Real.log (1 + Real.exp (-|(-z)|)) : ℝ) : EReal) := by
    have e : A_main_v23 (F := Ideal) p w b (ix3 0 r x) = Ideal.log1p (Ideal.exp (-(max (A_main_v16 (F := Ideal) p w b (ix3 0 r x)) (-(A_main_v16 (F := Ideal) p w b (ix3 0 r x)))))) := by
      unfold A_main_v23 A_main_v22 A_main_v21 A_main_v20; rfl
    rw [e, h16, ← EReal.coe_neg, Cert.GlaHead.coe_max', ← EReal.coe_neg, Ideal.exp_coe, Ideal.log1p, ← EReal.coe_one, ← EReal.coe_add, Ideal.log_coe,
      if_neg (by have := Real.exp_pos (-max (-z) (- -z)); linarith)]
    rfl
  have h25 : A_main_v25 (F := Ideal) p w b (ix3 0 r x) = ((max (-z) 0 + Real.log (1 + Real.exp (-|(-z)|)) : ℝ) : EReal) := by
    unfold A_main_v25
    rw [ValueIdx.select_apply, h17]
    show A_main_v24 (F := Ideal) p w b (ix3 0 r x) = _
    unfold A_main_v24 A_main_v14
    rw [addf_apply, maximumf_apply, h12, h13, h23]
    exact (congrArg (· + _) (Cert.GlaHead.coe_max' _ _)).trans (EReal.coe_add _ _).symm
  unfold A_main_v28 A_main_v26
  show Ideal.div (-(A_main_v25 (F := Ideal) p w b (ix3 0 r x))) (K_main_v27 (F := Ideal) (ix3 0 r x)) = _
  rw [h25, h27, ← gate_eq, ← EReal.coe_neg, Ideal.div_coe (by norm_num), ← EReal.coe_mul, mul_one_div]

/-- The log-decay chunks. -/
theorem g_at (H : At R p w b) (a : Fin 128) (n : Fin 4) (i : Fin 64) (d : Fin 256) :
    A_main_v42 (F := Ideal) p w b (ix5 a 0 n i d) = ((R.g n (64 * a.val + i.val) d : ℝ) : EReal) := by
  unfold A_main_v42 A_main_v41
  rw [front256, rows256]
  unfold A_main_v32
  rw [heads256]
  exact la_at _ _ _ (z_at H _ _)

end Cert.GlaChunks
end
-- ==== Proof.GlaTrip.lean ====
module

public import proofs.«01_k».proof.Proof.Gen.ReferenceIdeal.Step
public import proofs.«01_k».proof.Proof.GlaReal
public import proofs.«01_k».proof.Proof.GlaHead
public import Idealize.ShloMosaic.Lib.Pipeline.ValueKit
public import Idealize.ShloMosaic.Lib.Pointwise
public import Idealize.ShloMosaic.Lib.WordCmp

/-! One trip of the reference's loop over chunks of 64 rows: what it makes of chunks and a state that are real. -/

@[expose] public section

set_option maxRecDepth 16384
noncomputable section
open Idealize.ShloMosaic Idealize.ShloMosaic.TcCoe Idealize.SL.Sem
namespace Cert.GlaTrip
open Cert.ReferenceIdeal Cert.ReferenceIdeal.Gen Cert.ReferenceIdeal.Step Cert.GlaReal Cert.GlaMath

/-- A fold that adds is the sum of what it adds. -/
theorem foldl_sum {ι : Type} (f : EReal → ι → EReal) (G : ι → EReal) (hf : ∀ r n, f r n = r + G n) : ∀ (l : List ι) (v : EReal), l.foldl f v = v + (l.map G).sum
  | [], v => by simp
  | n :: l, v => by rw [List.foldl_cons, hf, foldl_sum f G hf l, List.map_cons, List.sum_cons, add_assoc]

/-- A window of 64 reaching back from row `j` holds the rows up to it. -/
theorem window_sum (f : ℕ → ℝ) (j : ℕ) (hj : j < 64) :
    ∑ n ∈ Finset.range 64, (if 63 ≤ j + n then f (j + n - 63) else 0) = ∑ u ∈ Finset.range (j + 1), f u := by
  have e : 64 = (63 - j) + (j + 1) := by omega
  rw [e, Finset.sum_range_add, Finset.sum_eq_zero fun n hn => if_neg (by have := Finset.mem_range.1 hn; omega), zero_add]
  refine Finset.sum_congr rfl fun u _ => ?_
  rw [if_pos (by omega), show j + (63 - j + u) - 63 = u by omega]

/-- The running sum down a chunk's rows. -/
theorem cum_at (x : FVec Ideal S1x4x64x256 .f32) (v : FVec Ideal S_ .f32) (hv : v (Shape.Idx.first h_S_) = 0) (n : Fin 4) (d : Fin 256) (f : ℕ → ℝ)
    (hf : ∀ i : Fin 64, x (ix4 0 n i d) = ((f i.val : ℝ) : EReal)) (j : Fin 64) :
    Host.reduceWindowAdd ![1, 1, 64, 1] ![1, 1, 1, 1] ![0, 0, 63, 0] ![0, 0, 0, 0] x v
      reduceWindows_S1x4x64x256_S1x4x64x256_w1s1p0_0_w1s1p0_0_w64s1p63_0_w1s1p0_0 h_S_ (ix4 0 n j d) = ((∑ u ∈ Finset.range (j.val + 1), f u : ℝ) : EReal) := by
  show Host.reduceWindow (· + ·) ![1, 1, 64, 1] ![1, 1, 1, 1] ![0, 0, 63, 0] ![0, 0, 0, 0] x v
      reduceWindows_S1x4x64x256_S1x4x64x256_w1s1p0_0_w1s1p0_0_w64s1p63_0_w1s1p0_0 h_S_ (ix4 0 n j d) = _
  unfold Host.reduceWindow
  have hj := j.isLt
  refine (foldl_sum _ (fun k => (((if 63 ≤ j.val + k.val then f (j.val + k.val - 63) else 0 : ℝ)) : EReal)) (fun r k => ?_) _ _).trans ?_
  · dsimp only
    refine congrArg (r + ·) ?_
    have hk : (((⟨4, ![1, 1, 64, 1]⟩ : Shape).rowMajor.symm k 0).val * 1 + ((⟨4, ![1, 1, 64, 1]⟩ : Shape).rowMajor.symm k 1).val) * 64
        + ((⟨4, ![1, 1, 64, 1]⟩ : Shape).rowMajor.symm k 2).val = k.val := by
      have := Shape.rowMajor_val_four ((⟨4, ![1, 1, 64, 1]⟩ : Shape).rowMajor.symm k)
      rw [Equiv.apply_symm_apply] at this
      have h3 : ((⟨4, ![1, 1, 64, 1]⟩ : Shape).rowMajor.symm k 3).val < 1 := Fin.isLt _
      change k.val = ((_ * 1 + _) * 64 + _) * 1 + _ at this
      omega
    have h0 : ((⟨4, ![1, 1, 64, 1]⟩ : Shape).rowMajor.symm k 0).val < 1 := Fin.isLt _
    have h1 : ((⟨4, ![1, 1, 64, 1]⟩ : Shape).rowMajor.symm k 1).val < 1 := Fin.isLt _
    have h2 : ((⟨4, ![1, 1, 64, 1]⟩ : Shape).rowMajor.symm k 2).val < 64 := Fin.isLt _
    have h3 : ((⟨4, ![1, 1, 64, 1]⟩ : Shape).rowMajor.symm k 3).val < 1 := Fin.isLt _
    split
    · next hin =>
      have a2 := (hin 2).1
      change 63 ≤ j.val * 1 + ((⟨4, ![1, 1, 64, 1]⟩ : Shape).rowMajor.symm k 2).val at a2
      rw [if_pos (by omega)]
      refine Eq.trans (congrArg x (funext fun a => Fin.ext ?_)) (hf ⟨j.val + k.val - 63, by omega⟩)
      match a with
      | ⟨0, _⟩ => show 0 * 1 + ((⟨4, ![1, 1, 64, 1]⟩ : Shape).rowMajor.symm k 0).val - 0 = 0; omega
      | ⟨1, _⟩ => show n.val * 1 + ((⟨4, ![1, 1, 64, 1]⟩ : Shape).rowMajor.symm k 1).val - 0 = n.val; omega
      | ⟨2, _⟩ => show j.val * 1 + ((⟨4, ![1, 1, 64, 1]⟩ : Shape).rowMajor.symm k 2).val - 63 = j.val + k.val - 63; omega
      | ⟨3, _⟩ => show d.val * 1 + ((⟨4, ![1, 1, 64, 1]⟩ : Shape).rowMajor.symm k 3).val - 0 = d.val; omega
    · next hin =>
      rw [if_neg fun hle => hin fun a => by
        match a with
        | ⟨0, _⟩ => show 0 ≤ 0 * 1 + ((⟨4, ![1, 1, 64, 1]⟩ : Shape).rowMajor.symm k 0).val ∧ 0 * 1 + ((⟨4, ![1, 1, 64, 1]⟩ : Shape).rowMajor.symm k 0).val - 0 < 1; omega
        | ⟨1, _⟩ => show 0 ≤ n.val * 1 + ((⟨4, ![1, 1, 64, 1]⟩ : Shape).rowMajor.symm k 1).val ∧ n.val * 1 + ((⟨4, ![1, 1, 64, 1]⟩ : Shape).rowMajor.symm k 1).val - 0 < 4; omega
        | ⟨2, _⟩ => show 63 ≤ j.val * 1 + ((⟨4, ![1, 1, 64, 1]⟩ : Shape).rowMajor.symm k 2).val ∧ j.val * 1 + ((⟨4, ![1, 1, 64, 1]⟩ : Shape).rowMajor.symm k 2).val - 63 < 64; omega
        | ⟨3, _⟩ => show 0 ≤ d.val * 1 + ((⟨4, ![1, 1, 64, 1]⟩ : Shape).rowMajor.symm k 3).val ∧ d.val * 1 + ((⟨4, ![1, 1, 64, 1]⟩ : Shape).rowMajor.symm k 3).val - 0 < 256; omega]
      exact hv
  · rw [hv, zero_add, ← List.ofFn_eq_map, List.sum_ofFn, Cert.GlaHead.coe_sum, ← window_sum f j.val hj]
    exact congrArg _ (Finset.sum_range fun k => (if 63 ≤ j.val + k then f (j.val + k - 63) else 0 : ℝ)).symm

/-- Dropping the unit axis in front of a chunk of width 256. -/
theorem drop256 (Y : FVec Ideal S1x1x4x64x256 .f32) (n : Fin 4) (i : Fin 64) (d : Fin 256) :
    shapeCast S1x4x64x256 Y shapeCasts_S1x1x4x64x256_S1x4x64x256 (ix4 0 n i d) = Y (ix5 0 0 n i d) :=
  shapeCast_apply Y _ _ _ (by
    rw [Shape.rowMajor_val_four, Shape.rowMajor_val_five]
    show (((0 * 1 + 0) * 4 + n.val) * 64 + i.val) * 256 + d.val = ((0 * 4 + n.val) * 64 + i.val) * 256 + d.val
    omega)

/-- A chunk is what a stack of chunks holds at its number. -/
theorem cut256 (X : FVec Ideal S128x1x4x64x256 .f32) (st : Fin 5 → Int) (j : ℕ) (hj : j < 128) (h0 : st 0 = j) (h1 : st 1 = 0) (h2 : st 2 = 0) (h3 : st 3 = 0) (h4 : st 4 = 0)
    (n : Fin 4) (i : Fin 64) (d : Fin 256) :
    shapeCast S1x4x64x256 (Host.dynamicSlice S1x1x4x64x256 X st sliceFits_S128x1x4x64x256_S1x1x4x64x256) shapeCasts_S1x1x4x64x256_S1x4x64x256 (ix4 0 n i d)
      = X (ix5 ⟨j, hj⟩ 0 n i d) := by
  rw [drop256]
  rw [WordCmp.dynamicSlice_eq_extract S1x1x4x64x256 X st sliceFits_S128x1x4x64x256_S1x1x4x64x256 ![j, 0, 0, 0, 0] ⟨rfl, fun a => by
      match a with
      | ⟨0, _⟩ => show j + 1 ≤ 128; omega
      | ⟨1, _⟩ => show 0 + 1 ≤ 1; omega
      | ⟨2, _⟩ => show 0 + 4 ≤ 4; omega
      | ⟨3, _⟩ => show 0 + 64 ≤ 64; omega
      | ⟨4, _⟩ => show 0 + 256 ≤ 256; omega⟩ (fun a => by
      match a with
      | ⟨0, _⟩ => exact h0
      | ⟨1, _⟩ => exact h1
      | ⟨2, _⟩ => exact h2
      | ⟨3, _⟩ => exact h3
      | ⟨4, _⟩ => exact h4)]
  refine congrArg X (funext fun a => Fin.ext ?_)
  match a with
  | ⟨0, _⟩ => exact Nat.add_zero j
  | ⟨1, _⟩ => rfl
  | ⟨2, _⟩ => exact Nat.zero_add _
  | ⟨3, _⟩ => exact Nat.zero_add _
  | ⟨4, _⟩ => exact Nat.zero_add _

/-- Dropping the unit axis in front of a chunk of width 512. -/
theorem drop512 (Y : FVec Ideal S1x1x4x64x512 .f32) (n : Fin 4) (i : Fin 64) (d : Fin 512) :
    shapeCast S1x4x64x512 Y shapeCasts_S1x1x4x64x512_S1x4x64x512 (ix4 0 n i d) = Y (ix5 0 0 n i d) :=
  shapeCast_apply Y _ _ _ (by
    rw [Shape.rowMajor_val_four, Shape.rowMajor_val_five]
    show (((0 * 1 + 0) * 4 + n.val) * 64 + i.val) * 512 + d.val = ((0 * 4 + n.val) * 64 + i.val) * 512 + d.val
    omega)

/-- The same at a width of 512. -/
theorem cut512 (X : FVec Ideal S128x1x4x64x512 .f32) (st : Fin 5 → Int) (j : ℕ) (hj : j < 128) (h0 : st 0 = j) (h1 : st 1 = 0) (h2 : st 2 = 0) (h3 : st 3 = 0) (h4 : st 4 = 0)
    (n : Fin 4) (i : Fin 64) (d : Fin 512) :
    shapeCast S1x4x64x512 (Host.dynamicSlice S1x1x4x64x512 X st sliceFits_S128x1x4x64x512_S1x1x4x64x512) shapeCasts_S1x1x4x64x512_S1x4x64x512 (ix4 0 n i d)
      = X (ix5 ⟨j, hj⟩ 0 n i d) := by
  rw [drop512]
  rw [WordCmp.dynamicSlice_eq_extract S1x1x4x64x512 X st sliceFits_S128x1x4x64x512_S1x1x4x64x512 ![j, 0, 0, 0, 0] ⟨rfl, fun a => by
      match a with
      | ⟨0, _⟩ => show j + 1 ≤ 128; omega
      | ⟨1, _⟩ => show 0 + 1 ≤ 1; omega
      | ⟨2, _⟩ => show 0 + 4 ≤ 4; omega
      | ⟨3, _⟩ => show 0 + 64 ≤ 64; omega
      | ⟨4, _⟩ => show 0 + 512 ≤ 512; omega⟩ (fun a => by
      match a with
      | ⟨0, _⟩ => exact h0
      | ⟨1, _⟩ => exact h1
      | ⟨2, _⟩ => exact h2
      | ⟨3, _⟩ => exact h3
      | ⟨4, _⟩ => exact h4)]
  refine congrArg X (funext fun a => Fin.ext ?_)
  match a with
  | ⟨0, _⟩ => exact Nat.add_zero j
  | ⟨1, _⟩ => rfl
  | ⟨2, _⟩ => exact Nat.zero_add _
  | ⟨3, _⟩ => exact Nat.zero_add _
  | ⟨4, _⟩ => exact Nat.zero_add _

/-- Putting a chunk into the stack at its number: the chunk there, the stack elsewhere. -/
theorem put512 (X : FVec Ideal S128x1x4x64x512 .f32) (U : FVec Ideal S1x4x64x512 .f32) (st : Fin 5 → Int) (j : ℕ) (hj : j < 128) (h0 : st 0 = j) (h1 : st 1 = 0) (h2 : st 2 = 0) (h3 : st 3 = 0) (h4 : st 4 = 0)
    (a : Fin 128) (n : Fin 4) (i : Fin 64) (d : Fin 512) :
    Host.dynamicUpdateSlice X (broadcastInDim S1x1x4x64x512 ![1, 2, 3, 4] bcast_S1x4x64x512_S1x1x4x64x512_1_2_3_4 U) st updateFits_S128x1x4x64x512_S1x1x4x64x512 (ix5 a 0 n i d)
      = if a.val = j then U (ix4 0 n i d) else X (ix5 a 0 n i d) := by
  rw [Host.dynamicUpdateSlice_eq_updateSlice X _ st updateFits_S128x1x4x64x512_S1x1x4x64x512 ![j, 0, 0, 0, 0] (fun a => by
    match a with
    | ⟨0, _⟩ => show (min (max (st 0) 0) ((128 - 1 : ℕ) : Int)).toNat = j; rw [h0]; omega
    | ⟨1, _⟩ => show (min (max (st 1) 0) ((1 - 1 : ℕ) : Int)).toNat = 0; rw [h1]; omega
    | ⟨2, _⟩ => show (min (max (st 2) 0) ((4 - 4 : ℕ) : Int)).toNat = 0; rw [h2]; omega
    | ⟨3, _⟩ => show (min (max (st 3) 0) ((64 - 64 : ℕ) : Int)).toNat = 0; rw [h3]; omega
    | ⟨4, _⟩ => show (min (max (st 4) 0) ((512 - 512 : ℕ) : Int)).toNat = 0; rw [h4]; omega)
    ⟨rfl, fun a => by
      match a with
      | ⟨0, _⟩ => show j + 1 ≤ 128; omega
      | ⟨1, _⟩ => show 0 + 1 ≤ 1; omega
      | ⟨2, _⟩ => show 0 + 4 ≤ 4; omega
      | ⟨3, _⟩ => show 0 + 64 ≤ 64; omega
      | ⟨4, _⟩ => show 0 + 512 ≤ 512; omega⟩]
  have hn := n.isLt; have hi := i.isLt; have hd := d.isLt
  unfold updateSlice
  by_cases h : a.val = j
  · rw [if_pos h, dif_pos fun x => by
      match x with
      | ⟨0, _⟩ => show j ≤ a.val ∧ a.val < j + 1; omega
      | ⟨1, _⟩ => show 0 ≤ 0 ∧ 0 < 0 + 1; omega
      | ⟨2, _⟩ => show 0 ≤ n.val ∧ n.val < 0 + 4; omega
      | ⟨3, _⟩ => show 0 ≤ i.val ∧ i.val < 0 + 64; omega
      | ⟨4, _⟩ => show 0 ≤ d.val ∧ d.val < 0 + 512; omega]
    have hb : ∀ y : S1x1x4x64x512.Idx, broadcastInDim S1x1x4x64x512 ![1, 2, 3, 4] bcast_S1x4x64x512_S1x1x4x64x512_1_2_3_4 U y = U (ix4 0 (y 2) (y 3) (y 4)) := fun y => by pointwise
    refine (hb _).trans (congrArg U (funext fun x => Fin.ext ?_))
    match x with
    | ⟨0, _⟩ => rfl
    | ⟨1, _⟩ => rfl
    | ⟨2, _⟩ => rfl
    | ⟨3, _⟩ => rfl
  · rw [if_neg h, dif_neg fun hin => h (by have := hin 0; change j ≤ a.val ∧ a.val < j + 1 at this; omega)]

/-- What holds before trip `j`: the chunks are the real operands, the state is the recurrence's before the chunk's first row, the rows above are done. -/
structure Inv (R : Ops) (s : State Ideal) (j : ℕ) : Prop where
  q : ∀ (a : Fin 128) (n : Fin 4) (i : Fin 64) (d : Fin 256), s.main_v48_0 (ix5 a 0 n i d) = ((R.q n (64 * a.val + i.val) d : ℝ) : EReal)
  k : ∀ (a : Fin 128) (n : Fin 4) (i : Fin 64) (d : Fin 256), s.main_v48_1 (ix5 a 0 n i d) = ((R.k n (64 * a.val + i.val) d : ℝ) : EReal)
  v : ∀ (a : Fin 128) (n : Fin 4) (i : Fin 64) (e : Fin 512), s.main_v48_2 (ix5 a 0 n i e) = ((R.v n (64 * a.val + i.val) e : ℝ) : EReal)
  g : ∀ (a : Fin 128) (n : Fin 4) (i : Fin 64) (d : Fin 256), s.main_v48_3 (ix5 a 0 n i d) = ((R.g n (64 * a.val + i.val) d : ℝ) : EReal)
  st : ∀ (n : Fin 4) (d : Fin 256) (e : Fin 512), s.main_v48_6 (ix4 0 n d e) = ((R.st n e d (64 * j) : ℝ) : EReal)
  out : ∀ (a : Fin 128), a.val < j → ∀ (n : Fin 4) (i : Fin 64) (e : Fin 512), s.main_v48_7 (ix5 a 0 n i e) = ((R.o n (64 * a.val + i.val) e : ℝ) : EReal)

variable {R : Ops} {s : State Ideal} {j : ℕ}

/-- The trip's number, read back. -/
theorem word (hj : j < 128) : (BitVec.ofNat 32 j).toInt = (j : Int) := by
  rw [BitVec.toInt_eq_toNat_cond, BitVec.toNat_ofNat, Nat.mod_eq_of_lt (by omega), if_pos (by omega)]

/-- The trip's queries. -/
theorem b5_at (H : Inv R s j) (hj : j < 128) (n : Fin 4) (i : Fin 64) (d : Fin 256) : b5 j s (ix4 0 n i d) = ((R.q n (64 * j + i.val) d : ℝ) : EReal) := by
  unfold b5 b4
  exact (cut256 _ _ j hj (word hj) rfl rfl rfl rfl n i d).trans (H.q ⟨j, hj⟩ n i d)

/-- The trip's keys. -/
theorem b11_at (H : Inv R s j) (hj : j < 128) (n : Fin 4) (i : Fin 64) (d : Fin 256) : b11 j s (ix4 0 n i d) = ((R.k n (64 * j + i.val) d : ℝ) : EReal) := by
  unfold b11 b10
  exact (cut256 _ _ j hj (word hj) rfl rfl rfl rfl n i d).trans (H.k ⟨j, hj⟩ n i d)

/-- The trip's values. -/
theorem b17_at (H : Inv R s j) (hj : j < 128) (n : Fin 4) (i : Fin 64) (e : Fin 512) : b17 j s (ix4 0 n i e) = ((R.v n (64 * j + i.val) e : ℝ) : EReal) := by
  unfold b17 b16
  exact (cut512 _ _ j hj (word hj) rfl rfl rfl rfl n i e).trans (H.v ⟨j, hj⟩ n i e)

/-- The trip's log decays. -/
theorem b23_at (H : Inv R s j) (hj : j < 128) (n : Fin 4) (i : Fin 64) (d : Fin 256) : b23 j s (ix4 0 n i d) = ((R.g n (64 * j + i.val) d : ℝ) : EReal) := by
  unfold b23 b22
  exact (cut256 _ _ j hj (word hj) rfl rfl rfl rfl n i d).trans (H.g ⟨j, hj⟩ n i d)

/-- Their running sums. -/
theorem b26_at (H : Inv R s j) (hj : j < 128) (n : Fin 4) (i : Fin 64) (d : Fin 256) : b26 j s (ix4 0 n i d) = ((pre (fun u => R.g n u d) (64 * j) i.val : ℝ) : EReal) := by
  unfold b26
  exact cum_at _ _ ((show b25 j s (Shape.Idx.first h_S_) = Ideal.ofBits .f32 0x00000000#32 from rfl).trans (Ideal.ofBits_zero .f32)) n d (fun u => R.g n (64 * j + u) d) (b23_at H hj n · d) i

/-- The mask: rows at or above the query's. -/
theorem mask_at (i y : Fin 64) : K_main_v45 (F := Ideal) (ix5 0 0 i y 0) = if y.val ≤ i.val then 1#1 else 0#1 := by
  pointwise [K_main_v45, K_main_v44, K_main_call0_v4, K_main_call0_v2, K_main_call0_v0, K_main_call0_v1, K_main_call0_c, K_main_call0_v3, K_main_v43, K_main_c, K_main_call0_v5, K_main_call0_c_0]
  revert i y
  decide +kernel

/-- The state's part of the trip's output. -/
theorem b29_at (H : Inv R s j) (hj : j < 128) (n : Fin 4) (i : Fin 64) (e : Fin 512) :
    b29 j s (ix4 0 n i e) = ((∑ d : Fin 256, R.q n (64 * j + i.val) d * Real.exp (pre (fun u => R.g n u d) (64 * j) i.val) * R.st n e d (64 * j) : ℝ) : EReal) := by
  have h28 : ∀ d : Fin 256, b28 j s (ix4 0 n i d) = ((R.q n (64 * j + i.val) d * Real.exp (pre (fun u => R.g n u d) (64 * j) i.val) : ℝ) : EReal) := fun d => by
    have e1 : b28 j s (ix4 0 n i d) = b5 j s (ix4 0 n i d) * Ideal.exp (b26 j s (ix4 0 n i d)) := rfl
    rw [e1, b5_at H hj, b26_at H hj, Ideal.exp_coe]; exact (EReal.coe_mul _ _).symm
  unfold b29
  generalize b28 j s = X at h28 ⊢
  have hs := H.st
  generalize s.main_v48_6 = Y at hs ⊢
  pointwise
  rw [← Cert.GlaHead.coe_sum]
  exact Finset.sum_congr rfl fun d _ => by rw [h28, hs]; exact (EReal.coe_mul _ _).symm

/-- The masked decay between two rows of the chunk. -/
theorem b38_at (H : Inv R s j) (hj : j < 128) (n : Fin 4) (i y : Fin 64) (d : Fin 256) :
    b38 j s (ix5 0 n i y d) = if y.val ≤ i.val then ((pre (fun u => R.g n u d) (64 * j) i.val - pre (fun u => R.g n u d) (64 * j) y.val : ℝ) : EReal) else ⊥ := by
  have e1 : b38 j s (ix5 0 n i y d) = Scalar.select (b36 j s (ix5 0 n i y d)) (b34 j s (ix5 0 n i y d)) (b37 j s (ix5 0 n i y d)) := rfl
  have e2 : b36 j s (ix5 0 n i y d) = K_main_v45 (F := Ideal) (ix5 0 0 i y 0) := by pointwise [b36]
  have e3 : b34 j s (ix5 0 n i y d) = b26 j s (ix4 0 n i d) - b26 j s (ix4 0 n y d) := by
    unfold b34 b33 b32 b31 b30
    generalize b26 j s = X
    pointwise
  have e4 : b37 j s (ix5 0 n i y d) = ⊥ := by
    have : b37 j s (ix5 0 n i y d) = Ideal.ofBits .f32 0xFF800000#32 := by pointwise [b37, b35]
    rw [this]; simp [Ideal.ofBits, Ideal.ieee]
  rw [e1, e2, mask_at, e3, e4, b26_at H hj, b26_at H hj]
  by_cases h : y.val ≤ i.val
  · rw [if_pos h, if_pos h]; exact (EReal.coe_sub _ _).symm
  · rw [if_neg h, if_neg h]; rfl

/-- The scores inside the chunk. -/
theorem b44_at (H : Inv R s j) (hj : j < 128) (n : Fin 4) (i y : Fin 64) :
    b44 j s (ix4 0 n i y) = ((if y.val ≤ i.val then ∑ d : Fin 256, R.q n (64 * j + i.val) d * R.k n (64 * j + y.val) d
      * Real.exp (pre (fun u => R.g n u d) (64 * j) i.val - pre (fun u => R.g n u d) (64 * j) y.val) else 0 : ℝ) : EReal) := by
  have h42 : ∀ d : Fin 256, b42 j s (ix5 0 n i y d) = b5 j s (ix4 0 n i d) * Ideal.exp (b38 j s (ix5 0 n i y d)) := fun d => by
    unfold b42 b41 b40 b39
    generalize b5 j s = X
    generalize b38 j s = Y
    pointwise
  have h44 : b44 j s (ix4 0 n i y) = ∑ d : Fin 256, b11 j s (ix4 0 n y d) * b42 j s (ix5 0 n i y d) := by
    unfold b44 b43
    generalize b11 j s = X
    generalize b42 j s = Y
    pointwise
  rw [h44]
  by_cases h : y.val ≤ i.val
  · rw [if_pos h, ← Cert.GlaHead.coe_sum]
    refine Finset.sum_congr rfl fun d _ => ?_
    rw [h42, b11_at H hj, b5_at H hj, b38_at H hj, if_pos h, Ideal.exp_coe, ← EReal.coe_mul, ← EReal.coe_mul]
    exact congrArg _ (by ring)
  · rw [if_neg h, EReal.coe_zero]
    refine Finset.sum_eq_zero fun d _ => ?_
    rw [h42, b38_at H hj, if_neg h, show Ideal.exp ⊥ = 0 from rfl, mul_zero, mul_zero]

/-- The trip's output. -/
theorem b58_at (H : Inv R s j) (hj : j < 128) (n : Fin 4) (i : Fin 64) (e : Fin 512) : b58 j s (ix4 0 n i e) = ((R.o n (64 * j + i.val) e : ℝ) : EReal) := by
  have h45 : b45 j s (ix4 0 n i e) = ∑ y : Fin 64, b44 j s (ix4 0 n i y) * b17 j s (ix4 0 n y e) := by
    unfold b45
    generalize b44 j s = X
    generalize b17 j s = Y
    pointwise
  have e1 : b58 j s (ix4 0 n i e) = b29 j s (ix4 0 n i e) + b45 j s (ix4 0 n i e) := rfl
  rw [e1, b29_at H hj, h45]
  have e2 := out_step (R.q n) (R.k n) (R.g n) (fun u => R.v n u e) (64 * j) 64 i.val i.isLt
  unfold Ops.o Ops.st
  rw [← e2, EReal.coe_add]
  refine congrArg₂ (· + ·) rfl ?_
  rw [Finset.sum_range, ← Cert.GlaHead.coe_sum]
  refine Finset.sum_congr rfl fun y _ => ?_
  rw [b44_at H hj, b17_at H hj]
  exact (EReal.coe_mul _ _).symm

/-- The trip's new state. -/
theorem b57_at (H : Inv R s j) (hj : j < 128) (n : Fin 4) (d : Fin 256) (e : Fin 512) : b57 j s (ix4 0 n d e) = ((R.st n e d (64 * (j + 1)) : ℝ) : EReal) := by
  have h50 : b50 j s (ix4 0 n d e) = Ideal.exp (b26 j s (ix4 0 n 63 d)) := by
    have h47 : b47 j s (ix3 0 n d) = b26 j s (ix4 0 n 63 d) := by
      unfold b47 b46
      generalize b26 j s = X
      pointwise
    have h49 : b50 j s (ix4 0 n d e) = b48 j s (ix3 0 n d) := by
      unfold b50 b49
      generalize b48 j s = X
      pointwise
    rw [h49, ← h47]; rfl
  have h56 : b56 j s (ix4 0 n d e) = ∑ y : Fin 64, b55 j s (ix4 0 n y d) * b17 j s (ix4 0 n y e) := by
    unfold b56
    generalize b55 j s = X
    generalize b17 j s = Y
    pointwise
  have h53 : ∀ y : Fin 64, b53 j s (ix4 0 n y d) = b26 j s (ix4 0 n 63 d) - b26 j s (ix4 0 n y d) := fun y => by
    unfold b53 b52 b46
    generalize b26 j s = X
    pointwise
  have h55 : ∀ y : Fin 64, b55 j s (ix4 0 n y d) = b11 j s (ix4 0 n y d) * Ideal.exp (b53 j s (ix4 0 n y d)) := fun y => rfl
  have e1 : b57 j s (ix4 0 n d e) = b50 j s (ix4 0 n d e) * s.main_v48_6 (ix4 0 n d e) + b56 j s (ix4 0 n d e) := rfl
  have e2 := state_step (fun u => R.g n u d) (fun u => R.k n u d) (fun u => R.v n u e) (64 * j) 63
  rw [e1, h50, b26_at H hj, H.st, h56, Ideal.exp_coe]
  unfold Ops.st
  rw [show 64 * (j + 1) = 64 * j + (63 + 1) by omega, ← e2, EReal.coe_add, EReal.coe_mul]
  refine congrArg₂ (· + ·) rfl ?_
  rw [Finset.sum_range, ← Cert.GlaHead.coe_sum]
  refine Finset.sum_congr rfl fun y _ => ?_
  rw [h55, h53, b11_at H hj, b26_at H hj, b26_at H hj, b17_at H hj, ← EReal.coe_sub, Ideal.exp_coe, ← EReal.coe_mul, ← EReal.coe_mul]
  rfl

/-- A trip keeps the invariant. -/
theorem step_inv (H : Inv R s j) (hj : j < 128) : Inv R (step j s) (j + 1) where
  q := H.q
  k := H.k
  v := H.v
  g := H.g
  st := fun n d e => b57_at H hj n d e
  out := fun a ha n i e => by
    show b64 j s (ix5 a 0 n i e) = _
    unfold b64 b59
    rw [put512 s.main_v48_7 (b58 j s) _ j hj (word hj) rfl rfl rfl rfl a n i e]
    by_cases h : a.val = j
    · rw [if_pos h, b58_at H hj, h]
    · rw [if_neg h]; exact H.out a (by omega) n i e

end Cert.GlaTrip
end
-- ==== Proof.GlaReference.lean ====
module

public import proofs.«01_k».proof.Proof.GlaLoop
public import proofs.«01_k».proof.Proof.GlaChunks
public import proofs.«01_k».proof.Proof.GlaTrip
public import Idealize.ShloMosaic.Lib.Pipeline.ValueKit
public import Idealize.ShloMosaic.Lib.Pointwise

/-! The reference's result at an index, at the reals behind the arguments. -/

@[expose] public section

set_option maxRecDepth 16384
noncomputable section
open Idealize.ShloMosaic Idealize.ShloMosaic.TcCoe Idealize.SL.Sem
namespace Cert.GlaReference
open Cert.ReferenceIdeal Cert.ReferenceIdeal.Gen Cert.ReferenceIdeal.Step Cert.GlaReal Cert.GlaMath

variable {R : Ops} {p : FVec Ideal S8192x13664 .f32} {w : FVec Ideal S16x1024 .f32} {b : FVec Ideal S1024 .f32}

/-- The state after `j` trips. -/
def iter (p : FVec Ideal S8192x13664 .f32) (w : FVec Ideal S16x1024 .f32) (b : FVec Ideal S1024 .f32) : ℕ → State Ideal
  | 0 => init (F := Ideal) p w b
  | j + 1 => step j (iter p w b j)

/-- Before the first trip. -/
theorem init_inv (H : GlaChunks.At R p w b) : GlaTrip.Inv R (init (F := Ideal) p w b) 0 where
  q := GlaChunks.q_at H
  k := GlaChunks.k_at H
  v := GlaChunks.v_at H
  g := GlaChunks.g_at H
  st := fun n d e => by
    show K_main_v46 (F := Ideal) (ix4 0 n d e) = _
    have h : K_main_v46 (F := Ideal) (ix4 0 n d e) = Ideal.ofBits .f32 0x00000000#32 := by pointwise [K_main_v46, K_main_cst_2]
    rw [h, Ops.st_zero]
    exact (Ideal.ofBits_zero .f32).trans EReal.coe_zero.symm
  out := fun a h => absurd h (Nat.not_lt_zero _)

/-- Before every trip. -/
theorem iter_inv (H : GlaChunks.At R p w b) : ∀ j, j ≤ 128 → GlaTrip.Inv R (iter p w b j) j
  | 0, _ => init_inv H
  | j + 1, h => GlaTrip.step_inv (iter_inv H j (by omega)) (by omega)

/-- The heads' outputs, row by row, out of the stack of chunks. -/
def rowsF (s7 : FVec Ideal S128x1x4x64x512 .f32) : FVec Ideal S1x8192x4x512 .f32 :=
  shapeCast _ (transpose S1x128x64x4x512 [1, 0, 3, 2, 4] s7 transposes_S128x1x4x64x512_S1x128x64x4x512_1_0_3_2_4) shapeCasts_S1x128x64x4x512_S1x8192x4x512

/-- A row's outputs are its chunk's. -/
theorem rows_at (s7 : FVec Ideal S128x1x4x64x512 .f32) (r : Fin 8192) (n : Fin 4) (x : Fin 512) :
    rowsF s7 (ix4 0 r n x) = s7 (ix5 ⟨r.val / 64, by omega⟩ 0 n ⟨r.val % 64, by omega⟩ x) := by
  have h1 : ∀ Y : FVec Ideal S1x128x64x4x512 .f32, shapeCast S1x8192x4x512 Y shapeCasts_S1x128x64x4x512_S1x8192x4x512 (ix4 0 r n x)
      = Y (ix5 0 ⟨r.val / 64, by omega⟩ ⟨r.val % 64, by omega⟩ n x) := fun Y =>
    shapeCast_apply Y _ _ _ (by
      rw [Shape.rowMajor_val_four, Shape.rowMajor_val_five]
      show (((0 * 128 + r.val / 64) * 64 + r.val % 64) * 4 + n.val) * 512 + x.val = ((0 * 8192 + r.val) * 4 + n.val) * 512 + x.val
      omega)
  have h2 : ∀ (a : Fin 128) (i : Fin 64), transpose S1x128x64x4x512 [1, 0, 3, 2, 4] s7 transposes_S128x1x4x64x512_S1x128x64x4x512_1_0_3_2_4 (ix5 0 a i n x) = s7 (ix5 a 0 n i x) :=
    fun a i => by pointwise
  unfold rowsF
  rw [h1, h2]

/-- The normalisation over a head's outputs and its gain. -/
def normF (O : FVec Ideal S1x8192x4x512 .f32) (hg : FVec Ideal S4x512 .f32) : FVec Ideal S1x8192x4x512 .f32 :=
  mulf (mulf O (broadcastInDim S1x8192x4x512 ![0, 1, 2, 3] bcast_S1x8192x4x1_S1x8192x4x512_0_1_2_3 (Host.rsqrt (addf (Host.divf (broadcastInDim S1x8192x4x1 ![0, 1, 2] bcast_S1x8192x4_S1x8192x4x1_0_1_2 (Host.reduceAdd (mulf O O) (constant S_ .f32 0x00000000#32) reducesTo_S1x8192x4x512_S1x8192x4_d3 h_S_)) (broadcastInDim S1x8192x4x1 ![] bcast_S_S1x8192x4x1 (constant S_ .f32 0x44000000#32))) (broadcastInDim S1x8192x4x1 ![] bcast_S_S1x8192x4x1 (constant S_ .f32 0x358637BD#32)))))) (broadcastInDim S1x8192x4x512 ![0, 1, 2, 3] bcast_S1x1x4x512_S1x8192x4x512_0_1_2_3 (broadcastInDim S1x1x4x512 ![2, 3] bcast_S4x512_S1x1x4x512_2_3 hg))

/-- The output gate. -/
def siluF (p : FVec Ideal S8192x13664 .f32) : FVec Ideal S1x8192x2048 .f32 :=
  mulf (broadcastInDim S1x8192x2048 ![1, 2] bcast_S8192x2048_S1x8192x2048_1_2 (extractStridedSlice S8192x2048 ![0, 4096] p slices_S8192x13664_S8192x2048_0_4096)) (Host.divf (broadcastInDim S1x8192x2048 ![] bcast_S_S1x8192x2048 (constant S_ .f32 0x3F800000#32)) (addf (broadcastInDim S1x8192x2048 ![] bcast_S_S1x8192x2048 (constant S_ .f32 0x3F800000#32)) (Host.exp (Host.negf (broadcastInDim S1x8192x2048 ![1, 2] bcast_S8192x2048_S1x8192x2048_1_2 (extractStridedSlice S8192x2048 ![0, 4096] p slices_S8192x13664_S8192x2048_0_4096))))))

/-- The normalised output at an index. -/
theorem norm_at (O : FVec Ideal S1x8192x4x512 .f32) (hg : FVec Ideal S4x512 .f32) (r : Fin 8192) (n : Fin 4) (e : Fin 512) :
    normF O hg (ix4 0 r n e) = O (ix4 0 r n e) * Ideal.rsqrt (Ideal.div (∑ x : Fin 512, O (ix4 0 r n x) * O (ix4 0 r n x)) (Ideal.ofBits .f32 0x44000000#32) + Ideal.ofBits .f32 0x358637BD#32) * hg (ix2 n e) := by
  pointwise [normF]

/-- The output gate at an index. -/
theorem silu_at (p : FVec Ideal S8192x13664 .f32) (r : Fin 8192) (x : Fin 2048) :
    siluF p (ix3 0 r x) = p (ix2 r ⟨4096 + x.val, by omega⟩) * Ideal.logistic (p (ix2 r ⟨4096 + x.val, by omega⟩)) := by
  pointwise [siluF]
  rfl

/-- The result at an index, of the loop's last state. -/
theorem result_at (s : State Ideal) (p : FVec Ideal S8192x13664 .f32) (hg : FVec Ideal S4x512 .f32) (r : Fin 8192) (n : Fin 4) (e : Fin 512) :
    R_main_v70 s p hg (ix2 r ⟨512 * n.val + e.val, by omega⟩)
      = tailE (fun x => s.main_v48_7 (ix5 ⟨r.val / 64, by omega⟩ 0 n ⟨r.val % 64, by omega⟩ x)) e (hg (ix2 n e)) (p (ix2 r ⟨4096 + (512 * n.val + e.val), by omega⟩)) := by
  have h0 : R_main_v70 s p hg = truncf .bf16 (shapeCast S8192x2048 (mulf (shapeCast S1x8192x2048 (normF (rowsF s.main_v48_7) hg) shapeCasts_S1x8192x4x512_S1x8192x2048) (siluF p)) shapeCasts_S1x8192x2048_S8192x2048) bitsLt_bf16_f32 := rfl
  have h1 : ∀ Y : FVec Ideal S1x8192x2048 .f32, shapeCast S8192x2048 Y shapeCasts_S1x8192x2048_S8192x2048 (ix2 r ⟨512 * n.val + e.val, by omega⟩) = Y (ix3 0 r ⟨512 * n.val + e.val, by omega⟩) := fun Y =>
    shapeCast_apply Y _ _ _ (by
      rw [Shape.rowMajor_val_two, Shape.rowMajor_val_three]
      show (0 * 8192 + r.val) * 2048 + (512 * n.val + e.val) = r.val * 2048 + (512 * n.val + e.val)
      omega)
  have h2 : ∀ Y : FVec Ideal S1x8192x4x512 .f32, shapeCast S1x8192x2048 Y shapeCasts_S1x8192x4x512_S1x8192x2048 (ix3 0 r ⟨512 * n.val + e.val, by omega⟩) = Y (ix4 0 r n e) := fun Y =>
    shapeCast_apply Y _ _ _ (by
      rw [Shape.rowMajor_val_three, Shape.rowMajor_val_four]
      show ((0 * 8192 + r.val) * 4 + n.val) * 512 + e.val = (0 * 8192 + r.val) * 2048 + (512 * n.val + e.val)
      omega)
  rw [h0, truncf_apply, h1, mulf_apply, h2, norm_at, silu_at]
  simp only [rows_at]
  rfl

/-- The result at an index, at the reals. -/
theorem reference_at (H : GlaChunks.At R p w b) (hg : FVec Ideal S4x512 .f32) (r : Fin 8192) (n : Fin 4) (e : Fin 512) :
    R_main_v70 (iter p w b 128) p hg (ix2 r ⟨512 * n.val + e.val, by omega⟩)
      = tailE (fun x => ((R.o n r.val x : ℝ) : EReal)) e (hg (ix2 n e)) (p (ix2 r ⟨4096 + (512 * n.val + e.val), by omega⟩)) := by
  rw [result_at]
  refine congrArg (fun f => tailE f e _ _) (funext fun x => ?_)
  rw [(iter_inv H 128 le_rfl).out ⟨r.val / 64, by omega⟩ (by show r.val / 64 < 128; omega) n ⟨r.val % 64, by omega⟩ x]
  rw [show 64 * (r.val / 64) + r.val % 64 = r.val from Nat.div_add_mod _ _]

end Cert.GlaReference
end
-- ==== Proof.GlaFinite.lean ====
module

public import proofs.«01_k».proof.Pre_finite
public import Idealize.ShloMosaic.PureOps.Ideal
public import Idealize.ShloMosaic.Lib.ReduceAll
public import Idealize.ShloMosaic.Lib.Pipeline.ValueKit
public import Idealize.ShloMosaic.Lib.Pointwise

/-! The precondition: the entries the recurrence reads are finite. -/

@[expose] public section

set_option maxRecDepth 16384
noncomputable section
open Idealize.ShloMosaic
namespace Cert.GlaFinite
open Cert.Pre_finite

/-- The precondition's shape facts. -/
theorem facts : Cert.Pre_finite.Facts where
  slices_S8192x13664_S8192x4096_0_0 := by decide
  bcast_S_S8192x4096 := by decide
  reducesTo_S8192x4096_S_d0_1 := by decide
  h_S_ := by decide
  slices_S8192x13664_S8192x16_0_6144 := by decide
  bcast_S_S8192x16 := by decide
  reducesTo_S8192x16_S_d0_1 := by decide
  bcast_S_S16x1024 := by decide
  reducesTo_S16x1024_S_d0_1 := by decide
  bcast_S_S1024 := by decide
  reducesTo_S1024_S_d0 := by decide

instance : Subsingleton (S_.Idx) := ⟨fun a b => funext fun x => x.elim0⟩

/-- An entry whose magnitude is below infinity is a real. -/
theorem real_of (x : EReal) (h : Ideal.cmp .olt (max x (-x)) (Ideal.ofBits .f32 0x7F800000#32) = 1#1) : x ≠ ⊤ ∧ x ≠ ⊥ := by
  have e : Ideal.ofBits .f32 0x7F800000#32 = ⊤ := by simp [Ideal.ofBits, Ideal.ieee]
  rw [e] at h
  constructor
  · rintro rfl; simp [Ideal.cmp] at h
  · rintro rfl; simp [Ideal.cmp] at h

attribute [instance] facts

/-- Both conjuncts of a one-bit conjunction. -/
theorem both (a b : BitVec 1) (h : IntOp.andi a b = 1#1) : a = 1#1 ∧ b = 1#1 := by
  revert a b; decide

/-- What the precondition gives of the entries. -/
theorem entries [Cert.Pre_finite.Facts] (p : FVec Ideal S8192x13664 .f32) (w : FVec Ideal S16x1024 .f32) (b : FVec Ideal S1024 .f32) (hg : FVec Ideal S4x512 .f32)
    (h : Cert.Pre_finite.fn (F := Ideal) p w b hg = fun _ => 1#1) :
    (∀ r x, (x.val < 4096 ∨ (6144 ≤ x.val ∧ x.val < 6160)) → p (ix2 r x) ≠ ⊤ ∧ p (ix2 r x) ≠ ⊥) ∧ (∀ c d, w (ix2 c d) ≠ ⊤ ∧ w (ix2 c d) ≠ ⊥)
      ∧ (∀ d, b (ix1 d) ≠ ⊤ ∧ b (ix1 d) ≠ ⊥) := by
  have h0 := congrFun h (fun x => x.elim0)
  dsimp only [Cert.Pre_finite.fn, Cert.Pre_finite.fn_part1] at h0
  obtain ⟨h1, hb⟩ := both _ _ h0
  obtain ⟨h2, hw⟩ := both _ _ h1
  obtain ⟨h3, h4⟩ := both _ _ h2
  refine ⟨fun r x hx => ?_, fun c d => ?_, fun d => ?_⟩
  · rcases hx with hx | ⟨hx, hx'⟩
    · have e := Host.reduce_andi_all _ _ _ _ _ h3 (ix2 r ⟨x.val, hx⟩)
      have e1 : extractStridedSlice S8192x4096 ![0, 0] p Facts.slices_S8192x13664_S8192x4096_0_0 (ix2 r ⟨x.val, hx⟩) = p (ix2 r x) :=
        congrArg p (funext fun a => Fin.ext (by
          match a with
          | ⟨0, _⟩ => exact Nat.zero_add _
          | ⟨1, _⟩ => exact Nat.zero_add _))
      exact real_of _ (e1 ▸ e)
    · have e := Host.reduce_andi_all _ _ _ _ _ h4 (ix2 r ⟨x.val - 6144, by omega⟩)
      have e1 : extractStridedSlice S8192x16 ![0, 6144] p Facts.slices_S8192x13664_S8192x16_0_6144 (ix2 r ⟨x.val - 6144, by omega⟩) = p (ix2 r x) :=
        congrArg p (funext fun a => Fin.ext (by
          match a with
          | ⟨0, _⟩ => exact Nat.zero_add _
          | ⟨1, _⟩ => show 6144 + (x.val - 6144) = x.val; omega))
      exact real_of _ (e1 ▸ e)
  · exact real_of _ (Host.reduce_andi_all _ _ _ _ _ hw (ix2 c d))
  · exact real_of _ (Host.reduce_andi_all _ _ _ _ _ hb (ix1 d))

end Cert.GlaFinite
end
-- ==== Proof.GlaClaim.lean ====
module

public import proofs.«01_k».proof.Defs
public import proofs.«01_k».proof.Proof.Gen.Kernel.Frame
public import proofs.«01_k».proof.Proof.Gen.KernelIdeal.Frame
public import proofs.«01_k».proof.Proof.GlaKernel
public import proofs.«01_k».proof.Proof.GlaReference
public import proofs.«01_k».proof.Proof.GlaFinite
public import Idealize.ShloMosaic.Adequacy
public import Idealize.ShloMosaic.Init

/-! The layer's gated linear attention: the kernel and the reference end with the same array. -/

@[expose] public section

set_option maxRecDepth 16384
noncomputable section
open Idealize.ShloMosaic Idealize.ShloMosaic.TcCoe Idealize.SL.Sem
namespace Cert.GlaClaim
open Cert.GlaReal

/-- The reference runs, leaves its arguments, and its counters read zero: it declares none. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Two results of the output's shape that agree at every row, head and column are equal. -/
theorem ext_heads (X Y : FVec Ideal Cert.KernelIdeal.S8192x2048 .bf16)
    (h : ∀ (r : Fin 8192) (n : Fin 4) (e : Fin 512), X (ix2 r ⟨512 * n.val + e.val, by omega⟩) = Y (ix2 r ⟨512 * n.val + e.val, by omega⟩)) : X = Y := by
  funext i
  obtain ⟨r, x, rfl⟩ : ∃ (r : Fin 8192) (x : Fin 2048), i = ix2 r x := ⟨i 0, i 1, ValueIdx.eq_ix2 i⟩
  have hx : x = ⟨512 * (⟨x.val / 512, by omega⟩ : Fin 4).val + (⟨x.val % 512, by omega⟩ : Fin 512).val, by dsimp only; omega⟩ := Fin.ext (Nat.div_add_mod _ _).symm
  rw [hx]
  exact h r _ _

/-- The kernel's array is the reference's. -/
theorem values (m : (ℓ : Loc Cert.KernelIdeal.nD Cert.KernelIdeal.τ Cert.KernelIdeal.sig) → Buf (Elt Ideal) ℓ) (c : Dev Cert.KernelIdeal.nD)
    (p : FVec Ideal Cert.KernelIdeal.S8192x13664 .f32) (w : FVec Ideal Cert.KernelIdeal.S16x1024 .f32) (b : FVec Ideal Cert.KernelIdeal.S1024 .f32) (hg : FVec Ideal Cert.KernelIdeal.S4x512 .f32)
    (hp : m ((c.tc : Thread Cert.KernelIdeal.nD Cert.KernelIdeal.τ).loc Cert.KernelIdeal.main_arg0) = p)
    (hw : m ((c.tc : Thread Cert.KernelIdeal.nD Cert.KernelIdeal.τ).loc Cert.KernelIdeal.main_arg1) = w)
    (hb : m ((c.tc : Thread Cert.KernelIdeal.nD Cert.KernelIdeal.τ).loc Cert.KernelIdeal.main_arg2) = b)
    (hh : m ((c.tc : Thread Cert.KernelIdeal.nD Cert.KernelIdeal.τ).loc Cert.KernelIdeal.main_arg3) = hg)
    (h : Cert.Pre_finite.fn (F := Ideal) p w b hg = fun _ => 1#1) :
    Cert.KernelIdeal.Value.G9 m c = Cert.ReferenceIdeal.Step.R_main_v70 (Cert.GlaReference.iter p w b 128) p hg := by
  obtain ⟨e0, e1, e2⟩ := Cert.GlaFinite.entries p w b hg h
  obtain ⟨R, H⟩ := exists_of (fun r x => p (ix2 r x)) (fun a d => w (ix2 a d)) (fun d => b (ix1 d)) e0 e1 e2
  have hk : Cert.GlaKernel.At m c R := by unfold Cert.GlaKernel.At; rw [hp, hw, hb]; exact H
  refine ext_heads _ _ fun r n e => ?_
  refine (Cert.GlaKernel.kernel_at hk r n e).trans ?_
  rw [hp, hh]
  exact (Cert.GlaReference.reference_at (R := R) H hg r n e).symm

/-- The algebraic claim. -/
theorem algebraic : Cert.algebraic_KernelIdeal_ReferenceIdeal_pre_finite (hKernelIdeal := Cert.KernelIdeal.Gen.facts)
    (hReferenceIdeal := Cert.ReferenceIdeal.Gen.facts) (hPre_finite := Cert.GlaFinite.facts) := fun m g m' g' hpre hagree =>
  ⟨fun c => Cert.KernelIdeal.Value.G9 m c, Cert.KernelIdeal.Value.run (F := Ideal) m g,
    (θ_run Cert.ReferenceIdeal.defs _ _).mono (fun r h c => ⟨(h c).1.trans (by
        obtain ⟨a0, a1, a2, a3⟩ := hagree c
        exact (values m c _ _ _ _ a0.symm a1.symm a2.symm a3.symm (by rw [a0, a1, a2, a3]; exact hpre c)).symm), (h c).2⟩)
      (Cert.GlaLoop.run_iter (F := Ideal) m' g' (fun c => Cert.GlaReference.iter (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)))
        (fun c => rfl) (fun c n => rfl))⟩

end Cert.GlaClaim
end
-- ==== Proof.RowNorm.lean ====
module

public import Idealize.ShloMosaic.Lib.Pipeline.ValueKit
public import Idealize.ShloMosaic.Lib.Pointwise

/-! The normalisation of one row, as a plain function. -/

@[expose] public section

noncomputable section
open Idealize.ShloMosaic
namespace Cert.RowNorm

/-- Entry `k` of a row of 2048 divided by its root mean square, times the gain there. -/
def nrm (x g : Fin 2048 → EReal) (k : Fin 2048) : EReal :=
  x k * Ideal.rsqrt (Ideal.div (∑ j, x j * x j) (Ideal.ofBits .f32 0x45000000#32) + Ideal.ofBits .f32 0x358637BD#32) * g k

end Cert.RowNorm
end
-- ==== Proof.InProj.lean ====
module

public import proofs.«01_k».proof.Proof.Gen.Kernel2Ideal.Value
public import proofs.«01_k».proof.Proof.RowNorm
public import Idealize.ShloMosaic.Lib.Pipeline.ValueKit
public import Idealize.ShloMosaic.Lib.Pointwise

/-! The input projection's kernel: its result, entry by entry. -/

@[expose] public section

set_option maxRecDepth 16384
noncomputable section
open Idealize.ShloMosaic Idealize.ShloMosaic.TcCoe Idealize.SL.Sem
open Idealize.ShloMosaic.Pipeline (Dat)
namespace Cert.InProj
open Cert.Kernel2Ideal Cert.Kernel2Ideal.Gen Cert.Kernel2Ideal.Value Cert.RowNorm
variable (m : (ℓ : Loc nD τ sig) → Buf (Elt Ideal) ℓ)

/-- A row with its columns in the kernel's order, the last 160 zero. -/
def ord (E : Fin 13664 → EReal) (c : Fin 13824) : EReal :=
  if h0 : c.val < 2048 then E ⟨2048 + c.val, by omega⟩
  else if h1 : c.val - 2048 < 2048 then E ⟨4096 + (c.val - 2048), by omega⟩
  else if h2 : c.val - 2048 - 2048 < 2048 then E ⟨6160 + (c.val - 2048 - 2048), by omega⟩
  else if h3 : c.val - 2048 - 2048 - 2048 < 2048 then E ⟨9568 + (c.val - 2048 - 2048 - 2048), by omega⟩
  else if h4 : c.val - 2048 - 2048 - 2048 - 2048 < 2048 then E ⟨11616 + (c.val - 2048 - 2048 - 2048 - 2048), by omega⟩
  else if h5 : c.val - 2048 - 2048 - 2048 - 2048 - 2048 < 1024 then E ⟨c.val - 2048 - 2048 - 2048 - 2048 - 2048, by omega⟩
  else if h6 : c.val - 2048 - 2048 - 2048 - 2048 - 2048 - 1024 < 1024 then E ⟨1024 + (c.val - 2048 - 2048 - 2048 - 2048 - 2048 - 1024), by omega⟩
  else if h7 : c.val - 2048 - 2048 - 2048 - 2048 - 2048 - 1024 - 1024 < 1024 then E ⟨8464 + (c.val - 2048 - 2048 - 2048 - 2048 - 2048 - 1024 - 1024), by omega⟩
  else if h8 : c.val - 2048 - 2048 - 2048 - 2048 - 2048 - 1024 - 1024 - 1024 < 128 then E ⟨8208 + (c.val - 2048 - 2048 - 2048 - 2048 - 2048 - 1024 - 1024 - 1024), by omega⟩
  else if h9 : c.val - 2048 - 2048 - 2048 - 2048 - 2048 - 1024 - 1024 - 1024 - 128 < 128 then E ⟨8336 + (c.val - 2048 - 2048 - 2048 - 2048 - 2048 - 1024 - 1024 - 1024 - 128), by omega⟩
  else if h10 : c.val - 2048 - 2048 - 2048 - 2048 - 2048 - 1024 - 1024 - 1024 - 128 - 128 < 64 then E ⟨9488 + (c.val - 2048 - 2048 - 2048 - 2048 - 2048 - 1024 - 1024 - 1024 - 128 - 128), by omega⟩
  else if h11 : c.val - 2048 - 2048 - 2048 - 2048 - 2048 - 1024 - 1024 - 1024 - 128 - 128 - 64 < 16 then E ⟨6144 + (c.val - 2048 - 2048 - 2048 - 2048 - 2048 - 1024 - 1024 - 1024 - 128 - 128 - 64), by omega⟩
  else if h12 : c.val - 2048 - 2048 - 2048 - 2048 - 2048 - 1024 - 1024 - 1024 - 128 - 128 - 64 - 16 < 16 then E ⟨9552 + (c.val - 2048 - 2048 - 2048 - 2048 - 2048 - 1024 - 1024 - 1024 - 128 - 128 - 64 - 16), by omega⟩
  else 0

/-- The weight with its columns in the kernel's order. -/
def wF (a : FVec Ideal S2048x13664 .f32) : FVec Ideal S2048x13824 .f32 :=
  concatenate S2048x13824 1 [⟨S2048x2048, extractStridedSlice S2048x2048 ![0, 2048] a slices_S2048x13664_S2048x2048_0_2048⟩,
    ⟨S2048x2048, extractStridedSlice S2048x2048 ![0, 4096] a slices_S2048x13664_S2048x2048_0_4096⟩,
    ⟨S2048x2048, extractStridedSlice S2048x2048 ![0, 6160] a slices_S2048x13664_S2048x2048_0_6160⟩,
    ⟨S2048x2048, extractStridedSlice S2048x2048 ![0, 9568] a slices_S2048x13664_S2048x2048_0_9568⟩,
    ⟨S2048x2048, extractStridedSlice S2048x2048 ![0, 11616] a slices_S2048x13664_S2048x2048_0_11616⟩,
    ⟨S2048x1024, extractStridedSlice S2048x1024 ![0, 0] a slices_S2048x13664_S2048x1024_0_0⟩,
    ⟨S2048x1024, extractStridedSlice S2048x1024 ![0, 1024] a slices_S2048x13664_S2048x1024_0_1024⟩,
    ⟨S2048x1024, extractStridedSlice S2048x1024 ![0, 8464] a slices_S2048x13664_S2048x1024_0_8464⟩,
    ⟨S2048x128, extractStridedSlice S2048x128 ![0, 8208] a slices_S2048x13664_S2048x128_0_8208⟩,
    ⟨S2048x128, extractStridedSlice S2048x128 ![0, 8336] a slices_S2048x13664_S2048x128_0_8336⟩,
    ⟨S2048x64, extractStridedSlice S2048x64 ![0, 9488] a slices_S2048x13664_S2048x64_0_9488⟩,
    ⟨S2048x16, extractStridedSlice S2048x16 ![0, 6144] a slices_S2048x13664_S2048x16_0_6144⟩,
    ⟨S2048x16, extractStridedSlice S2048x16 ![0, 9552] a slices_S2048x13664_S2048x16_0_9552⟩,
    ⟨S2048x160, broadcastInDim S2048x160 ![] bcast_S_S2048x160 (constant S_ .f32 0x00000000#32)⟩]
    concatenates_S2048x2048_S2048x2048_S2048x2048_S2048x2048_S2048x2048_S2048x1024_S2048x1024_S2048x1024_S2048x128_S2048x128_S2048x64_S2048x16_S2048x16_S2048x160_S2048x13824_d1

/-- An entry of the reordered weight. -/
theorem wF_at (a : FVec Ideal S2048x13664 .f32) (k : Fin 2048) (x : Fin 13824) :
    wF a (ix2 k x) = ord (fun j => a (ix2 k j)) x := by
  pointwise [wF]
  rfl

/-- The result, entry by entry: a normalised row times a column of the weight. -/
def G (x : FVec Ideal S8192x2048 .f32) (g : FVec Ideal S2048 .f32) (w : FVec Ideal S2048x13664 .f32) : FVec Ideal S8192x13824 .f32 :=
  fun i => ord (fun j => ∑ k : Fin 2048, nrm (fun k => x (ix2 (i 0) k)) (fun k => g (ix1 k)) k * w (ix2 k j)) (i 1)

/-- A choice passes through a sum of products. -/
theorem choice_sum {p : Prop} [Decidable p] (n : Fin 2048 → EReal) (a : p → EReal) (a' : Fin 2048 → p → EReal) (b : ¬p → EReal) (b' : Fin 2048 → ¬p → EReal)
    (h1 : ∀ h, a h = ∑ k, n k * a' k h) (h2 : ∀ h, b h = ∑ k, n k * b' k h) :
    dite p a b = ∑ k, n k * dite p (a' k) (b' k) := by
  by_cases h : p
  · simp only [dif_pos h, h1]
  · simp only [dif_neg h, h2]

/-- The order passes through a sum of products. -/
theorem ord_sum (n : Fin 2048 → EReal) (w : Fin 2048 → Fin 13664 → EReal) (c : Fin 13824) :
    ord (fun j => ∑ k, n k * w k j) c = ∑ k, n k * ord (w k) c := by
  unfold ord
  iterate 13 (refine choice_sum _ _ _ _ _ (fun h => rfl) (fun h => ?_))
  simp only [mul_zero, Finset.sum_const_zero]

/-- The block index of each window at a grid point. -/
theorem idx : ∀ t : Fin cfg0.N, (win0_0.index t 0 = t.val / 9 ∧ win0_0.index t 1 = 0) ∧ (win0_1.index t 0 = 0 ∧ win0_1.index t 1 = 0)
    ∧ (win0_2.index t 0 = 0 ∧ win0_2.index t 1 = t.val % 9) ∧ (win0_3.index t 0 = t.val / 9 ∧ win0_3.index t 1 = t.val % 9) := by decide +kernel

/-- The launch has 72 points. -/
theorem lt_N (t : Fin cfg0.N) : t.val < 72 := t.isLt

/-- What a point leaves in the scratch: its rows normalised. -/
theorem pay1_at (x : FVec Ideal S1024x2048 .f32) (g : FVec Ideal S1x2048 .f32) (i : Fin 1024) (k : Fin 2048) :
    k0_pay1 (F := Ideal) x g (ix2 i k) = nrm (fun k => x (ix2 i k)) (fun k => g (ix2 0 k)) k := by
  unfold nrm
  pointwise [k0_pay1]

/-- What a point computes from the scratch and the weight's block. -/
theorem pay2_at (a : FVec Ideal S1024x2048 .bf16) (w : FVec Ideal S2048x1536 .bf16) (i : Fin 1024) (x : Fin 1536) :
    k0_pay2 (F := Ideal) a w (ix2 i x) = ∑ k : Fin 2048, a (ix2 i k) * w (ix2 k x) := by
  pointwise [k0_pay2]

set_option maxRecDepth 200000 in
set_option maxHeartbeats 2000000 in
/-- The weight's array at the call. -/
theorem v15 (c : Dev nD) : V m c main_v15 = (truncf .bf16 (wF (m ((c.tc : Thread nD τ).loc main_arg2))) bitsLt_bf16_f32 : FVec Ideal S2048x13824 .bf16) := rfl

set_option maxRecDepth 200000 in
set_option maxHeartbeats 2000000 in
/-- The gain's array at the call. -/
theorem v16 (c : Dev nD) : V m c main_v16 = (shapeCast S1x2048 (m ((c.tc : Thread nD τ).loc main_arg1) : FVec Ideal S2048 .f32) shapeCasts_S2048_S1x2048 : FVec Ideal S1x2048 .f32) := rfl

/-- The gain as one row. -/
theorem gain_at (g : FVec Ideal S2048 .f32) (k : Fin 2048) :
    (shapeCast S1x2048 g shapeCasts_S2048_S1x2048 : FVec Ideal S1x2048 .f32) (ix2 0 k) = g (ix1 k) := by
  pointwise []

/-- The block of rows. -/
theorem blk_x (c : Dev nD) (t : Fin cfg0.N) (i : Fin 1024) (k : Fin 2048) :
    iblk m c 0 t (ix2 i k : S1024x2048.Idx) = (m ((c.tc : Thread nD τ).loc main_arg0)) (ix2 ⟨t.val / 9 * 1024 + i.val, by have := lt_N t; omega⟩ k) := by
  have ht := lt_N t
  rw [← V_main_arg0 m c]
  unfold iblk
  rw [show V m c (Pipeline.arrRef spec0 0) = V m c main_arg0 from rfl]
  generalize V m c main_arg0 = X
  blk_ext [idx t]

/-- The gain's block. -/
theorem blk_g (c : Dev nD) (t : Fin cfg0.N) (k : Fin 2048) :
    iblk m c 1 t (ix2 0 k : S1x2048.Idx) = (m ((c.tc : Thread nD τ).loc main_arg1)) (ix1 k) := by
  have ht := lt_N t
  have e : (V m c main_v16 : FVec Ideal S1x2048 .f32) (ix2 0 k) = (m ((c.tc : Thread nD τ).loc main_arg1)) (ix1 k) := by
    rw [v16]; exact gain_at _ k
  refine Eq.trans ?_ e
  unfold iblk
  rw [show V m c (Pipeline.arrRef spec0 1) = V m c main_v16 from rfl]
  generalize V m c main_v16 = X
  blk_ext [idx t]

/-- The weight's block. -/
theorem blk_w (c : Dev nD) (t : Fin cfg0.N) (k : Fin 2048) (x : Fin 1536) :
    iblk m c 2 t (ix2 k x : S2048x1536.Idx) = ord (fun j => (m ((c.tc : Thread nD τ).loc main_arg2)) (ix2 k j)) ⟨t.val % 9 * 1536 + x.val, by omega⟩ := by
  have ht := lt_N t
  have e : (V m c main_v15 : FVec Ideal S2048x13824 .bf16) (ix2 k ⟨t.val % 9 * 1536 + x.val, by omega⟩) = ord (fun j => (m ((c.tc : Thread nD τ).loc main_arg2)) (ix2 k j)) ⟨t.val % 9 * 1536 + x.val, by omega⟩ := by
    rw [v15]; exact wF_at _ k _
  refine Eq.trans ?_ e
  unfold iblk
  rw [show V m c (Pipeline.arrRef spec0 2) = V m c main_v15 from rfl]
  generalize V m c main_v15 = X
  blk_ext [idx t]

/-- The scratch at a point: the point's rows, normalised. -/
def sc (c : Dev nD) (b : ℕ) (hb : b < 8) (i : Fin 1024) (k : Fin 2048) : EReal :=
  nrm (fun k => (m ((c.tc : Thread nD τ).loc main_arg0) : FVec Ideal S8192x2048 .f32) (ix2 ⟨b * 1024 + i.val, by omega⟩ k))
    (fun k => (m ((c.tc : Thread nD τ).loc main_arg1) : FVec Ideal S2048 .f32) (ix1 k)) k

/-- The normalised rows of a point that fills the scratch. -/
theorem fill (c : Dev nD) (t : Fin cfg0.N) (i : Fin 1024) (k : Fin 2048) :
    k0_pay1 (F := Ideal) (iblk m c 0 t) (iblk m c 1 t) (ix2 i k) = sc m c (t.val / 9) (by have := lt_N t; omega) i k := by
  rw [pay1_at]
  unfold sc
  simp only [blk_x, blk_g]

/-- After every point the scratch holds the rows of the point's row block, normalised. -/
theorem scratch (c : Dev nD) : ∀ (n : ℕ) (h : n < cfg0.N) (i : Fin 1024) (k : Fin 2048),
    (outsAt0 m c n h).2 (ix2 i k) = sc m c (n / 9) (by have := lt_N ⟨n, h⟩; dsimp only at this; omega) i k := by
  intro n
  induction n with
  | zero =>
    intro h i k
    have e := outsAt0_A m c ⟨0, h⟩ rfl
    dsimp only at e
    rw [e]
    dsimp only
    frame_out
    exact fill m c ⟨0, h⟩ i k
  | succ n ih =>
    intro h i k
    by_cases h0 : (n + 1) % 9 = 0
    · have e := outsAt0_A m c ⟨n + 1, h⟩ h0
      dsimp only at e
      rw [e]
      dsimp only
      frame_out
      exact fill m c ⟨n + 1, h⟩ i k
    · have e := outsAt0_B m c ⟨n + 1, h⟩ h0
      dsimp only at e
      rw [e]
      have q : (n + 1) / 9 = n / 9 := by omega
      have u := ih (by omega) i k
      unfold sout0_B_0
      simp only [q]
      exact u

/-- What a point leaves in its result block. -/
theorem out_at (c : Dev nD) (t : Fin cfg0.N) (i : Fin 1024) (x : Fin 1536) :
    (outsAt0 m c t.val t.isLt).1 (ix2 i x) = ∑ k : Fin 2048, sc m c (t.val / 9) (by have := lt_N t; omega) i k
      * ord (fun j => (m ((c.tc : Thread nD τ).loc main_arg2)) (ix2 k j)) ⟨t.val % 9 * 1536 + x.val, by omega⟩ := by
  by_cases h0 : t.val % 9 = 0
  · rw [outsAt0_A m c t h0]
    dsimp only
    frame_out
    try simp (disch := decide) only [↓View.readCov_skip, ↓View.readCov_fill]
    rw [pay2_at]
    simp only [fill, blk_w]
  · rw [outsAt0_B m c t h0]
    dsimp only
    frame_out
    rw [pay2_at]
    have u := fun k => scratch m c (t.val - 1) (Nat.lt_of_le_of_lt (Nat.sub_le _ _) t.isLt) i k
    have q : (t.val - 1) / 9 = t.val / 9 := by omega
    simp only [q] at u
    rw [Finset.sum_congr rfl fun k _ => by rw [congrFun ((Memref.isWhole_whole cc0_scratch0).read_unread _) _, u k, blk_w]]

/-- The kernel's result. -/
theorem final (c : Dev nD) : (dats m 0 c).arrAt 3 cfg0.N
    = G (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  have ht := lt_N t
  obtain ⟨i, x, rfl⟩ : ∃ (i : Fin 1024) (x : Fin 1536), y = ix2 i x := ⟨y 0, y 1, ValueIdx.eq_ix2 y⟩
  have e : (win0_3.blk t).view.emb (ix2 i x) = (ix2 ⟨t.val / 9 * 1024 + i.val, by omega⟩ ⟨t.val % 9 * 1536 + x.val, by omega⟩ : S8192x13824.Idx) := by
    blk_ext [idx t]
  rw [e, out_at]
  refine (ord_sum _ (fun k j => (m ((c.tc : Thread nD τ).loc main_arg2) : FVec Ideal S2048x13664 .f32) (ix2 k j)) _).symm.trans ?_
  rfl

end Cert.InProj
end
-- ==== Proof.InProjRef.lean ====
module

public import proofs.«01_k».proof.Proof.InProj
public import proofs.«01_k».proof.Proof.Gen.Reference2Ideal.Run
public import Idealize.ShloMosaic.Lib.Pipeline.ValueKit
public import Idealize.ShloMosaic.Lib.Pointwise

/-! The input projection's reference: its result, entry by entry. -/

@[expose] public section

set_option maxRecDepth 16384
noncomputable section
open Idealize.ShloMosaic Idealize.ShloMosaic.TcCoe Idealize.SL.Sem
open Idealize.ShloMosaic.Pipeline (Dat)
namespace Cert.InProjRef
open Cert.Reference2Ideal Cert.Reference2Ideal.Gen Cert.RowNorm Cert.InProj

/-- The rows normalised, in the reference's operations. -/
def nF (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0
    (Host.reduceAdd (mulf x x) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- An entry of the normalised rows. -/
theorem nF_at (x : FVec Ideal S8192x2048 .f32) (g : FVec Ideal S2048 .f32) (r : Fin 8192) (k : Fin 2048) :
    nF x g (ix2 r k) = nrm (fun k => x (ix2 r k)) (fun k => g (ix1 k)) k := by
  unfold nrm
  pointwise [nF]

/-- The projection. -/
def pF (n : FVec Ideal S8192x2048 .f32) (w : FVec Ideal S2048x13664 .f32) : FVec Ideal S8192x13664 .f32 :=
  Host.dotGeneral dot_S8192x2048_S2048x13664_S8192x13664_1_0_0_1_n_n none n w

/-- An entry of the projection. -/
theorem pF_at (n : FVec Ideal S8192x2048 .f32) (w : FVec Ideal S2048x13664 .f32) (r : Fin 8192) (j : Fin 13664) :
    pF n w (ix2 r j) = ∑ k : Fin 2048, n (ix2 r k) * w (ix2 k j) := by
  pointwise [pF]

/-- The projection's columns in the result's order. -/
def oF (a : FVec Ideal S8192x13664 .f32) : FVec Ideal S8192x13824 .f32 :=
  concatenate S8192x13824 1 [⟨S8192x2048, extractStridedSlice S8192x2048 ![0, 2048] a slices_S8192x13664_S8192x2048_0_2048⟩,
    ⟨S8192x2048, extractStridedSlice S8192x2048 ![0, 4096] a slices_S8192x13664_S8192x2048_0_4096⟩,
    ⟨S8192x2048, extractStridedSlice S8192x2048 ![0, 6160] a slices_S8192x13664_S8192x2048_0_6160⟩,
    ⟨S8192x2048, extractStridedSlice S8192x2048 ![0, 9568] a slices_S8192x13664_S8192x2048_0_9568⟩,
    ⟨S8192x2048, extractStridedSlice S8192x2048 ![0, 11616] a slices_S8192x13664_S8192x2048_0_11616⟩,
    ⟨S8192x1024, extractStridedSlice S8192x1024 ![0, 0] a slices_S8192x13664_S8192x1024_0_0⟩,
    ⟨S8192x1024, extractStridedSlice S8192x1024 ![0, 1024] a slices_S8192x13664_S8192x1024_0_1024⟩,
    ⟨S8192x1024, extractStridedSlice S8192x1024 ![0, 8464] a slices_S8192x13664_S8192x1024_0_8464⟩,
    ⟨S8192x128, extractStridedSlice S8192x128 ![0, 8208] a slices_S8192x13664_S8192x128_0_8208⟩,
    ⟨S8192x128, extractStridedSlice S8192x128 ![0, 8336] a slices_S8192x13664_S8192x128_0_8336⟩,
    ⟨S8192x64, extractStridedSlice S8192x64 ![0, 9488] a slices_S8192x13664_S8192x64_0_9488⟩,
    ⟨S8192x16, extractStridedSlice S8192x16 ![0, 6144] a slices_S8192x13664_S8192x16_0_6144⟩,
    ⟨S8192x16, extractStridedSlice S8192x16 ![0, 9552] a slices_S8192x13664_S8192x16_0_9552⟩,
    ⟨S8192x160, broadcastInDim S8192x160 ![] bcast_S_S8192x160 (constant S_ .f32 0x00000000#32)⟩]
    concatenates_S8192x2048_S8192x2048_S8192x2048_S8192x2048_S8192x2048_S8192x1024_S8192x1024_S8192x1024_S8192x128_S8192x128_S8192x64_S8192x16_S8192x16_S8192x160_S8192x13824_d1

/-- An entry of the reordered projection. -/
theorem oF_at (a : FVec Ideal S8192x13664 .f32) (r : Fin 8192) (c : Fin 13824) :
    oF a (ix2 r c) = ord (fun j => a (ix2 r j)) c := by
  unfold ord
  pointwise [oF]

/-- The reference's operations give the stated result. -/
theorem ref (x : FVec Ideal S8192x2048 .f32) (g : FVec Ideal S2048 .f32) (w : FVec Ideal S2048x13664 .f32) : oF (pF (nF x g) w) = G x g w := by
  funext i
  obtain ⟨r, c, rfl⟩ : ∃ (r : Fin 8192) (c : Fin 13824), i = ix2 r c := ⟨i 0, i 1, ValueIdx.eq_ix2 i⟩
  rw [oF_at]
  simp only [pF_at, nF_at]
  rfl

set_option maxRecDepth 200000 in
set_option maxHeartbeats 2000000 in
/-- The reference's result is those operations at the arguments. -/
theorem res (m : (ℓ : Loc nD τ sig) → Buf (Elt Ideal) ℓ) (c : Dev nD) : Cert.Reference2Ideal.Value.res_main_v28 (F := Ideal) m c
    = oF (pF (nF (m ((c.tc : Thread nD τ).loc main_arg0)) (m ((c.tc : Thread nD τ).loc main_arg1))) (m ((c.tc : Thread nD τ).loc main_arg2))) := by
  unfold Cert.Reference2Ideal.Value.res_main_v28
  rfl

end Cert.InProjRef
end
-- ==== Proof.Merge.lean ====
module

public import proofs.«01_k».proof.Proof.Gen.Kernel3Ideal.Value
public import Idealize.ShloMosaic.Lib.Pipeline.ValueKit
public import Idealize.ShloMosaic.Lib.Pointwise

/-! The merge's kernel: its result, entry by entry. -/

@[expose] public section

set_option maxRecDepth 16384
noncomputable section
open Idealize.ShloMosaic Idealize.ShloMosaic.TcCoe Idealize.SL.Sem
open Idealize.ShloMosaic.Pipeline (Dat)
namespace Cert.Merge
open Cert.Kernel3Ideal Cert.Kernel3Ideal.Gen Cert.Kernel3Ideal.Value
variable (m : (ℓ : Loc nD τ sig) → Buf (Elt Ideal) ℓ)

/-- The result, entry by entry: the two paths' projections, each times its gate. -/
def G (a b : FVec Ideal S8192x2048 .bf16) (wa wb : FVec Ideal S2048x2048 .f32) (p : FVec Ideal S8192x13664 .f32) : FVec Ideal S8192x2048 .bf16 :=
  fun i => Ideal.logistic (p (ix2 (i 0) ⟨9568 + (i 1).val, by have : (i 1).val < 2048 := (i 1).isLt; omega⟩)) * (∑ k : Fin 2048, a (ix2 (i 0) k) * wa (ix2 k (i 1)))
    + Ideal.logistic (p (ix2 (i 0) ⟨11616 + (i 1).val, by have : (i 1).val < 2048 := (i 1).isLt; omega⟩)) * (∑ k : Fin 2048, b (ix2 (i 0) k) * wb (ix2 k (i 1)))

/-- The block index of each window at a grid point. -/
theorem idx : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 3) ∧ (win0_5.index t 0 = t.val ∧ win0_5.index t 1 = 4)
    ∧ (win0_6.index t 0 = t.val ∧ win0_6.index t 1 = 0) := by decide +kernel

/-- The launch has 16 points. -/
theorem lt_N (t : Fin cfg0.N) : t.val < 16 := t.isLt

/-- What a point computes from its blocks. -/
theorem pay_at (a : FVec Ideal S512x2048 .bf16) (wa : FVec Ideal S2048x2048 .bf16) (b : FVec Ideal S512x2048 .bf16) (wb : FVec Ideal S2048x2048 .bf16)
    (p q : FVec Ideal S512x2048 .f32) (i : Fin 512) (x : Fin 2048) :
    k0_pay1 (F := Ideal) a wa b wb p q (ix2 i x) = Ideal.logistic (p (ix2 i x)) * (∑ k : Fin 2048, a (ix2 i k) * wa (ix2 k x))
      + Ideal.logistic (q (ix2 i x)) * (∑ k : Fin 2048, b (ix2 i k) * wb (ix2 k x)) := by
  pointwise [k0_pay1]

/-- The projection, its columns in the order the kernel reads them. -/
def projF (a : FVec Ideal S8192x13664 .f32) : FVec Ideal S8192x13824 .f32 :=
  concatenate S8192x13824 1 [⟨S8192x2048, extractStridedSlice S8192x2048 ![0, 2048] a slices_S8192x13664_S8192x2048_0_2048⟩,
    ⟨S8192x2048, extractStridedSlice S8192x2048 ![0, 4096] a slices_S8192x13664_S8192x2048_0_4096⟩,
    ⟨S8192x2048, extractStridedSlice S8192x2048 ![0, 6160] a slices_S8192x13664_S8192x2048_0_6160⟩,
    ⟨S8192x2048, extractStridedSlice S8192x2048 ![0, 9568] a slices_S8192x13664_S8192x2048_0_9568⟩,
    ⟨S8192x2048, extractStridedSlice S8192x2048 ![0, 11616] a slices_S8192x13664_S8192x2048_0_11616⟩,
    ⟨S8192x1024, extractStridedSlice S8192x1024 ![0, 0] a slices_S8192x13664_S8192x1024_0_0⟩,
    ⟨S8192x1024, extractStridedSlice S8192x1024 ![0, 1024] a slices_S8192x13664_S8192x1024_0_1024⟩,
    ⟨S8192x1024, extractStridedSlice S8192x1024 ![0, 8464] a slices_S8192x13664_S8192x1024_0_8464⟩,
    ⟨S8192x128, extractStridedSlice S8192x128 ![0, 8208] a slices_S8192x13664_S8192x128_0_8208⟩,
    ⟨S8192x128, extractStridedSlice S8192x128 ![0, 8336] a slices_S8192x13664_S8192x128_0_8336⟩,
    ⟨S8192x64, extractStridedSlice S8192x64 ![0, 9488] a slices_S8192x13664_S8192x64_0_9488⟩,
    ⟨S8192x16, extractStridedSlice S8192x16 ![0, 6144] a slices_S8192x13664_S8192x16_0_6144⟩,
    ⟨S8192x16, extractStridedSlice S8192x16 ![0, 9552] a slices_S8192x13664_S8192x16_0_9552⟩,
    ⟨S8192x160, broadcastInDim S8192x160 ![] bcast_S_S8192x160 (constant S_ .f32 0x00000000#32)⟩]
    concatenates_S8192x2048_S8192x2048_S8192x2048_S8192x2048_S8192x2048_S8192x1024_S8192x1024_S8192x1024_S8192x128_S8192x128_S8192x64_S8192x16_S8192x16_S8192x160_S8192x13824_d1

/-- The columns of gate 1. -/
theorem proj4 (a : FVec Ideal S8192x13664 .f32) (r : Fin 8192) (x : Fin 2048) :
    projF a (ix2 r ⟨6144 + x.val, by omega⟩) = a (ix2 r ⟨9568 + x.val, by omega⟩) := by
  pointwise [projF]
  iterate 3 (refine (dif_neg (by omega)).trans ?_)
  refine (dif_pos (by omega)).trans ?_
  exact congrArg a (congrArg (ix2 r) (Fin.ext (by dsimp only; omega)))

/-- The columns of gate 2. -/
theorem proj5 (a : FVec Ideal S8192x13664 .f32) (r : Fin 8192) (x : Fin 2048) :
    projF a (ix2 r ⟨8192 + x.val, by omega⟩) = a (ix2 r ⟨11616 + x.val, by omega⟩) := by
  pointwise [projF]
  iterate 4 (refine (dif_neg (by omega)).trans ?_)
  refine (dif_pos (by omega)).trans ?_
  exact congrArg a (congrArg (ix2 r) (Fin.ext (by dsimp only; omega)))

set_option maxRecDepth 200000 in
set_option maxHeartbeats 2000000 in
/-- A weight's array at the call. -/
theorem v0 (c : Dev nD) : V m c main_v0 = (truncf .bf16 (m ((c.tc : Thread nD τ).loc main_arg2) : FVec Ideal S2048x2048 .f32) bitsLt_bf16_f32 : FVec Ideal S2048x2048 .bf16) := rfl

set_option maxRecDepth 200000 in
set_option maxHeartbeats 2000000 in
/-- A weight's array at the call. -/
theorem v1 (c : Dev nD) : V m c main_v1 = (truncf .bf16 (m ((c.tc : Thread nD τ).loc main_arg3) : FVec Ideal S2048x2048 .f32) bitsLt_bf16_f32 : FVec Ideal S2048x2048 .bf16) := rfl

set_option maxRecDepth 200000 in
set_option maxHeartbeats 2000000 in
/-- The projection's array at the call. -/
theorem v16 (c : Dev nD) : V m c main_v16 = projF (m ((c.tc : Thread nD τ).loc main_arg4)) := rfl

/-- The first path's block of rows. -/
theorem blk_a (c : Dev nD) (t : Fin cfg0.N) (i : Fin 512) (k : Fin 2048) :
    iblk m c 0 t (ix2 i k : S512x2048.Idx) = (m ((c.tc : Thread nD τ).loc main_arg0)) (ix2 ⟨t.val * 512 + i.val, by have := lt_N t; omega⟩ k) := by
  have ht := lt_N t
  rw [← V_main_arg0 m c]
  unfold iblk
  rw [show V m c (Pipeline.arrRef spec0 0) = V m c main_arg0 from rfl]
  generalize V m c main_arg0 = X
  blk_ext [idx t]

/-- The second path's block of rows. -/
theorem blk_b (c : Dev nD) (t : Fin cfg0.N) (i : Fin 512) (k : Fin 2048) :
    iblk m c 1 t (ix2 i k : S512x2048.Idx) = (m ((c.tc : Thread nD τ).loc main_arg1)) (ix2 ⟨t.val * 512 + i.val, by have := lt_N t; omega⟩ k) := by
  have ht := lt_N t
  rw [← V_main_arg1 m c]
  unfold iblk
  rw [show V m c (Pipeline.arrRef spec0 1) = V m c main_arg1 from rfl]
  generalize V m c main_arg1 = X
  blk_ext [idx t]

/-- The first weight's block is the weight. -/
theorem blk_wa (c : Dev nD) (t : Fin cfg0.N) (k x : Fin 2048) :
    iblk m c 2 t (ix2 k x : S2048x2048.Idx) = (m ((c.tc : Thread nD τ).loc main_arg2)) (ix2 k x) := by
  have ht := lt_N t
  have e : (V m c main_v0 : FVec Ideal S2048x2048 .bf16) (ix2 k x) = (m ((c.tc : Thread nD τ).loc main_arg2)) (ix2 k x) := by
    rw [v0]; rfl
  refine Eq.trans ?_ e
  unfold iblk
  rw [show V m c (Pipeline.arrRef spec0 2) = V m c main_v0 from rfl]
  generalize V m c main_v0 = X
  blk_ext [idx t]

/-- The second weight's block is the weight. -/
theorem blk_wb (c : Dev nD) (t : Fin cfg0.N) (k x : Fin 2048) :
    iblk m c 3 t (ix2 k x : S2048x2048.Idx) = (m ((c.tc : Thread nD τ).loc main_arg3)) (ix2 k x) := by
  have ht := lt_N t
  have e : (V m c main_v1 : FVec Ideal S2048x2048 .bf16) (ix2 k x) = (m ((c.tc : Thread nD τ).loc main_arg3)) (ix2 k x) := by
    rw [v1]; rfl
  refine Eq.trans ?_ e
  unfold iblk
  rw [show V m c (Pipeline.arrRef spec0 3) = V m c main_v1 from rfl]
  generalize V m c main_v1 = X
  blk_ext [idx t]

/-- The first gate's block. -/
theorem blk_p (c : Dev nD) (t : Fin cfg0.N) (i : Fin 512) (x : Fin 2048) :
    X0_4 m c t (ix2 i x : S512x2048.Idx) = (m ((c.tc : Thread nD τ).loc main_arg4)) (ix2 ⟨t.val * 512 + i.val, by have := lt_N t; omega⟩ ⟨9568 + x.val, by omega⟩) := by
  have ht := lt_N t
  unfold X0_4 Pipeline.Window.fill
  rw [dif_pos (moved0_4 t _)]
  refine Eq.trans ?_ (proj4 _ ⟨t.val * 512 + i.val, by omega⟩ x)
  rw [← v16]
  unfold iblk
  rw [show V m c (Pipeline.arrRef spec0 4) = V m c main_v16 from rfl]
  generalize V m c main_v16 = X
  blk_ext [idx t]

/-- The second gate's block. -/
theorem blk_q (c : Dev nD) (t : Fin cfg0.N) (i : Fin 512) (x : Fin 2048) :
    X0_5 m c t (ix2 i x : S512x2048.Idx) = (m ((c.tc : Thread nD τ).loc main_arg4)) (ix2 ⟨t.val * 512 + i.val, by have := lt_N t; omega⟩ ⟨11616 + x.val, by omega⟩) := by
  have ht := lt_N t
  unfold X0_5 Pipeline.Window.fill
  rw [dif_pos (moved0_5 t _)]
  refine Eq.trans ?_ (proj5 _ ⟨t.val * 512 + i.val, by omega⟩ x)
  rw [← v16]
  unfold iblk
  rw [show V m c (Pipeline.arrRef spec0 5) = V m c main_v16 from rfl]
  generalize V m c main_v16 = X
  blk_ext [idx t]

/-- The kernel's result. -/
theorem final (c : Dev nD) : (dats m 0 c).arrAt 6 cfg0.N
    = G (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (dats m 0 c).arrAt_eq_of_covers 6 _ (by decide +kernel) fun t hf y => ?_
  blk_simp
  rw [after0_6]
  have ht := lt_N t
  obtain ⟨i, x, rfl⟩ : ∃ (i : Fin 512) (x : Fin 2048), y = ix2 i x := ⟨y 0, y 1, ValueIdx.eq_ix2 y⟩
  have e : (win0_6.blk t).view.emb (ix2 i x) = (ix2 ⟨t.val * 512 + i.val, by omega⟩ x : S8192x2048.Idx) := by
    blk_ext [idx t]
  rw [e]
  unfold outsAt0
  frame_out
  rw [pay_at]
  unfold G
  simp only [blk_a, blk_b, blk_wa, blk_wb, blk_p, blk_q]
  rfl

end Cert.Merge
end
-- ==== Proof.MergeRef.lean ====
module

public import proofs.«01_k».proof.Proof.Merge
public import proofs.«01_k».proof.Proof.Gen.Reference3Ideal.Run
public import Idealize.ShloMosaic.Lib.Pipeline.ValueKit
public import Idealize.ShloMosaic.Lib.Pointwise

/-! The merge's reference: its result, entry by entry. -/

@[expose] public section

set_option maxRecDepth 16384
noncomputable section
open Idealize.ShloMosaic Idealize.ShloMosaic.TcCoe Idealize.SL.Sem
open Idealize.ShloMosaic.Pipeline (Dat)
namespace Cert.MergeRef
open Cert.Reference3Ideal Cert.Reference3Ideal.Gen Cert.Merge

/-- The gate's factor, from the projection's columns starting at 9568, in the reference's operations. -/
def gaF (p : FVec Ideal S8192x13664 .f32) : FVec Ideal S8192x2048 .f32 :=
  Host.divf (broadcastInDim S8192x2048 ![] bcast_S_S8192x2048 (constant S_ .f32 0x3F800000#32)) (addf (broadcastInDim S8192x2048 ![] bcast_S_S8192x2048 (constant S_ .f32 0x3F800000#32))
    (Host.exp (Host.negf (extractStridedSlice S8192x2048 ![0, 9568] p slices_S8192x13664_S8192x2048_0_9568))))

/-- The gate's factor, from the projection's columns starting at 11616, in the reference's operations. -/
def gbF (p : FVec Ideal S8192x13664 .f32) : FVec Ideal S8192x2048 .f32 :=
  Host.divf (broadcastInDim S8192x2048 ![] bcast_S_S8192x2048 (constant S_ .f32 0x3F800000#32)) (addf (broadcastInDim S8192x2048 ![] bcast_S_S8192x2048 (constant S_ .f32 0x3F800000#32))
    (Host.exp (Host.negf (extractStridedSlice S8192x2048 ![0, 11616] p slices_S8192x13664_S8192x2048_0_11616))))

/-- A path's projection, in the reference's operations. -/
def yF (a : FVec Ideal S8192x2048 .bf16) (w : FVec Ideal S2048x2048 .f32) : FVec Ideal S8192x2048 .f32 :=
  Host.dotGeneral dot_S8192x2048_S2048x2048_S8192x2048_1_0_0_1_n_n none (extf .f32 a bitsLt_bf16_f32) w

/-- An entry of the first gate's factor. -/
theorem gaF_at (p : FVec Ideal S8192x13664 .f32) (r : Fin 8192) (x : Fin 2048) : gaF p (ix2 r x) = Ideal.logistic (p (ix2 r ⟨9568 + x.val, by omega⟩)) := by
  pointwise [gaF]
  rfl

/-- An entry of the second gate's factor. -/
theorem gbF_at (p : FVec Ideal S8192x13664 .f32) (r : Fin 8192) (x : Fin 2048) : gbF p (ix2 r x) = Ideal.logistic (p (ix2 r ⟨11616 + x.val, by omega⟩)) := by
  pointwise [gbF]
  rfl

/-- An entry of a path's projection. -/
theorem yF_at (a : FVec Ideal S8192x2048 .bf16) (w : FVec Ideal S2048x2048 .f32) (r : Fin 8192) (x : Fin 2048) :
    yF a w (ix2 r x) = ∑ k : Fin 2048, a (ix2 r k) * w (ix2 k x) := by
  pointwise [yF]

/-- The reference's operations give the stated result. -/
theorem ref (a b : FVec Ideal S8192x2048 .bf16) (wa wb : FVec Ideal S2048x2048 .f32) (p : FVec Ideal S8192x13664 .f32) :
    (truncf .bf16 (addf (mulf (gaF p) (yF a wa)) (mulf (gbF p) (yF b wb))) bitsLt_bf16_f32 : FVec Ideal S8192x2048 .bf16) = G a b wa wb p := by
  funext i
  obtain ⟨r, x, rfl⟩ : ∃ (r : Fin 8192) (x : Fin 2048), i = ix2 r x := ⟨i 0, i 1, ValueIdx.eq_ix2 i⟩
  show gaF p (ix2 r x) * yF a wa (ix2 r x) + gbF p (ix2 r x) * yF b wb (ix2 r x) = _
  rw [gaF_at, gbF_at, yF_at, yF_at]
  rfl

end Cert.MergeRef
end
-- ==== Proof.OutProj.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

/-! The residual product: each block of the result is the block of the residual plus the rows' product with the weight. -/

@[expose] public section

set_option maxRecDepth 16384
noncomputable section
open Idealize.ShloMosaic Idealize.ShloMosaic.TcCoe Idealize.SL.Sem
open Idealize.ShloMosaic.Pipeline (Dat)
namespace Cert.OutProj
open Cert.Kernel4Ideal Cert.Kernel4Ideal.Gen Cert.Kernel4Ideal.Value
variable (m : (ℓ : Loc nD τ sig) → Buf (Elt Ideal) ℓ)

/-- The result, entry by entry. -/
def G (a : FVec Ideal S8192x2048 .bf16) (w : FVec Ideal S2048x2048 .f32) (h : FVec Ideal S8192x2048 .f32) : FVec Ideal S8192x2048 .f32 :=
  fun i => h i + ∑ k : Fin 2048, a (ix2 (i 0) k) * w (ix2 k (i 1))

/-- The block index of each window at a grid point. -/
theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0) := by decide +kernel

/-- The launch has 16 points. -/
theorem lt_N (t : Fin cfg0.N) : t.val < 16 := t.isLt

/-- What a point computes from its blocks. -/
theorem pay_at (h : FVec Ideal S512x2048 .f32) (a : FVec Ideal S512x2048 .bf16) (w : FVec Ideal S2048x2048 .bf16) (i : Fin 512) (x : Fin 2048) :
    k0_pay1 (F := Ideal) h a w (ix2 i x) = h (ix2 i x) + ∑ k : Fin 2048, a (ix2 i k) * w (ix2 k x) := by
  pointwise [k0_pay1]

set_option maxRecDepth 200000 in
set_option maxHeartbeats 2000000 in
/-- The weight's array at the call. -/
theorem v0 (c : Dev nD) : V m c main_v0 = (truncf .bf16 (m ((c.tc : Thread nD τ).loc main_arg1) : FVec Ideal S2048x2048 .f32) bitsLt_bf16_f32 : FVec Ideal S2048x2048 .bf16) := rfl

/-- The block of rows. -/
theorem blk_a (c : Dev nD) (t : Fin cfg0.N) (i : Fin 512) (k : Fin 2048) :
    iblk m c 0 t (ix2 i k : S512x2048.Idx) = (m ((c.tc : Thread nD τ).loc main_arg0)) (ix2 ⟨t.val * 512 + i.val, by have := lt_N t; omega⟩ k) := by
  have ht := lt_N t
  rw [← V_main_arg0 m c]
  unfold iblk
  rw [show V m c (Pipeline.arrRef spec0 0) = V m c main_arg0 from rfl]
  generalize V m c main_arg0 = X
  blk_ext [idx t]

/-- The weight's block is the weight. -/
theorem blk_w (c : Dev nD) (t : Fin cfg0.N) (k x : Fin 2048) :
    iblk m c 1 t (ix2 k x : S2048x2048.Idx) = (m ((c.tc : Thread nD τ).loc main_arg1)) (ix2 k x) := by
  have ht := lt_N t
  have e : (V m c main_v0 : FVec Ideal S2048x2048 .bf16) (ix2 k x) = (m ((c.tc : Thread nD τ).loc main_arg1)) (ix2 k x) := by
    rw [v0]; rfl
  refine Eq.trans ?_ e
  unfold iblk
  rw [show V m c (Pipeline.arrRef spec0 1) = V m c main_v0 from rfl]
  generalize V m c main_v0 = X
  blk_ext [idx t]

/-- The residual's block. -/
theorem blk_h (c : Dev nD) (t : Fin cfg0.N) (i : Fin 512) (k : Fin 2048) :
    iblk m c 2 t (ix2 i k : S512x2048.Idx) = (m ((c.tc : Thread nD τ).loc main_arg2)) (ix2 ⟨t.val * 512 + i.val, by have := lt_N t; omega⟩ k) := by
  have ht := lt_N t
  rw [← V_main_arg2 m c]
  unfold iblk
  rw [show V m c (Pipeline.arrRef spec0 2) = V m c main_arg2 from rfl]
  generalize V m c main_arg2 = X
  blk_ext [idx t]

/-- The kernel's result. -/
theorem final (c : Dev nD) : (dats m 0 c).arrAt 3 cfg0.N
    = G (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  have ht := lt_N t
  obtain ⟨i, x, rfl⟩ : ∃ (i : Fin 512) (x : Fin 2048), y = ix2 i x := ⟨y 0, y 1, ValueIdx.eq_ix2 y⟩
  have e : (win0_3.blk t).view.emb (ix2 i x) = (ix2 ⟨t.val * 512 + i.val, by omega⟩ x : S8192x2048.Idx) := by
    blk_ext [idx t]
  rw [e]
  frame_out
  rw [pay_at, blk_h]
  unfold G
  simp only [blk_a, blk_w]
  rfl

/-- The result as the reference's operations. -/
theorem ref (a : FVec Ideal Cert.Reference4Ideal.S8192x2048 .bf16) (w : FVec Ideal Cert.Reference4Ideal.S2048x2048 .f32) (h : FVec Ideal Cert.Reference4Ideal.S8192x2048 .f32) :
    (addf h (Host.dotGeneral Cert.Reference4Ideal.dot_S8192x2048_S2048x2048_S8192x2048_1_0_0_1_n_n none (extf .f32 a bitsLt_bf16_f32) w) : FVec Ideal Cert.Reference4Ideal.S8192x2048 .f32) = G a w h := by
  funext i
  obtain ⟨r, x, rfl⟩ : ∃ (r : Fin 8192) (x : Fin 2048), i = ix2 r x := ⟨i 0, i 1, ValueIdx.eq_ix2 i⟩
  unfold G
  pointwise []

end Cert.OutProj
end
-- ==== Proof.XattnQ.lean ====
module

public import proofs.«01_k».proof.Proof.RowNorm
public import proofs.«01_k».proof.Proof.Gen.Kernel5Ideal.Value
public import Idealize.ShloMosaic.Lib.Pipeline.ValueKit
public import Idealize.ShloMosaic.Lib.Pointwise

/-! A query projection's kernel: its result, entry by entry. -/

@[expose] public section

set_option maxRecDepth 16384
noncomputable section
open Idealize.ShloMosaic Idealize.ShloMosaic.TcCoe Idealize.SL.Sem
open Idealize.ShloMosaic.Pipeline (Dat)
namespace Cert.XattnQ
open Cert.Kernel5Ideal Cert.Kernel5Ideal.Gen Cert.Kernel5Ideal.Value Cert.RowNorm
variable (m : (ℓ : Loc nD τ sig) → Buf (Elt Ideal) ℓ)

/-- The result, entry by entry: a normalised row times a column of the weight. -/
def G (x : FVec Ideal S8192x2048 .f32) (g : FVec Ideal S2048 .f32) (w : FVec Ideal S2048x2048 .f32) : FVec Ideal S8192x2048 .bf16 :=
  fun i => ∑ k : Fin 2048, nrm (fun k => x (ix2 (i 0) k)) (fun k => g (ix1 k)) k * w (ix2 k (i 1))

/-- The block index of each window at a grid point. -/
theorem idx : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0) := by decide +kernel

/-- The launch has 16 points. -/
theorem lt_N (t : Fin cfg0.N) : t.val < 16 := t.isLt

/-- What a point leaves in the scratch: its rows normalised. -/
theorem pay1_at (x : FVec Ideal S512x2048 .f32) (g : FVec Ideal S1x2048 .f32) (i : Fin 512) (k : Fin 2048) :
    k0_pay1 (F := Ideal) x g (ix2 i k) = nrm (fun k => x (ix2 i k)) (fun k => g (ix2 0 k)) k := by
  unfold nrm
  pointwise [k0_pay1]

/-- What a point computes from the scratch and the weight. -/
theorem pay2_at (a : FVec Ideal S512x2048 .bf16) (w : FVec Ideal S2048x2048 .bf16) (i : Fin 512) (x : Fin 2048) :
    k0_pay2 (F := Ideal) a w (ix2 i x) = ∑ k : Fin 2048, a (ix2 i k) * w (ix2 k x) := by
  pointwise [k0_pay2]

set_option maxRecDepth 200000 in
set_option maxHeartbeats 2000000 in
/-- The weight's array at the call. -/
theorem v0 (c : Dev nD) : V m c main_v0 = (truncf .bf16 (m ((c.tc : Thread nD τ).loc main_arg2) : FVec Ideal S2048x2048 .f32) bitsLt_bf16_f32 : FVec Ideal S2048x2048 .bf16) := rfl

set_option maxRecDepth 200000 in
set_option maxHeartbeats 2000000 in
/-- The gain's array at the call. -/
theorem v1 (c : Dev nD) : V m c main_v1 = (shapeCast S1x2048 (m ((c.tc : Thread nD τ).loc main_arg1) : FVec Ideal S2048 .f32) shapeCasts_S2048_S1x2048 : FVec Ideal S1x2048 .f32) := rfl

/-- The gain as one row. -/
theorem gain_at (g : FVec Ideal S2048 .f32) (k : Fin 2048) :
    (shapeCast S1x2048 g shapeCasts_S2048_S1x2048 : FVec Ideal S1x2048 .f32) (ix2 0 k) = g (ix1 k) := by
  pointwise []

/-- The block of rows. -/
theorem blk_x (c : Dev nD) (t : Fin cfg0.N) (i : Fin 512) (k : Fin 2048) :
    iblk m c 0 t (ix2 i k : S512x2048.Idx) = (m ((c.tc : Thread nD τ).loc main_arg0)) (ix2 ⟨t.val * 512 + i.val, by have := lt_N t; omega⟩ k) := by
  have ht := lt_N t
  rw [← V_main_arg0 m c]
  unfold iblk
  rw [show V m c (Pipeline.arrRef spec0 0) = V m c main_arg0 from rfl]
  generalize V m c main_arg0 = X
  blk_ext [idx t]

/-- The gain's block. -/
theorem blk_g (c : Dev nD) (t : Fin cfg0.N) (k : Fin 2048) :
    iblk m c 1 t (ix2 0 k : S1x2048.Idx) = (m ((c.tc : Thread nD τ).loc main_arg1)) (ix1 k) := by
  have ht := lt_N t
  have e : (V m c main_v1 : FVec Ideal S1x2048 .f32) (ix2 0 k) = (m ((c.tc : Thread nD τ).loc main_arg1)) (ix1 k) := by
    rw [v1]; exact gain_at _ k
  refine Eq.trans ?_ e
  unfold iblk
  rw [show V m c (Pipeline.arrRef spec0 1) = V m c main_v1 from rfl]
  generalize V m c main_v1 = X
  blk_ext [idx t]

/-- The weight's block is the weight. -/
theorem blk_w (c : Dev nD) (t : Fin cfg0.N) (k x : Fin 2048) :
    iblk m c 2 t (ix2 k x : S2048x2048.Idx) = (m ((c.tc : Thread nD τ).loc main_arg2)) (ix2 k x) := by
  have ht := lt_N t
  have e : (V m c main_v0 : FVec Ideal S2048x2048 .bf16) (ix2 k x) = (m ((c.tc : Thread nD τ).loc main_arg2)) (ix2 k x) := by
    rw [v0]; rfl
  refine Eq.trans ?_ e
  unfold iblk
  rw [show V m c (Pipeline.arrRef spec0 2) = V m c main_v0 from rfl]
  generalize V m c main_v0 = X
  blk_ext [idx t]

/-- The kernel's result. -/
theorem final (c : Dev nD) : (dats m 0 c).arrAt 3 cfg0.N
    = G (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  have ht := lt_N t
  obtain ⟨i, x, rfl⟩ : ∃ (i : Fin 512) (x : Fin 2048), y = ix2 i x := ⟨y 0, y 1, ValueIdx.eq_ix2 y⟩
  have e : (win0_3.blk t).view.emb (ix2 i x) = (ix2 ⟨t.val * 512 + i.val, by omega⟩ x : S8192x2048.Idx) := by
    blk_ext [idx t]
  rw [e]
  unfold outsAt0
  try dsimp only
  frame_out
  try simp (disch := decide) only [↓View.readCov_skip, ↓View.readCov_fill]
  rw [pay2_at]
  unfold G
  simp only [pay1_at, blk_x, blk_g, blk_w]
  rfl

end Cert.XattnQ
end
-- ==== Proof.XattnQRef.lean ====
module

public import proofs.«01_k».proof.Proof.XattnQ
public import proofs.«01_k».proof.Proof.Gen.Reference5Ideal.Run
public import Idealize.ShloMosaic.Lib.Pipeline.ValueKit
public import Idealize.ShloMosaic.Lib.Pointwise

/-! The query projection's reference: its result, entry by entry. -/

@[expose] public section

set_option maxRecDepth 16384
noncomputable section
open Idealize.ShloMosaic Idealize.ShloMosaic.TcCoe Idealize.SL.Sem
open Idealize.ShloMosaic.Pipeline (Dat)
namespace Cert.XattnQRef
open Cert.Reference5Ideal Cert.Reference5Ideal.Gen Cert.RowNorm Cert.XattnQ

/-- The rows normalised, in the reference's operations. -/
def nF (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0
    (Host.reduceAdd (mulf x x) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- An entry of the normalised rows. -/
theorem nF_at (x : FVec Ideal S8192x2048 .f32) (g : FVec Ideal S2048 .f32) (r : Fin 8192) (k : Fin 2048) :
    nF x g (ix2 r k) = nrm (fun k => x (ix2 r k)) (fun k => g (ix1 k)) k := by
  unfold nrm
  pointwise [nF]

/-- The projection, in the reference's operations. -/
def pF (n : FVec Ideal S8192x2048 .f32) (w : FVec Ideal S2048x2048 .f32) : FVec Ideal S8192x2048 .bf16 :=
  truncf .bf16 (Host.dotGeneral dot_S8192x2048_S2048x2048_S8192x2048_1_0_0_1_n_n none n w) bitsLt_bf16_f32

/-- An entry of the projection. -/
theorem pF_at (n : FVec Ideal S8192x2048 .f32) (w : FVec Ideal S2048x2048 .f32) (r : Fin 8192) (j : Fin 2048) :
    pF n w (ix2 r j) = ∑ k : Fin 2048, n (ix2 r k) * w (ix2 k j) := by
  pointwise [pF]

/-- The reference's operations give the stated result. -/
theorem ref (x : FVec Ideal S8192x2048 .f32) (g : FVec Ideal S2048 .f32) (w : FVec Ideal S2048x2048 .f32) : pF (nF x g) w = G x g w := by
  funext i
  obtain ⟨r, c, rfl⟩ : ∃ (r : Fin 8192) (c : Fin 2048), i = ix2 r c := ⟨i 0, i 1, ValueIdx.eq_ix2 i⟩
  rw [pF_at]
  simp only [nF_at]
  rfl

end Cert.XattnQRef
end
-- ==== Proof.PeerQ.lean ====
module

public import proofs.«01_k».proof.Proof.RowNorm
public import proofs.«01_k».proof.Proof.Gen.Kernel6Ideal.Value
public import Idealize.ShloMosaic.Lib.Pipeline.ValueKit
public import Idealize.ShloMosaic.Lib.Pointwise

/-! A query projection's kernel: its result, entry by entry. -/

@[expose] public section

set_option maxRecDepth 16384
noncomputable section
open Idealize.ShloMosaic Idealize.ShloMosaic.TcCoe Idealize.SL.Sem
open Idealize.ShloMosaic.Pipeline (Dat)
namespace Cert.PeerQ
open Cert.Kernel6Ideal Cert.Kernel6Ideal.Gen Cert.Kernel6Ideal.Value Cert.RowNorm
variable (m : (ℓ : Loc nD τ sig) → Buf (Elt Ideal) ℓ)

/-- The result, entry by entry: a normalised row times a column of the weight. -/
def G (x : FVec Ideal S8192x2048 .f32) (g : FVec Ideal S2048 .f32) (w : FVec Ideal S2048x2048 .f32) : FVec Ideal S8192x2048 .bf16 :=
  fun i => ∑ k : Fin 2048, nrm (fun k => x (ix2 (i 0) k)) (fun k => g (ix1 k)) k * w (ix2 k (i 1))

/-- The normalised rows, entry by entry. -/
def N (x : FVec Ideal S8192x2048 .f32) (g : FVec Ideal S2048 .f32) : FVec Ideal S8192x2048 .bf16 :=
  fun i => nrm (fun k => x (ix2 (i 0) k)) (fun k => g (ix1 k)) (i 1)

/-- The block index of each window at a grid point. -/
theorem idx : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0) ∧ (win0_4.index t 0 = t.val ∧ win0_4.index t 1 = 0) := by decide +kernel

/-- The launch has 16 points. -/
theorem lt_N (t : Fin cfg0.N) : t.val < 16 := t.isLt

/-- What a point leaves in the scratch: its rows normalised. -/
theorem pay1_at (x : FVec Ideal S512x2048 .f32) (g : FVec Ideal S1x2048 .f32) (i : Fin 512) (k : Fin 2048) :
    k0_pay1 (F := Ideal) x g (ix2 i k) = nrm (fun k => x (ix2 i k)) (fun k => g (ix2 0 k)) k := by
  unfold nrm
  pointwise [k0_pay1]

/-- What a point computes from the scratch and the weight. -/
theorem pay2_at (a : FVec Ideal S512x2048 .bf16) (w : FVec Ideal S2048x2048 .bf16) (i : Fin 512) (x : Fin 2048) :
    k0_pay2 (F := Ideal) a w (ix2 i x) = ∑ k : Fin 2048, a (ix2 i k) * w (ix2 k x) := by
  pointwise [k0_pay2]

set_option maxRecDepth 200000 in
set_option maxHeartbeats 2000000 in
/-- The weight's array at the call. -/
theorem v0 (c : Dev nD) : V m c main_v0 = (truncf .bf16 (m ((c.tc : Thread nD τ).loc main_arg2) : FVec Ideal S2048x2048 .f32) bitsLt_bf16_f32 : FVec Ideal S2048x2048 .bf16) := rfl

set_option maxRecDepth 200000 in
set_option maxHeartbeats 2000000 in
/-- The gain's array at the call. -/
theorem v1 (c : Dev nD) : V m c main_v1 = (shapeCast S1x2048 (m ((c.tc : Thread nD τ).loc main_arg1) : FVec Ideal S2048 .f32) shapeCasts_S2048_S1x2048 : FVec Ideal S1x2048 .f32) := rfl

/-- The gain as one row. -/
theorem gain_at (g : FVec Ideal S2048 .f32) (k : Fin 2048) :
    (shapeCast S1x2048 g shapeCasts_S2048_S1x2048 : FVec Ideal S1x2048 .f32) (ix2 0 k) = g (ix1 k) := by
  pointwise []

/-- The block of rows. -/
theorem blk_x (c : Dev nD) (t : Fin cfg0.N) (i : Fin 512) (k : Fin 2048) :
    iblk m c 0 t (ix2 i k : S512x2048.Idx) = (m ((c.tc : Thread nD τ).loc main_arg0)) (ix2 ⟨t.val * 512 + i.val, by have := lt_N t; omega⟩ k) := by
  have ht := lt_N t
  rw [← V_main_arg0 m c]
  unfold iblk
  rw [show V m c (Pipeline.arrRef spec0 0) = V m c main_arg0 from rfl]
  generalize V m c main_arg0 = X
  blk_ext [idx t]

/-- The gain's block. -/
theorem blk_g (c : Dev nD) (t : Fin cfg0.N) (k : Fin 2048) :
    iblk m c 1 t (ix2 0 k : S1x2048.Idx) = (m ((c.tc : Thread nD τ).loc main_arg1)) (ix1 k) := by
  have ht := lt_N t
  have e : (V m c main_v1 : FVec Ideal S1x2048 .f32) (ix2 0 k) = (m ((c.tc : Thread nD τ).loc main_arg1)) (ix1 k) := by
    rw [v1]; exact gain_at _ k
  refine Eq.trans ?_ e
  unfold iblk
  rw [show V m c (Pipeline.arrRef spec0 1) = V m c main_v1 from rfl]
  generalize V m c main_v1 = X
  blk_ext [idx t]

/-- The weight's block is the weight. -/
theorem blk_w (c : Dev nD) (t : Fin cfg0.N) (k x : Fin 2048) :
    iblk m c 2 t (ix2 k x : S2048x2048.Idx) = (m ((c.tc : Thread nD τ).loc main_arg2)) (ix2 k x) := by
  have ht := lt_N t
  have e : (V m c main_v0 : FVec Ideal S2048x2048 .bf16) (ix2 k x) = (m ((c.tc : Thread nD τ).loc main_arg2)) (ix2 k x) := by
    rw [v0]; rfl
  refine Eq.trans ?_ e
  unfold iblk
  rw [show V m c (Pipeline.arrRef spec0 2) = V m c main_v0 from rfl]
  generalize V m c main_v0 = X
  blk_ext [idx t]

/-- The kernel's result. -/
theorem final (c : Dev nD) : (dats m 0 c).arrAt 3 cfg0.N
    = G (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  have ht := lt_N t
  obtain ⟨i, x, rfl⟩ : ∃ (i : Fin 512) (x : Fin 2048), y = ix2 i x := ⟨y 0, y 1, ValueIdx.eq_ix2 y⟩
  have e : (win0_3.blk t).view.emb (ix2 i x) = (ix2 ⟨t.val * 512 + i.val, by omega⟩ x : S8192x2048.Idx) := by
    blk_ext [idx t]
  rw [e]
  unfold outsAt0
  dsimp only
  frame_out
  try simp (disch := decide) only [↓View.readCov_skip, ↓View.readCov_fill]
  rw [pay2_at]
  unfold G
  simp only [pay1_at, blk_x, blk_g, blk_w]
  rfl

/-- The kernel's normalised rows. -/
theorem final_n (c : Dev nD) : (dats m 0 c).arrAt 4 cfg0.N
    = N (m ((c.tc : Thread nD τ).loc main_arg0)) (m ((c.tc : Thread nD τ).loc main_arg1)) := by
  refine (dats m 0 c).arrAt_eq_of_covers 4 _ (by decide +kernel) fun t hf y => ?_
  blk_simp
  rw [after0_4]
  have ht := lt_N t
  obtain ⟨i, x, rfl⟩ : ∃ (i : Fin 512) (x : Fin 2048), y = ix2 i x := ⟨y 0, y 1, ValueIdx.eq_ix2 y⟩
  have e : (win0_4.blk t).view.emb (ix2 i x) = (ix2 ⟨t.val * 512 + i.val, by omega⟩ x : S8192x2048.Idx) := by
    blk_ext [idx t]
  rw [e]
  unfold outsAt0
  dsimp only
  frame_out
  try simp (disch := decide) only [↓View.readCov_skip, ↓View.readCov_fill]
  rw [pay1_at]
  unfold N
  simp only [blk_x, blk_g]
  rfl

end Cert.PeerQ
end
-- ==== Proof.PeerQRef.lean ====
module

public import proofs.«01_k».proof.Proof.PeerQ
public import proofs.«01_k».proof.Proof.Gen.Reference6Ideal.Run
public import Idealize.ShloMosaic.Lib.Pipeline.ValueKit
public import Idealize.ShloMosaic.Lib.Pointwise

/-! The query projection's reference: its result, entry by entry. -/

@[expose] public section

set_option maxRecDepth 16384
noncomputable section
open Idealize.ShloMosaic Idealize.ShloMosaic.TcCoe Idealize.SL.Sem
open Idealize.ShloMosaic.Pipeline (Dat)
namespace Cert.PeerQRef
open Cert.Reference6Ideal Cert.Reference6Ideal.Gen Cert.RowNorm Cert.PeerQ

/-- The rows normalised, in the reference's operations. -/
def nF (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0
    (Host.reduceAdd (mulf x x) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- An entry of the normalised rows. -/
theorem nF_at (x : FVec Ideal S8192x2048 .f32) (g : FVec Ideal S2048 .f32) (r : Fin 8192) (k : Fin 2048) :
    nF x g (ix2 r k) = nrm (fun k => x (ix2 r k)) (fun k => g (ix1 k)) k := by
  unfold nrm
  pointwise [nF]

/-- The projection, in the reference's operations. -/
def pF (n : FVec Ideal S8192x2048 .f32) (w : FVec Ideal S2048x2048 .f32) : FVec Ideal S8192x2048 .bf16 :=
  truncf .bf16 (Host.dotGeneral dot_S8192x2048_S2048x2048_S8192x2048_1_0_0_1_n_n none n w) bitsLt_bf16_f32

/-- An entry of the projection. -/
theorem pF_at (n : FVec Ideal S8192x2048 .f32) (w : FVec Ideal S2048x2048 .f32) (r : Fin 8192) (j : Fin 2048) :
    pF n w (ix2 r j) = ∑ k : Fin 2048, n (ix2 r k) * w (ix2 k j) := by
  pointwise [pF]

/-- The reference's operations give the stated result. -/
theorem ref (x : FVec Ideal S8192x2048 .f32) (g : FVec Ideal S2048 .f32) (w : FVec Ideal S2048x2048 .f32) : pF (nF x g) w = G x g w := by
  funext i
  obtain ⟨r, c, rfl⟩ : ∃ (r : Fin 8192) (c : Fin 2048), i = ix2 r c := ⟨i 0, i 1, ValueIdx.eq_ix2 i⟩
  rw [pF_at]
  simp only [nF_at]
  rfl

/-- The reference's normalised rows are the stated ones. -/
theorem ref_n (x : FVec Ideal S8192x2048 .f32) (g : FVec Ideal S2048 .f32) : (truncf .bf16 (nF x g) bitsLt_bf16_f32 : FVec Ideal S8192x2048 .bf16) = N x g := by
  funext i
  obtain ⟨r, c, rfl⟩ : ∃ (r : Fin 8192) (c : Fin 2048), i = ix2 r c := ⟨i 0, i 1, ValueIdx.eq_ix2 i⟩
  exact nF_at x g r c

end Cert.PeerQRef
end
-- ==== Proof.FinalNorm.lean ====
module

public import proofs.«01_k».proof.Proof.RowNorm
public import proofs.«01_k».proof.Proof.Gen.Kernel7Ideal.Value
public import Idealize.ShloMosaic.Lib.Pipeline.ValueKit
public import Idealize.ShloMosaic.Lib.Pointwise

/-! The final normalisation's kernel: its result, entry by entry. -/

@[expose] public section

set_option maxRecDepth 16384
noncomputable section
open Idealize.ShloMosaic Idealize.ShloMosaic.TcCoe Idealize.SL.Sem
open Idealize.ShloMosaic.Pipeline (Dat)
namespace Cert.FinalNorm
open Cert.Kernel7Ideal Cert.Kernel7Ideal.Gen Cert.Kernel7Ideal.Value Cert.RowNorm
variable (m : (ℓ : Loc nD τ sig) → Buf (Elt Ideal) ℓ)

/-- The result, entry by entry: the rows of the sum, normalised. -/
def G (h y : FVec Ideal S8192x2048 .f32) (g : FVec Ideal S2048 .f32) : FVec Ideal S8192x2048 .f32 :=
  fun i => nrm (fun k => h (ix2 (i 0) k) + y (ix2 (i 0) k)) (fun k => g (ix1 k)) (i 1)

/-- The block index of each window at a grid point. -/
theorem idx : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0) := by decide +kernel

/-- The launch has 16 points. -/
theorem lt_N (t : Fin cfg0.N) : t.val < 16 := t.isLt

/-- What a point computes from its blocks. -/
theorem pay_at (h y : FVec Ideal S512x2048 .f32) (g : FVec Ideal S1x2048 .f32) (i : Fin 512) (k : Fin 2048) :
    k0_pay1 (F := Ideal) h y g (ix2 i k) = nrm (fun k => h (ix2 i k) + y (ix2 i k)) (fun k => g (ix2 0 k)) k := by
  unfold nrm
  pointwise [k0_pay1]

set_option maxRecDepth 200000 in
set_option maxHeartbeats 2000000 in
/-- The gain's array at the call. -/
theorem v0 (c : Dev nD) : V m c main_v0 = (shapeCast S1x2048 (m ((c.tc : Thread nD τ).loc main_arg2) : FVec Ideal S2048 .f32) shapeCasts_S2048_S1x2048 : FVec Ideal S1x2048 .f32) := rfl

/-- The gain as one row. -/
theorem gain_at (g : FVec Ideal S2048 .f32) (k : Fin 2048) :
    (shapeCast S1x2048 g shapeCasts_S2048_S1x2048 : FVec Ideal S1x2048 .f32) (ix2 0 k) = g (ix1 k) := by
  pointwise []

/-- The residual stream's block of rows. -/
theorem blk_h (c : Dev nD) (t : Fin cfg0.N) (i : Fin 512) (k : Fin 2048) :
    iblk m c 0 t (ix2 i k : S512x2048.Idx) = (m ((c.tc : Thread nD τ).loc main_arg0)) (ix2 ⟨t.val * 512 + i.val, by have := lt_N t; omega⟩ k) := by
  have ht := lt_N t
  rw [← V_main_arg0 m c]
  unfold iblk
  rw [show V m c (Pipeline.arrRef spec0 0) = V m c main_arg0 from rfl]
  generalize V m c main_arg0 = X
  blk_ext [idx t]

/-- The second summand's block of rows. -/
theorem blk_y (c : Dev nD) (t : Fin cfg0.N) (i : Fin 512) (k : Fin 2048) :
    iblk m c 1 t (ix2 i k : S512x2048.Idx) = (m ((c.tc : Thread nD τ).loc main_arg1)) (ix2 ⟨t.val * 512 + i.val, by have := lt_N t; omega⟩ k) := by
  have ht := lt_N t
  rw [← V_main_arg1 m c]
  unfold iblk
  rw [show V m c (Pipeline.arrRef spec0 1) = V m c main_arg1 from rfl]
  generalize V m c main_arg1 = X
  blk_ext [idx t]

/-- The gain's block. -/
theorem blk_g (c : Dev nD) (t : Fin cfg0.N) (k : Fin 2048) :
    iblk m c 2 t (ix2 0 k : S1x2048.Idx) = (m ((c.tc : Thread nD τ).loc main_arg2)) (ix1 k) := by
  have ht := lt_N t
  have e : (V m c main_v0 : FVec Ideal S1x2048 .f32) (ix2 0 k) = (m ((c.tc : Thread nD τ).loc main_arg2)) (ix1 k) := by
    rw [v0]; exact gain_at _ k
  refine Eq.trans ?_ e
  unfold iblk
  rw [show V m c (Pipeline.arrRef spec0 2) = V m c main_v0 from rfl]
  generalize V m c main_v0 = X
  blk_ext [idx t]

/-- The kernel's result. -/
theorem final (c : Dev nD) : (dats m 0 c).arrAt 3 cfg0.N
    = G (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  have ht := lt_N t
  obtain ⟨i, x, rfl⟩ : ∃ (i : Fin 512) (x : Fin 2048), y = ix2 i x := ⟨y 0, y 1, ValueIdx.eq_ix2 y⟩
  have e : (win0_3.blk t).view.emb (ix2 i x) = (ix2 ⟨t.val * 512 + i.val, by omega⟩ x : S8192x2048.Idx) := by
    blk_ext [idx t]
  rw [e]
  frame_out
  rw [pay_at]
  unfold G
  simp only [blk_h, blk_y, blk_g]
  rfl

end Cert.FinalNorm
end
-- ==== Proof.FinalNormRef.lean ====
module

public import proofs.«01_k».proof.Proof.FinalNorm
public import proofs.«01_k».proof.Proof.Gen.Reference7Ideal.Run
public import Idealize.ShloMosaic.Lib.Pipeline.ValueKit
public import Idealize.ShloMosaic.Lib.Pointwise

/-! The final normalisation's reference: its result, entry by entry. -/

@[expose] public section

set_option maxRecDepth 16384
noncomputable section
open Idealize.ShloMosaic Idealize.ShloMosaic.TcCoe Idealize.SL.Sem
open Idealize.ShloMosaic.Pipeline (Dat)
namespace Cert.FinalNormRef
open Cert.Reference7Ideal Cert.Reference7Ideal.Gen Cert.RowNorm Cert.FinalNorm

/-- The rows normalised, in the reference's operations. -/
def nF (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0
    (Host.reduceAdd (mulf x x) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- An entry of the normalised rows. -/
theorem nF_at (x : FVec Ideal S8192x2048 .f32) (g : FVec Ideal S2048 .f32) (r : Fin 8192) (k : Fin 2048) :
    nF x g (ix2 r k) = nrm (fun k => x (ix2 r k)) (fun k => g (ix1 k)) k := by
  unfold nrm
  pointwise [nF]

/-- The reference's operations give the stated result. -/
theorem ref (h y : FVec Ideal S8192x2048 .f32) (g : FVec Ideal S2048 .f32) : nF (addf h y) g = G h y g := by
  funext i
  obtain ⟨r, k, rfl⟩ : ∃ (r : Fin 8192) (k : Fin 2048), i = ix2 r k := ⟨i 0, i 1, ValueIdx.eq_ix2 i⟩
  rw [nF_at]
  rfl

end Cert.FinalNormRef
end
-- ==== Proof.Attend.lean ====
module

public import Idealize.ShloMosaic.Lib.Pipeline.ValueKit
public import Idealize.ShloMosaic.Lib.Pointwise

/-! Attention of one query to 256 keys, as a plain function of its logits. -/

@[expose] public section

noncomputable section
open Idealize.ShloMosaic
namespace Cert.Attend

/-- The largest logit. -/
def top (s : Fin 256 → EReal) : EReal := Finset.univ.fold max (Ideal.ofBits .f32 0xFF800000#32) s

/-- The larger of a start value and a largest value from that start is the latter. -/
theorem max_fold (b : EReal) (s : Fin 256 → EReal) : max b (Finset.univ.fold max b s) = Finset.univ.fold max b s :=
  max_eq_right ((Finset.le_fold_max b).mpr (Or.inl le_rfl))

/-- The softmax of the logits times the values. -/
def att (s v : Fin 256 → EReal) : EReal :=
  ∑ j, Ideal.div (Ideal.exp (s j - top s)) (∑ l, Ideal.exp (s l - top s)) * v j

end Cert.Attend
end
-- ==== Proof.Xattn.lean ====
module

public import proofs.«01_k».proof.Proof.Attend
public import proofs.«01_k».proof.Proof.Gen.Kernel8Ideal.Value
public import Idealize.ShloMosaic.Lib.Pipeline.ValueKit
public import Idealize.ShloMosaic.Lib.Pointwise

/-! The cross-attention's kernel: its result, entry by entry. -/

@[expose] public section

set_option maxRecDepth 16384
noncomputable section
open Idealize.ShloMosaic Idealize.ShloMosaic.TcCoe Idealize.SL.Sem
open Idealize.ShloMosaic.Pipeline (Dat)
namespace Cert.Xattn
open Cert.Kernel8Ideal Cert.Kernel8Ideal.Gen Cert.Kernel8Ideal.Value Cert.Attend
variable (m : (ℓ : Loc nD τ sig) → Buf (Elt Ideal) ℓ)

/-- The named scale is the inverse root of 512. -/
theorem scale : Named.named (F := Ideal) Cert.Kernel8Ideal.κ "inv_sqrt_d" (φ := .f32) 0x3D3504F3#32 = (((Real.sqrt 512)⁻¹ : ℝ) : EReal) :=
  IdealRules.named_const.ideal_named_scalar _ _ _ _ rfl

/-- The first head at a point. -/
theorem pay2_at (q : FVec Ideal S512x512 .bf16) (k v : FVec Ideal S256x512 .bf16) (i x : Fin 512) :
    k0_pay2 (F := Ideal) q k v (ix2 i x)
      = att (fun j => (∑ d : Fin 512, q (ix2 i d) * k (ix2 j d)) * (((Real.sqrt 512)⁻¹ : ℝ) : EReal)) (fun j => v (ix2 j x)) := by
  unfold att top
  pointwise [k0_pay2, scale]

/-- The third head at a point. -/
theorem pay7_at (q : FVec Ideal S512x512 .bf16) (k v : FVec Ideal S256x512 .bf16) (i x : Fin 512) :
    k0_pay7 (F := Ideal) q k v (ix2 i x)
      = att (fun j => (∑ d : Fin 512, q (ix2 i d) * k (ix2 j d)) * (((Real.sqrt 512)⁻¹ : ℝ) : EReal)) (fun j => v (ix2 j x)) := by
  unfold att top
  pointwise [k0_pay7, scale]

/-- The second head at a point. -/
theorem pay6_at (q : FVec Ideal S512x512 .bf16) (k v : FVec Ideal S256x512 .bf16) (i x : Fin 512) :
    k0_pay6 (F := Ideal) (k0_pay3 v) (k0_pay4 q k) (k0_pay5 q k) (ix2 i x)
      = att (fun j => (∑ d : Fin 512, q (ix2 i d) * k (ix2 j d)) * (((Real.sqrt 512)⁻¹ : ℝ) : EReal)) (fun j => v (ix2 j x)) := by
  unfold att top
  pointwise [k0_pay6, k0_pay5, k0_pay4, k0_pay3, scale]

/-- The fourth head at a point. -/
theorem pay1_at (q : FVec Ideal S512x512 .bf16) (k v : FVec Ideal S256x512 .bf16) (i x : Fin 512) :
    k0_pay1 (F := Ideal) (k0_pay8 v) (k0_pay9 q k) (Named.named κ "inv_sqrt_d" 0x3D3504F3#32) (ix2 i x)
      = att (fun j => (∑ d : Fin 512, q (ix2 i d) * k (ix2 j d)) * (((Real.sqrt 512)⁻¹ : ℝ) : EReal)) (fun j => v (ix2 j x)) := by
  unfold att top
  pointwise [k0_pay1, k0_pay8, k0_pay9, scale]

/-- One entry of a point's result, from the point's queries and the keys and values beside each other. -/
def P (q : FVec Ideal S512x2048 .bf16) (kv : FVec Ideal S256x4096 .bf16) (i : Fin 512) (y : Fin 2048) : EReal :=
  att (fun j => (∑ d : Fin 512, q (ix2 i ⟨y.val / 512 * 512 + d.val, by omega⟩) * kv (ix2 j ⟨y.val / 512 * 512 + d.val, by omega⟩)) * (((Real.sqrt 512)⁻¹ : ℝ) : EReal))
    (fun j => kv (ix2 j ⟨2048 + y.val, by omega⟩))

/-- A head's columns, read as a block, give the point's entry there. -/
theorem head_at (q : FVec Ideal S512x2048 .bf16) (kv : FVec Ideal S256x4096 .bf16) (o : ℕ) (ho : o % 512 = 0) (a b : Fin 512) (y : Fin 2048) (hy : y.val = o + b.val)
    (hq : ∀ x, (![0, o] : Fin 2 → ℕ) x + S512x512.size x ≤ S512x2048.size x) (hk : ∀ x, (![0, o] : Fin 2 → ℕ) x + S256x512.size x ≤ S256x4096.size x)
    (hv : ∀ x, (![0, 2048 + o] : Fin 2 → ℕ) x + S256x512.size x ≤ S256x4096.size x) :
    att (fun j => (∑ d : Fin 512, View.ld (Val := Elt Ideal) (e' := .bf16) q (Rect.unit (s := S512x2048) ![0, o] S512x512.size hq) (ix2 a d) * View.ld (Val := Elt Ideal) (e' := .bf16) kv (Rect.unit (s := S256x4096) ![0, o] S256x512.size hk) (ix2 j d)) * (((Real.sqrt 512)⁻¹ : ℝ) : EReal))
      (fun j => View.ld (Val := Elt Ideal) (e' := .bf16) kv (Rect.unit (s := S256x4096) ![0, 2048 + o] S256x512.size hv) (ix2 j b)) = P q kv a y := by
  have e : y.val / 512 * 512 = o := by omega
  unfold P
  refine congrArg₂ att (funext fun j => congrArg (· * _) (Finset.sum_congr rfl fun d _ => congrArg₂ (· * ·) ?_ ?_)) (funext fun j => ?_)
  · refine View.ld_unit_apply_of _ _ _ _ _ _ fun x => ?_
    match x with
    | ⟨0, _⟩ => exact (Nat.zero_add _).symm
    | ⟨1, _⟩ => show y.val / 512 * 512 + d.val = o + d.val; omega
  · refine View.ld_unit_apply_of _ _ _ _ _ _ fun x => ?_
    match x with
    | ⟨0, _⟩ => exact (Nat.zero_add _).symm
    | ⟨1, _⟩ => show y.val / 512 * 512 + d.val = o + d.val; omega
  · refine View.ld_unit_apply_of _ _ _ _ _ _ fun x => ?_
    match x with
    | ⟨0, _⟩ => exact (Nat.zero_add _).symm
    | ⟨1, _⟩ => show 2048 + y.val = 2048 + o + b.val; omega

/-- What a point leaves in its result block. -/
theorem out_at (q : FVec Ideal S512x2048 .bf16) (kv : FVec Ideal S256x4096 .bf16) (i : Fin 512) (y : Fin 2048) :
    out0_2 (F := Ideal) q kv (ix2 i y) = P q kv i y := by
  canon_tiles x h
  all_goals
    obtain ⟨a, b, rfl⟩ : ∃ (a b : Fin 512), x = ix2 a b := ⟨x 0, x 1, ValueIdx.eq_ix2 x⟩
    obtain rfl : i = a := Fin.ext (by simpa using h0)
  · rw [pay1_at]; exact head_at q kv 1536 rfl i b y (by simpa using h1) _ _ _
  · rw [pay7_at]; exact head_at q kv 1024 rfl i b y (by simpa using h1) _ _ _
  · rw [pay6_at]; exact head_at q kv 512 rfl i b y (by simpa using h1) _ _ _
  · rw [pay2_at]; exact head_at q kv 0 rfl i b y (by simpa using h1) _ _ _

/-- The result, entry by entry: the attention of the entry's head. -/
def G (q : FVec Ideal S8192x2048 .bf16) (k v : FVec Ideal S256x2048 .bf16) : FVec Ideal S8192x2048 .bf16 := fun i =>
  att (fun j => (∑ d : Fin 512, q (ix2 (i 0) ⟨(i 1).val / 512 * 512 + d.val, by have : (i 1).val < 2048 := (i 1).isLt; omega⟩)
      * k (ix2 j ⟨(i 1).val / 512 * 512 + d.val, by have : (i 1).val < 2048 := (i 1).isLt; omega⟩)) * (((Real.sqrt 512)⁻¹ : ℝ) : EReal))
    (fun j => v (ix2 j (i 1)))

/-- The block index of each window at a grid point. -/
theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) := by decide +kernel

/-- The launch has 16 points. -/
theorem lt_N (t : Fin cfg0.N) : t.val < 16 := t.isLt

/-- Keys and values beside each other. -/
def kvF (k v : FVec Ideal S256x2048 .bf16) : FVec Ideal S256x4096 .bf16 :=
  concatenate S256x4096 1 [⟨S256x2048, k⟩, ⟨S256x2048, v⟩] concatenates_S256x2048_S256x2048_S256x4096_d1

/-- An entry of keys and values beside each other. -/
theorem kvF_at (k v : FVec Ideal S256x2048 .bf16) (j : Fin 256) (x : Fin 4096) :
    kvF k v (ix2 j x) = if h : x.val < 2048 then k (ix2 j ⟨x.val, h⟩) else v (ix2 j ⟨x.val - 2048, by omega⟩) := by
  pointwise [kvF]

set_option maxRecDepth 200000 in
set_option maxHeartbeats 2000000 in
/-- The keys' and values' array at the call. -/
theorem v0 (c : Dev nD) : V m c main_v0 = kvF (m ((c.tc : Thread nD τ).loc main_arg1)) (m ((c.tc : Thread nD τ).loc main_arg2)) := rfl

/-- The block of queries. -/
theorem blk_q (c : Dev nD) (t : Fin cfg0.N) (i : Fin 512) (k : Fin 2048) :
    iblk m c 0 t (ix2 i k : S512x2048.Idx) = (m ((c.tc : Thread nD τ).loc main_arg0)) (ix2 ⟨t.val * 512 + i.val, by have := lt_N t; omega⟩ k) := by
  have ht := lt_N t
  rw [← V_main_arg0 m c]
  unfold iblk
  rw [show V m c (Pipeline.arrRef spec0 0) = V m c main_arg0 from rfl]
  generalize V m c main_arg0 = X
  blk_ext [idx t]

/-- The block of keys and values is all of them. -/
theorem blk_kv (c : Dev nD) (t : Fin cfg0.N) (j : Fin 256) (x : Fin 4096) :
    iblk m c 1 t (ix2 j x : S256x4096.Idx) = kvF (m ((c.tc : Thread nD τ).loc main_arg1)) (m ((c.tc : Thread nD τ).loc main_arg2)) (ix2 j x) := by
  have ht := lt_N t
  rw [← v0]
  unfold iblk
  rw [show V m c (Pipeline.arrRef spec0 1) = V m c main_v0 from rfl]
  generalize V m c main_v0 = X
  blk_ext [idx t]

/-- A point's entry, from the arguments. -/
theorem P_at (c : Dev nD) (t : Fin cfg0.N) (i : Fin 512) (y : Fin 2048) :
    P (iblk m c 0 t) (iblk m c 1 t) i y = G (m ((c.tc : Thread nD τ).loc main_arg0)) (m ((c.tc : Thread nD τ).loc main_arg1)) (m ((c.tc : Thread nD τ).loc main_arg2))
      (ix2 ⟨t.val * 512 + i.val, by have := lt_N t; omega⟩ y) := by
  have hy : y.val < 2048 := y.isLt
  unfold P G
  refine congrArg₂ att (funext fun j => congrArg (· * _) (Finset.sum_congr rfl fun d _ => congrArg₂ (· * ·) ?_ ?_)) (funext fun j => ?_)
  · exact blk_q m c t i _
  · rw [blk_kv, kvF_at]
    exact dif_pos (show y.val / 512 * 512 + d.val < 2048 by omega)
  · rw [blk_kv, kvF_at]
    refine (dif_neg (show ¬2048 + y.val < 2048 by omega)).trans ?_
    exact congrArg _ (congrArg (ix2 j) (Fin.ext (show 2048 + y.val - 2048 = y.val by omega)))

/-- The kernel's result. -/
theorem final (c : Dev nD) : (dats m 0 c).arrAt 2 cfg0.N
    = G (m ((c.tc : Thread nD τ).loc main_arg0)) (m ((c.tc : Thread nD τ).loc main_arg1)) (m ((c.tc : Thread nD τ).loc main_arg2)) := by
  refine (dats m 0 c).arrAt_eq_of_covers 2 _ (by decide +kernel) fun t hf y => ?_
  blk_simp
  rw [after0_2]
  have ht := lt_N t
  obtain ⟨i, x, rfl⟩ : ∃ (i : Fin 512) (x : Fin 2048), y = ix2 i x := ⟨y 0, y 1, ValueIdx.eq_ix2 y⟩
  have e : (win0_2.blk t).view.emb (ix2 i x) = (ix2 ⟨t.val * 512 + i.val, by omega⟩ x : S8192x2048.Idx) := by
    blk_ext [idx t]
  rw [e]
  exact (out_at _ _ i x).trans (P_at m c t i x)

end Cert.Xattn
end
-- ==== Proof.XattnRef.lean ====
module

public import proofs.«01_k».proof.Proof.Xattn
public import proofs.«01_k».proof.Proof.Gen.Reference8Ideal.Run
public import Idealize.ShloMosaic.Lib.Pipeline.ValueKit
public import Idealize.ShloMosaic.Lib.Pointwise

/-! The cross-attention's reference: its result, entry by entry. -/

@[expose] public section

set_option maxRecDepth 16384
noncomputable section
open Idealize.ShloMosaic Idealize.ShloMosaic.TcCoe Idealize.SL.Sem
open Idealize.ShloMosaic.Pipeline (Dat)
namespace Cert.XattnRef
open Cert.Reference8Ideal Cert.Reference8Ideal.Gen Cert.Attend Cert.Xattn

/-- The logits, in the reference's operations. -/
def lF (q : FVec Ideal S8192x2048 .bf16) (k : FVec Ideal S256x2048 .bf16) : FVec Ideal S1x4x8192x256 .f32 :=
  Host.divf (Host.dotGeneral dot_S1x8192x4x512_S1x256x4x512_S1x4x8192x256_3_3_1_1_02_02 none (shapeCast _ (extf .f32 q bitsLt_bf16_f32) shapeCasts_S8192x2048_S1x8192x4x512)
    (shapeCast _ (extf .f32 k bitsLt_bf16_f32) shapeCasts_S256x2048_S1x256x4x512)) (broadcastInDim S1x4x8192x256 ![] bcast_S_S1x4x8192x256 (Host.sqrt (constant S_ .f32 0x44000000#32)))

/-- The largest logit of each query, in the reference's reduction. -/
def rF (l : FVec Ideal S1x4x8192x256 .f32) : FVec Ideal S1x4x8192 .f32 :=
  Host.reduce FloatOps.maximumf l (constant S_ .f32 0xFF800000#32) reducesTo_S1x4x8192x256_S1x4x8192_d3 h_S_

/-- The larger of the reduction's start value and its result. -/
def mF (t : FVec Ideal S1x4x8192 .f32) : FVec Ideal S1x4x8192 .f32 :=
  maximumf (broadcastInDim S1x4x8192 ![] bcast_S_S1x4x8192 (constant S_ .f32 0xFF800000#32)) t

/-- The largest logit of each query, in the reference's operations. -/
def tF (l : FVec Ideal S1x4x8192x256 .f32) : FVec Ideal S1x4x8192 .f32 := mF (rF l)

/-- The exponentials, in the reference's operations. -/
def eF (l : FVec Ideal S1x4x8192x256 .f32) (t : FVec Ideal S1x4x8192 .f32) : FVec Ideal S1x4x8192x256 .f32 :=
  Host.exp (subf l (broadcastInDim S1x4x8192x256 ![0, 1, 2, 3] bcast_S1x4x8192x1_S1x4x8192x256_0_1_2_3 (broadcastInDim S1x4x8192x1 ![0, 1, 2] bcast_S1x4x8192_S1x4x8192x1_0_1_2 t)))

/-- The weights, in the reference's operations. -/
def pF (e : FVec Ideal S1x4x8192x256 .f32) : FVec Ideal S1x4x8192x256 .f32 :=
  Host.divf e (broadcastInDim S1x4x8192x256 ![0, 1, 2, 3] bcast_S1x4x8192x1_S1x4x8192x256_0_1_2_3 (broadcastInDim S1x4x8192x1 ![0, 1, 2] bcast_S1x4x8192_S1x4x8192x1_0_1_2
    (Host.reduceAdd e (constant S_ .f32 0x00000000#32) reducesTo_S1x4x8192x256_S1x4x8192_d3 h_S_)))

/-- The weighted values, in the reference's operations. -/
def oF (v : FVec Ideal S256x2048 .bf16) (p : FVec Ideal S1x4x8192x256 .f32) : FVec Ideal S8192x2048 .bf16 :=
  truncf .bf16 (shapeCast _ (transpose S1x8192x4x512 [0, 3, 1, 2] (Host.dotGeneral dot_S1x256x4x512_S1x4x8192x256_S1x4x512x8192_1_3_3_2_02_01 none
    (shapeCast _ (extf .f32 v bitsLt_bf16_f32) shapeCasts_S256x2048_S1x256x4x512) p) transposes_S1x4x512x8192_S1x8192x4x512_0_3_1_2) shapeCasts_S1x8192x4x512_S8192x2048) bitsLt_bf16_f32

/-- The word of 512 is 512. -/
theorem ofBits_512 : Ideal.ofBits .f32 0x44000000#32 = ((512 : ℝ) : EReal) := by
  simp [Ideal.ofBits, Ideal.ieee, -EReal.coe_mul]; norm_num

/-- Dividing by the root of 512 is multiplying by its inverse. -/
theorem div_root (x : EReal) : Ideal.div x (Ideal.sqrt (Ideal.ofBits .f32 0x44000000#32)) = x * (((Real.sqrt 512)⁻¹ : ℝ) : EReal) := by
  rw [ofBits_512, Ideal.sqrt_coe, if_neg (by norm_num), Ideal.div_coe (Real.sqrt_pos.mpr (by norm_num)).ne', one_div]

/-- An entry of the logits. -/
theorem lF_at (q : FVec Ideal S8192x2048 .bf16) (k : FVec Ideal S256x2048 .bf16) (h : Fin 4) (r : Fin 8192) (j : Fin 256) :
    lF q k (ix4 0 h r j) = (∑ d : Fin 512, q (ix2 r ⟨h.val * 512 + d.val, by omega⟩) * k (ix2 j ⟨h.val * 512 + d.val, by omega⟩)) * (((Real.sqrt 512)⁻¹ : ℝ) : EReal) := by
  refine Eq.trans (b := Ideal.div (∑ d : Fin 512, q (ix2 r ⟨h.val * 512 + d.val, by omega⟩) * k (ix2 j ⟨h.val * 512 + d.val, by omega⟩)) (Ideal.sqrt (Ideal.ofBits .f32 0x44000000#32))) ?_ (div_root _)
  pointwise [lF]

/-- The reduction, against any name for the largest value. -/
theorem rF_of (l : FVec Ideal S1x4x8192x256 .f32) (h : Fin 4) (r : Fin 8192) (X : EReal)
    (hX : Finset.fold max (Ideal.ofBits .f32 0xFF800000#32) (fun x => l (ix4 0 h r x)) Finset.univ = X) : rF l (ix3 0 h r) = X := by
  pointwise [rF]
  exact hX

/-- An entry of the larger value. -/
theorem mF_at (t : FVec Ideal S1x4x8192 .f32) (h : Fin 4) (r : Fin 8192) : mF t (ix3 0 h r) = max (Ideal.ofBits .f32 0xFF800000#32) (t (ix3 0 h r)) := rfl

/-- The largest logit of a query. -/
theorem tF_at (l : FVec Ideal S1x4x8192x256 .f32) (h : Fin 4) (r : Fin 8192) : tF l (ix3 0 h r) = top (fun j => l (ix4 0 h r j)) := by
  unfold top tF
  rw [mF_at, rF_of l h r _ rfl]
  exact max_fold _ _

/-- An exponential. -/
theorem eF_at (l : FVec Ideal S1x4x8192x256 .f32) (t : FVec Ideal S1x4x8192 .f32) (h : Fin 4) (r : Fin 8192) (j : Fin 256) :
    eF l t (ix4 0 h r j) = Ideal.exp (l (ix4 0 h r j) - t (ix3 0 h r)) := by
  pointwise [eF]

/-- A weight. -/
theorem pF_at (e : FVec Ideal S1x4x8192x256 .f32) (h : Fin 4) (r : Fin 8192) (j : Fin 256) :
    pF e (ix4 0 h r j) = Ideal.div (e (ix4 0 h r j)) (∑ l, e (ix4 0 h r l)) := by
  pointwise [pF]

/-- An entry of the weighted values. -/
theorem oF_at (v : FVec Ideal S256x2048 .bf16) (p : FVec Ideal S1x4x8192x256 .f32) (r : Fin 8192) (y : Fin 2048) :
    oF v p (ix2 r y) = ∑ j : Fin 256, p (ix4 0 ⟨y.val / 512, by omega⟩ r j) * v (ix2 j y) := by
  refine Eq.trans (b := ∑ j : Fin 256, v (ix2 j y) * p (ix4 0 ⟨y.val / 512, by omega⟩ r j)) ?_ (Finset.sum_congr rfl fun j _ => mul_comm _ _)
  pointwise [oF]

/-- The reference's operations give the stated result. -/
theorem ref (q : FVec Ideal S8192x2048 .bf16) (k v : FVec Ideal S256x2048 .bf16) : oF v (pF (eF (lF q k) (tF (lF q k)))) = G q k v := by
  funext i
  obtain ⟨r, y, rfl⟩ : ∃ (r : Fin 8192) (y : Fin 2048), i = ix2 r y := ⟨i 0, i 1, ValueIdx.eq_ix2 i⟩
  rw [oF_at]
  simp only [pF_at, eF_at, tF_at, lF_at]
  rfl

end Cert.XattnRef
end
-- ==== Proof.XattnKv.lean ====
module

public import proofs.«01_k».proof.Proof.Gen.Kernel9Ideal.Value
public import proofs.«01_k».proof.Proof.RowNorm
public import Idealize.ShloMosaic.Lib.Pipeline.ValueKit
public import Idealize.ShloMosaic.Lib.Pointwise

/-! The kernel of the cross-attention's keys and values: its result, entry by entry. -/

@[expose] public section

set_option maxRecDepth 16384
noncomputable section
open Idealize.ShloMosaic Idealize.ShloMosaic.TcCoe Idealize.SL.Sem
open Idealize.ShloMosaic.Pipeline (Dat)
namespace Cert.XattnKv
open Cert.Kernel9Ideal Cert.Kernel9Ideal.Gen Cert.Kernel9Ideal.Value Cert.RowNorm
variable (m : (ℓ : Loc nD τ sig) → Buf (Elt Ideal) ℓ)

/-- Two rows beside each other. -/
def ord (E E' : Fin 2048 → EReal) (c : Fin 4096) : EReal :=
  if h : c.val < 2048 then E ⟨c.val, h⟩ else E' ⟨c.val - 2048, by omega⟩

/-- The two weights beside each other. -/
def wF (a b : FVec Ideal S2048x2048 .f32) : FVec Ideal S2048x4096 .f32 :=
  concatenate S2048x4096 1 [⟨S2048x2048, a⟩, ⟨S2048x2048, b⟩] concatenates_S2048x2048_S2048x2048_S2048x4096_d1

/-- An entry of the two weights beside each other. -/
theorem wF_at (a b : FVec Ideal S2048x2048 .f32) (k : Fin 2048) (x : Fin 4096) :
    wF a b (ix2 k x) = ord (fun j => a (ix2 k j)) (fun j => b (ix2 k j)) x := by
  unfold ord
  pointwise [wF]

/-- The result, entry by entry: a normalised row times a column of the keys' or of the values' weight. -/
def G (x : FVec Ideal S256x2048 .f32) (g : FVec Ideal S2048 .f32) (w w' : FVec Ideal S2048x2048 .f32) : FVec Ideal S256x4096 .bf16 :=
  fun i => ord (fun j => ∑ k : Fin 2048, nrm (fun k => x (ix2 (i 0) k)) (fun k => g (ix1 k)) k * w (ix2 k j))
    (fun j => ∑ k : Fin 2048, nrm (fun k => x (ix2 (i 0) k)) (fun k => g (ix1 k)) k * w' (ix2 k j)) (i 1)

/-- The choice of the weight passes through a sum of products. -/
theorem ord_sum (n : Fin 2048 → EReal) (w w' : Fin 2048 → Fin 2048 → EReal) (c : Fin 4096) :
    ord (fun j => ∑ k, n k * w k j) (fun j => ∑ k, n k * w' k j) c = ∑ k, n k * ord (w k) (w' k) c := by
  unfold ord
  by_cases h : c.val < 2048
  · simp only [dif_pos h]
  · simp only [dif_neg h]

/-- The block index of each window at a grid point. -/
theorem idx : ∀ t : Fin cfg0.N, (win0_0.index t 0 = t.val / 8 ∧ win0_0.index t 1 = 0) ∧ (win0_1.index t 0 = 0 ∧ win0_1.index t 1 = 0)
    ∧ (win0_2.index t 0 = 0 ∧ win0_2.index t 1 = t.val % 8) ∧ (win0_3.index t 0 = t.val / 8 ∧ win0_3.index t 1 = t.val % 8) := by decide +kernel

/-- The launch has 8 points. -/
theorem lt_N (t : Fin cfg0.N) : t.val < 8 := t.isLt

/-- What a point leaves in the scratch: its rows normalised. -/
theorem pay1_at (x : FVec Ideal S256x2048 .f32) (g : FVec Ideal S1x2048 .f32) (i : Fin 256) (k : Fin 2048) :
    k0_pay1 (F := Ideal) x g (ix2 i k) = nrm (fun k => x (ix2 i k)) (fun k => g (ix2 0 k)) k := by
  unfold nrm
  pointwise [k0_pay1]

/-- What a point computes from the scratch and the weight's block. -/
theorem pay2_at (a : FVec Ideal S256x2048 .bf16) (w : FVec Ideal S2048x512 .bf16) (i : Fin 256) (x : Fin 512) :
    k0_pay2 (F := Ideal) a w (ix2 i x) = ∑ k : Fin 2048, a (ix2 i k) * w (ix2 k x) := by
  pointwise [k0_pay2]

set_option maxRecDepth 200000 in
set_option maxHeartbeats 2000000 in
/-- The weight's array at the call. -/
theorem v1 (c : Dev nD) : V m c main_v1 = (truncf .bf16 (wF (m ((c.tc : Thread nD τ).loc main_arg2)) (m ((c.tc : Thread nD τ).loc main_arg3))) bitsLt_bf16_f32 : FVec Ideal S2048x4096 .bf16) := rfl

set_option maxRecDepth 200000 in
set_option maxHeartbeats 2000000 in
/-- The gain's array at the call. -/
theorem v2 (c : Dev nD) : V m c main_v2 = (shapeCast S1x2048 (m ((c.tc : Thread nD τ).loc main_arg1) : FVec Ideal S2048 .f32) shapeCasts_S2048_S1x2048 : FVec Ideal S1x2048 .f32) := rfl

/-- The gain as one row. -/
theorem gain_at (g : FVec Ideal S2048 .f32) (k : Fin 2048) :
    (shapeCast S1x2048 g shapeCasts_S2048_S1x2048 : FVec Ideal S1x2048 .f32) (ix2 0 k) = g (ix1 k) := by
  pointwise []

/-- The block of rows. -/
theorem blk_x (c : Dev nD) (t : Fin cfg0.N) (i : Fin 256) (k : Fin 2048) :
    iblk m c 0 t (ix2 i k : S256x2048.Idx) = (m ((c.tc : Thread nD τ).loc main_arg0)) (ix2 ⟨t.val / 8 * 256 + i.val, by have := lt_N t; omega⟩ k) := by
  have ht := lt_N t
  rw [← V_main_arg0 m c]
  unfold iblk
  rw [show V m c (Pipeline.arrRef spec0 0) = V m c main_arg0 from rfl]
  generalize V m c main_arg0 = X
  blk_ext [idx t]

/-- The gain's block. -/
theorem blk_g (c : Dev nD) (t : Fin cfg0.N) (k : Fin 2048) :
    iblk m c 1 t (ix2 0 k : S1x2048.Idx) = (m ((c.tc : Thread nD τ).loc main_arg1)) (ix1 k) := by
  have ht := lt_N t
  have e : (V m c main_v2 : FVec Ideal S1x2048 .f32) (ix2 0 k) = (m ((c.tc : Thread nD τ).loc main_arg1)) (ix1 k) := by
    rw [v2]; exact gain_at _ k
  refine Eq.trans ?_ e
  unfold iblk
  rw [show V m c (Pipeline.arrRef spec0 1) = V m c main_v2 from rfl]
  generalize V m c main_v2 = X
  blk_ext [idx t]

/-- The weight's block. -/
theorem blk_w (c : Dev nD) (t : Fin cfg0.N) (k : Fin 2048) (x : Fin 512) :
    iblk m c 2 t (ix2 k x : S2048x512.Idx) = ord (fun j => (m ((c.tc : Thread nD τ).loc main_arg2)) (ix2 k j)) (fun j => (m ((c.tc : Thread nD τ).loc main_arg3)) (ix2 k j)) ⟨t.val % 8 * 512 + x.val, by omega⟩ := by
  have ht := lt_N t
  have e : (V m c main_v1 : FVec Ideal S2048x4096 .bf16) (ix2 k ⟨t.val % 8 * 512 + x.val, by omega⟩) = ord (fun j => (m ((c.tc : Thread nD τ).loc main_arg2)) (ix2 k j)) (fun j => (m ((c.tc : Thread nD τ).loc main_arg3)) (ix2 k j)) ⟨t.val % 8 * 512 + x.val, by omega⟩ := by
    rw [v1]; exact wF_at _ _ k _
  refine Eq.trans ?_ e
  unfold iblk
  rw [show V m c (Pipeline.arrRef spec0 2) = V m c main_v1 from rfl]
  generalize V m c main_v1 = X
  blk_ext [idx t]

/-- The scratch at a point: the point's rows, normalised. -/
def sc (c : Dev nD) (b : ℕ) (hb : b < 1) (i : Fin 256) (k : Fin 2048) : EReal :=
  nrm (fun k => (m ((c.tc : Thread nD τ).loc main_arg0) : FVec Ideal S256x2048 .f32) (ix2 ⟨b * 256 + i.val, by omega⟩ k))
    (fun k => (m ((c.tc : Thread nD τ).loc main_arg1) : FVec Ideal S2048 .f32) (ix1 k)) k

/-- The normalised rows of a point that fills the scratch. -/
theorem fill (c : Dev nD) (t : Fin cfg0.N) (i : Fin 256) (k : Fin 2048) :
    k0_pay1 (F := Ideal) (iblk m c 0 t) (iblk m c 1 t) (ix2 i k) = sc m c (t.val / 8) (by have := lt_N t; omega) i k := by
  rw [pay1_at]
  unfold sc
  simp only [blk_x, blk_g]

/-- After every point the scratch holds the rows of the point's row block, normalised. -/
theorem scratch (c : Dev nD) : ∀ (n : ℕ) (h : n < cfg0.N) (i : Fin 256) (k : Fin 2048),
    (outsAt0 m c n h).2 (ix2 i k) = sc m c (n / 8) (by have := lt_N ⟨n, h⟩; dsimp only at this; omega) i k := by
  intro n
  induction n with
  | zero =>
    intro h i k
    have e := outsAt0_A m c ⟨0, h⟩ rfl
    dsimp only at e
    rw [e]
    dsimp only
    frame_out
    exact fill m c ⟨0, h⟩ i k
  | succ n ih =>
    intro h i k
    by_cases h0 : (n + 1) % 8 = 0
    · have e := outsAt0_A m c ⟨n + 1, h⟩ h0
      dsimp only at e
      rw [e]
      dsimp only
      frame_out
      exact fill m c ⟨n + 1, h⟩ i k
    · have e := outsAt0_B m c ⟨n + 1, h⟩ h0
      dsimp only at e
      rw [e]
      have q : (n + 1) / 8 = n / 8 := by omega
      have u := ih (by omega) i k
      unfold sout0_B_0
      simp only [q]
      exact u

/-- What a point leaves in its result block. -/
theorem out_at (c : Dev nD) (t : Fin cfg0.N) (i : Fin 256) (x : Fin 512) :
    (outsAt0 m c t.val t.isLt).1 (ix2 i x) = ∑ k : Fin 2048, sc m c (t.val / 8) (by have := lt_N t; omega) i k
      * ord (fun j => (m ((c.tc : Thread nD τ).loc main_arg2)) (ix2 k j)) (fun j => (m ((c.tc : Thread nD τ).loc main_arg3)) (ix2 k j)) ⟨t.val % 8 * 512 + x.val, by omega⟩ := by
  by_cases h0 : t.val % 8 = 0
  · rw [outsAt0_A m c t h0]
    dsimp only
    frame_out
    try simp (disch := decide) only [↓View.readCov_skip, ↓View.readCov_fill]
    rw [pay2_at]
    simp only [fill, blk_w]
  · rw [outsAt0_B m c t h0]
    dsimp only
    frame_out
    rw [pay2_at]
    have u := fun k => scratch m c (t.val - 1) (Nat.lt_of_le_of_lt (Nat.sub_le _ _) t.isLt) i k
    have q : (t.val - 1) / 8 = t.val / 8 := by omega
    simp only [q] at u
    rw [Finset.sum_congr rfl fun k _ => by rw [congrFun ((Memref.isWhole_whole cc0_scratch0).read_unread _) _, u k, blk_w]]

/-- The kernel's result. -/
theorem final (c : Dev nD) : (dats m 0 c).arrAt 3 cfg0.N
    = G (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 3 _ (by decide +kernel) fun t hf y => ?_
  blk_simp
  rw [after0_3]
  have ht := lt_N t
  obtain ⟨i, x, rfl⟩ : ∃ (i : Fin 256) (x : Fin 512), y = ix2 i x := ⟨y 0, y 1, ValueIdx.eq_ix2 y⟩
  have e : (win0_3.blk t).view.emb (ix2 i x) = (ix2 ⟨t.val / 8 * 256 + i.val, by omega⟩ ⟨t.val % 8 * 512 + x.val, by omega⟩ : S256x4096.Idx) := by
    blk_ext [idx t]
  rw [e, out_at]
  refine (ord_sum _ (fun k j => (m ((c.tc : Thread nD τ).loc main_arg2) : FVec Ideal S2048x2048 .f32) (ix2 k j)) (fun k j => (m ((c.tc : Thread nD τ).loc main_arg3) : FVec Ideal S2048x2048 .f32) (ix2 k j)) _).symm.trans ?_
  rfl

end Cert.XattnKv
end
-- ==== Proof.XattnKvRef.lean ====
module

public import proofs.«01_k».proof.Proof.XattnKv
public import proofs.«01_k».proof.Proof.Gen.Reference9Ideal.Run
public import Idealize.ShloMosaic.Lib.Pipeline.ValueKit
public import Idealize.ShloMosaic.Lib.Pointwise

/-! The reference of the cross-attention's keys and values: its result, entry by entry. -/

@[expose] public section

set_option maxRecDepth 16384
noncomputable section
open Idealize.ShloMosaic Idealize.ShloMosaic.TcCoe Idealize.SL.Sem
open Idealize.ShloMosaic.Pipeline (Dat)
namespace Cert.XattnKvRef
open Cert.Reference9Ideal Cert.Reference9Ideal.Gen Cert.RowNorm Cert.XattnKv

/-- The rows normalised, in the reference's operations. -/
def nF (x : FVec Ideal S256x2048 .f32) (g : FVec Ideal S2048 .f32) : FVec Ideal S256x2048 .f32 :=
  mulf (mulf x (broadcastInDim S256x2048 ![0, 1] bcast_S256x1_S256x2048_0_1 (Host.rsqrt (addf (Host.divf (broadcastInDim S256x1 ![0] bcast_S256_S256x1_0
    (Host.reduceAdd (mulf x x) (constant S_ .f32 0x00000000#32) reducesTo_S256x2048_S256_d1 h_S_)) (broadcastInDim S256x1 ![] bcast_S_S256x1 (constant S_ .f32 0x45000000#32)))
    (broadcastInDim S256x1 ![] bcast_S_S256x1 (constant S_ .f32 0x358637BD#32))))))
    (broadcastInDim S256x2048 ![0, 1] bcast_S1x2048_S256x2048_0_1 (broadcastInDim S1x2048 ![1] bcast_S2048_S1x2048_1 g))

/-- An entry of the normalised rows. -/
theorem nF_at (x : FVec Ideal S256x2048 .f32) (g : FVec Ideal S2048 .f32) (r : Fin 256) (k : Fin 2048) :
    nF x g (ix2 r k) = nrm (fun k => x (ix2 r k)) (fun k => g (ix1 k)) k := by
  unfold nrm
  pointwise [nF]

/-- The keys' and the values' projections beside each other, in the reference's operations. -/
def pF (n : FVec Ideal S256x2048 .f32) (w w' : FVec Ideal S2048x2048 .f32) : FVec Ideal S256x4096 .bf16 :=
  truncf .bf16 (concatenate S256x4096 1 [⟨S256x2048, Host.dotGeneral dot_S256x2048_S2048x2048_S256x2048_1_0_0_1_n_n none n w⟩,
    ⟨S256x2048, Host.dotGeneral dot_S256x2048_S2048x2048_S256x2048_1_0_0_1_n_n none n w'⟩] concatenates_S256x2048_S256x2048_S256x4096_d1) bitsLt_bf16_f32

/-- An entry of the projections. -/
theorem pF_at (n : FVec Ideal S256x2048 .f32) (w w' : FVec Ideal S2048x2048 .f32) (r : Fin 256) (j : Fin 4096) :
    pF n w w' (ix2 r j) = ord (fun j => ∑ k : Fin 2048, n (ix2 r k) * w (ix2 k j)) (fun j => ∑ k : Fin 2048, n (ix2 r k) * w' (ix2 k j)) j := by
  unfold ord
  pointwise [pF]

/-- The reference's operations give the stated result. -/
theorem ref (x : FVec Ideal S256x2048 .f32) (g : FVec Ideal S2048 .f32) (w w' : FVec Ideal S2048x2048 .f32) : pF (nF x g) w w' = G x g w w' := by
  funext i
  obtain ⟨r, c, rfl⟩ : ∃ (r : Fin 256) (c : Fin 4096), i = ix2 r c := ⟨i 0, i 1, ValueIdx.eq_ix2 i⟩
  rw [pF_at]
  simp only [nF_at]
  rfl

end Cert.XattnKvRef
end
-- ==== Proof.CallsClaim.lean ====
module

public import proofs.«01_k».proof.Defs
public import proofs.«01_k».proof.Proof.InProjRef
public import proofs.«01_k».proof.Proof.MergeRef
public import proofs.«01_k».proof.Proof.OutProj
public import proofs.«01_k».proof.Proof.XattnQRef
public import proofs.«01_k».proof.Proof.PeerQRef
public import proofs.«01_k».proof.Proof.FinalNormRef
public import proofs.«01_k».proof.Proof.XattnRef
public import proofs.«01_k».proof.Proof.XattnKvRef
public import Idealize.ShloMosaic.Adequacy
public import Idealize.ShloMosaic.Init

/-! The other calls: each kernel and its reference end with the same array. -/

@[expose] public section

set_option maxRecDepth 16384
noncomputable section
open Idealize.ShloMosaic Idealize.ShloMosaic.TcCoe Idealize.SL.Sem
namespace Cert.CallsClaim

/-- The input projection's reference runs, leaves its arguments, and its counters read zero: it declares none. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The input projection: the kernel and the reference end with the same array. -/
theorem algebraic2 : Cert.algebraic_Kernel2Ideal_Reference2Ideal (hKernel2Ideal := Cert.Kernel2Ideal.Gen.facts) (hReference2Ideal := Cert.Reference2Ideal.Gen.facts) := fun m g m' g' _ hagree =>
  ⟨fun c => Cert.InProj.G (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    (θ_run Cert.Kernel2Ideal.defs _ _).mono (fun r h c => ⟨(h c).1.trans (Cert.InProj.final m c), (h c).2⟩) (Cert.Kernel2Ideal.Value.run_blocks (F := Ideal) m g),
    (θ_run Cert.Reference2Ideal.defs _ _).mono (fun r h c => ⟨(h c).1.trans (by
        obtain ⟨a0, a1, a2⟩ := hagree c
        refine ((Cert.InProjRef.res m' c).trans (Cert.InProjRef.ref _ _ _)).trans ?_
        rw [a0, a1, a2]), (h c).2⟩)
      (Cert.Reference2Ideal.Value.run (F := Ideal) m' g')⟩

/-- The merge's reference runs, leaves its arguments, and its counters read zero: it declares none. -/
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The merge: the kernel and the reference end with the same array. -/
theorem algebraic3 : Cert.algebraic_Kernel3Ideal_Reference3Ideal (hKernel3Ideal := Cert.Kernel3Ideal.Gen.facts) (hReference3Ideal := Cert.Reference3Ideal.Gen.facts) := fun m g m' g' _ hagree =>
  ⟨fun c => Cert.Merge.G (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)),
    (θ_run Cert.Kernel3Ideal.defs _ _).mono (fun r h c => ⟨(h c).1.trans (Cert.Merge.final m c), (h c).2⟩) (Cert.Kernel3Ideal.Value.run_blocks (F := Ideal) m g),
    (θ_run Cert.Reference3Ideal.defs _ _).mono (fun r h c => ⟨(h c).1.trans (by
        obtain ⟨a0, a1, a2, a3, a4⟩ := hagree c
        refine (Cert.MergeRef.ref _ _ _ _ _).trans ?_
        rw [a0, a1, a2, a3, a4]), (h c).2⟩)
      (Cert.Reference3Ideal.Value.run (F := Ideal) m' g')⟩

/-- The output projection's reference runs, leaves its arguments, and its counters read zero: it declares none. -/
theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The output projection: the kernel and the reference end with the same array. -/
theorem algebraic4 : Cert.algebraic_Kernel4Ideal_Reference4Ideal (hKernel4Ideal := Cert.Kernel4Ideal.Gen.facts) (hReference4Ideal := Cert.Reference4Ideal.Gen.facts) := fun m g m' g' _ hagree =>
  ⟨fun c => Cert.OutProj.G (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    (θ_run Cert.Kernel4Ideal.defs _ _).mono (fun r h c => ⟨(h c).1.trans (Cert.OutProj.final m c), (h c).2⟩) (Cert.Kernel4Ideal.Value.run_blocks (F := Ideal) m g),
    (θ_run Cert.Reference4Ideal.defs _ _).mono (fun r h c => ⟨(h c).1.trans (by
        obtain ⟨a0, a1, a2⟩ := hagree c
        refine (Cert.OutProj.ref _ _ _).trans ?_
        rw [a0, a1, a2]), (h c).2⟩)
      (Cert.Reference4Ideal.Value.run (F := Ideal) m' g')⟩

/-- The cross-attention's query projection's reference runs, leaves its arguments, and its counters read zero: it declares none. -/
theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The cross-attention's query projection: the kernel and the reference end with the same array. -/
theorem algebraic5 : Cert.algebraic_Kernel5Ideal_Reference5Ideal (hKernel5Ideal := Cert.Kernel5Ideal.Gen.facts) (hReference5Ideal := Cert.Reference5Ideal.Gen.facts) := fun m g m' g' _ hagree =>
  ⟨fun c => Cert.XattnQ.G (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
    (θ_run Cert.Kernel5Ideal.defs _ _).mono (fun r h c => ⟨(h c).1.trans (Cert.XattnQ.final m c), (h c).2⟩) (Cert.Kernel5Ideal.Value.run_blocks (F := Ideal) m g),
    (θ_run Cert.Reference5Ideal.defs _ _).mono (fun r h c => ⟨(h c).1.trans (by
        obtain ⟨a0, a1, a2⟩ := hagree c
        refine (Cert.XattnQRef.ref _ _ _).trans ?_
        rw [a0, a1, a2]), (h c).2⟩)
      (Cert.Reference5Ideal.Value.run (F := Ideal) m' g')⟩

/-- The PEER's query projection's reference runs, leaves its arguments, and its counters read zero: it declares none. -/
theorem frame_reference6 : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The PEER's query projection: the kernel and the reference end with the same arrays. -/
theorem algebraic6 : Cert.algebraic_Kernel6Ideal_Reference6Ideal (hKernel6Ideal := Cert.Kernel6Ideal.Gen.facts) (hReference6Ideal := Cert.Reference6Ideal.Gen.facts) := fun m g m' g' _ hagree =>
  ⟨fun c => Cert.PeerQ.G (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)), fun c => Cert.PeerQ.N (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    (θ_run Cert.Kernel6Ideal.defs _ _).mono (fun r h c => ⟨(h c).1.trans (Cert.PeerQ.final m c), (h c).2.1.trans (Cert.PeerQ.final_n m c), (h c).2.2⟩) (Cert.Kernel6Ideal.Value.run_blocks (F := Ideal) m g),
    (θ_run Cert.Reference6Ideal.defs _ _).mono (fun r h c => ⟨(h c).1.trans (by
        obtain ⟨a0, a1, a2⟩ := hagree c
        refine (Cert.PeerQRef.ref _ _ _).trans ?_
        rw [a0, a1, a2]), (h c).2.1.trans (by
        obtain ⟨a0, a1, a2⟩ := hagree c
        refine (Cert.PeerQRef.ref_n _ _).trans ?_
        rw [a0, a1]), (h c).2.2⟩)
      (Cert.Reference6Ideal.Value.run (F := Ideal) m' g')⟩

/-- The final normalisation's reference runs, leaves its arguments, and its counters read zero: it declares none. -/
theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- The final normalisation: the kernel and the reference end with the same array. -/
theorem algebraic7 : Cert.algebraic_Kernel7Ideal_Reference7Ideal (hKernel7Ideal := Cert.Kernel7Ideal.Gen.facts) (hReference7Ideal := Cert.Reference7Ideal.Gen.facts) := fun m g m' g' _ hagree =>
  ⟨fun c => Cert.FinalNorm.G (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)),
    (θ_run Cert.Kernel7Ideal.defs _ _).mono (fun r h c => ⟨(h c).1.trans (Cert.FinalNorm.final m c), (h c).2⟩) (Cert.Kernel7Ideal.Value.run_blocks (F := Ideal) m g),
    (θ_run Cert.Reference7Ideal.defs _ _).mono (fun r h c => ⟨(h c).1.trans (by
        obtain ⟨a0, a1, a2⟩ := hagree c
        refine (Cert.FinalNormRef.ref _ _ _).trans ?_
        rw [a0, a1, a2]), (h c).2⟩)
      (Cert.Reference7Ideal.Value.run (F := Ideal) m' g')⟩

/-- The cross-attention's reference runs, leaves its arguments, and its counters read zero: it declares none. -/
theorem frame_reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- The cross-attention: the kernel and the reference end with the same array. -/
theorem algebraic8 : Cert.algebraic_Kernel8Ideal_Reference8Ideal (hKernel8Ideal := Cert.Kernel8Ideal.Gen.facts) (hReference8Ideal := Cert.Reference8Ideal.Gen.facts) := fun m g m' g' _ hagree =>
  ⟨fun c => Cert.Xattn.G (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)),
    (θ_run Cert.Kernel8Ideal.defs _ _).mono (fun r h c => ⟨(h c).1.trans (Cert.Xattn.final m c), (h c).2⟩) (Cert.Kernel8Ideal.Value.run_blocks (F := Ideal) m g),
    (θ_run Cert.Reference8Ideal.defs _ _).mono (fun r h c => ⟨(h c).1.trans (by
        obtain ⟨a0, a1, a2⟩ := hagree c
        refine (Cert.XattnRef.ref _ _ _).trans ?_
        rw [a0, a1, a2]), (h c).2⟩)
      (Cert.Reference8Ideal.Value.run (F := Ideal) m' g')⟩

/-- The cross-attention keys' and values' reference runs, leaves its arguments, and its counters read zero: it declares none. -/
theorem frame_reference9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- The cross-attention's keys and values: the kernel and the reference end with the same array. -/
theorem algebraic9 : Cert.algebraic_Kernel9Ideal_Reference9Ideal (hKernel9Ideal := Cert.Kernel9Ideal.Gen.facts) (hReference9Ideal := Cert.Reference9Ideal.Gen.facts) := fun m g m' g' _ hagree =>
  ⟨fun c => Cert.XattnKv.G (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)),
    (θ_run Cert.Kernel9Ideal.defs _ _).mono (fun r h c => ⟨(h c).1.trans (Cert.XattnKv.final m c), (h c).2⟩) (Cert.Kernel9Ideal.Value.run_blocks (F := Ideal) m g),
    (θ_run Cert.Reference9Ideal.defs _ _).mono (fun r h c => ⟨(h c).1.trans (by
        obtain ⟨a0, a1, a2, a3⟩ := hagree c
        refine (Cert.XattnKvRef.ref _ _ _ _).trans ?_
        rw [a0, a1, a2, a3]), (h c).2⟩)
      (Cert.Reference9Ideal.Value.run (F := Ideal) m' g')⟩

/-- The cross-attention's named constant: one over the root of 512, in each head's scale. -/
theorem preserves8 : Cert.preserves_Kernel8_Kernel8Ideal :=
  IdealRules.named_const.statement Cert.Kernel8Ideal.κ "inv_sqrt_d" .f32 0x3D3504F3#32 (((Real.sqrt 512)⁻¹ : ℝ) : EReal) rfl

end Cert.CallsClaim
end
-- ==== Proof.lean ====
module

public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Defs
public import proofs.«01_k».proof.Proof.GlaClaim
public import proofs.«01_k».proof.Proof.CallsClaim

@[expose] public section

noncomputable section

namespace Cert.Proof

open Idealize.ShloMosaic Idealize.SL.Sem

/-- Every claim. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.GlaFinite.facts,
    fun m ρ _ => Cert.Kernel.Gen.frame m ρ, fun m ρ _ => Cert.KernelIdeal.Gen.frame m ρ, fun m ρ _ => Cert.KernelIdeal.Gen.frame m ρ,
    Cert.GlaClaim.frame_reference, fun m ρ _ => Cert.GlaClaim.frame_reference m ρ trivial, fun m ρ _ => Cert.Kernel2.Gen.frame m ρ,
    fun m ρ _ => Cert.Kernel2Ideal.Gen.frame m ρ, Cert.CallsClaim.frame_reference2, fun m ρ _ => Cert.Kernel3.Gen.frame m ρ,
    fun m ρ _ => Cert.Kernel3Ideal.Gen.frame m ρ, Cert.CallsClaim.frame_reference3, fun m ρ _ => Cert.Kernel4.Gen.frame m ρ,
    fun m ρ _ => Cert.Kernel4Ideal.Gen.frame m ρ, Cert.CallsClaim.frame_reference4, fun m ρ _ => Cert.Kernel5.Gen.frame m ρ,
    fun m ρ _ => Cert.Kernel5Ideal.Gen.frame m ρ, Cert.CallsClaim.frame_reference5, fun m ρ _ => Cert.Kernel6.Gen.frame m ρ,
    fun m ρ _ => Cert.Kernel6Ideal.Gen.frame m ρ, Cert.CallsClaim.frame_reference6, fun m ρ _ => Cert.Kernel7.Gen.frame m ρ,
    fun m ρ _ => Cert.Kernel7Ideal.Gen.frame m ρ, Cert.CallsClaim.frame_reference7,
    fun m ρ _ => Cert.Kernel8.Gen.frame m ρ, fun m ρ _ => Cert.Kernel8Ideal.Gen.frame m ρ, Cert.CallsClaim.frame_reference8,
    fun m ρ _ => Cert.Kernel9.Gen.frame m ρ, fun m ρ _ => Cert.Kernel9Ideal.Gen.frame m ρ, Cert.CallsClaim.frame_reference9,
    trivial, Cert.GlaClaim.algebraic, trivial, Cert.CallsClaim.algebraic2,
    trivial, Cert.CallsClaim.algebraic3, trivial, Cert.CallsClaim.algebraic4,
    trivial, Cert.CallsClaim.algebraic5, trivial, Cert.CallsClaim.algebraic6,
    trivial, Cert.CallsClaim.algebraic7, Cert.CallsClaim.preserves8, Cert.CallsClaim.algebraic8,
    trivial, Cert.CallsClaim.algebraic9⟩

end Cert.Proof

end
